-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite [hPre_finite : Cert.Pre_finite.Facts] (m : (ℓ : Loc Cert.FlashIdeal.nD Cert.FlashIdeal.τ Cert.FlashIdeal.sig) → Buf (Elt Ideal) ℓ) : Prop :=
  ∀ c : Dev Cert.FlashIdeal.nD,
    (Cert.Pre_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite [hPre_finite : Cert.Pre_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysRefIdeal (m : (ℓ : Loc Cert.KeysRefIdeal.nD Cert.KeysRefIdeal.τ Cert.KeysRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_finite [hFlashIdeal : Cert.FlashIdeal.Facts] [hPre_finite : Cert.Pre_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_FlashRefIdeal_pre_finite [hFlashRefIdeal : Cert.FlashRefIdeal.Facts] [hPre_finite : Cert.Pre_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2)
      ∧ r.2.mem ((c.tc : Thread Cert.Keys.nD Cert.Keys.τ).loc Cert.Keys.main_arg3) = m ((c.tc : Thread Cert.Keys.nD Cert.Keys.τ).loc Cert.Keys.main_arg3)
      ∧ r.2.mem ((c.tc : Thread Cert.Keys.nD Cert.Keys.τ).loc Cert.Keys.main_arg4) = m ((c.tc : Thread Cert.Keys.nD Cert.Keys.τ).loc Cert.Keys.main_arg4))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
      ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4))
      ∧ r.2.sem = fun _ => 0)

def quiescent_KeysRefIdeal [hKeysRefIdeal : Cert.KeysRefIdeal.Facts] : Prop :=
  ∀ (m : (ℓ : Loc Cert.KeysRefIdeal.nD Cert.KeysRefIdeal.τ Cert.KeysRefIdeal.sig) → Buf (Elt Ideal) ℓ) (g : Dev Cert.KeysRefIdeal.nD → PrngReg), Pre_KeysRefIdeal m →
    θ_run (Cert.KeysRefIdeal.defs (F := Ideal)) (onTc (τ := Cert.KeysRefIdeal.τ) (Cert.KeysRefIdeal.main (F := Ideal))) ⟨m, fun _ => 0, g⟩ (fun r => (∀ c : Dev Cert.KeysRefIdeal.nD,
      r.2.mem ((c.tc : Thread Cert.KeysRefIdeal.nD Cert.KeysRefIdeal.τ).loc Cert.KeysRefIdeal.main_arg0) = m ((c.tc : Thread Cert.KeysRefIdeal.nD Cert.KeysRefIdeal.τ).loc Cert.KeysRefIdeal.main_arg0)
      ∧ r.2.mem ((c.tc : Thread Cert.KeysRefIdeal.nD Cert.KeysRefIdeal.τ).loc Cert.KeysRefIdeal.main_arg1) = m ((c.tc : Thread Cert.KeysRefIdeal.nD Cert.KeysRefIdeal.τ).loc Cert.KeysRefIdeal.main_arg1)
      ∧ r.2.mem ((c.tc : Thread Cert.KeysRefIdeal.nD Cert.KeysRefIdeal.τ).loc Cert.KeysRefIdeal.main_arg2) = m ((c.tc : Thread Cert.KeysRefIdeal.nD Cert.KeysRefIdeal.τ).loc Cert.KeysRefIdeal.main_arg2)
      ∧ r.2.mem ((c.tc : Thread Cert.KeysRefIdeal.nD Cert.KeysRefIdeal.τ).loc Cert.KeysRefIdeal.main_arg3) = m ((c.tc : Thread Cert.KeysRefIdeal.nD Cert.KeysRefIdeal.τ).loc Cert.KeysRefIdeal.main_arg3)
      ∧ r.2.mem ((c.tc : Thread Cert.KeysRefIdeal.nD Cert.KeysRefIdeal.τ).loc Cert.KeysRefIdeal.main_arg4) = m ((c.tc : Thread Cert.KeysRefIdeal.nD Cert.KeysRefIdeal.τ).loc Cert.KeysRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def preserves_Flash_FlashIdeal : Prop :=
  IdealRules.named_const.Statement Cert.FlashIdeal.κ "mask" .f32 0xF149F2CA#32 ⊥
  ∧ IdealRules.named_const.Statement Cert.FlashIdeal.κ "scale" .f32 0x3DD105EC#32 (((Real.sqrt 96)⁻¹ : ℝ) : EReal)

def algebraic_FlashIdeal_FlashRefIdeal_pre_finite [hFlashIdeal : Cert.FlashIdeal.Facts] [hFlashRefIdeal : Cert.FlashRefIdeal.Facts] [hPre_finite : Cert.Pre_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v0)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v0) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v30) = v0 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v70) = v0 c
          ∧ r.2.mem ((c.tc : Thread Cert.MergeRefIdeal.nD Cert.MergeRefIdeal.τ).loc Cert.MergeRefIdeal.main_v82) = v1 c
          ∧ r.2.mem ((c.tc : Thread Cert.MergeRefIdeal.nD Cert.MergeRefIdeal.τ).loc Cert.MergeRefIdeal.main_v84) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Keys_KeysIdeal : Prop :=
  True

def algebraic_KeysIdeal_KeysRefIdeal [hKeysIdeal : Cert.KeysIdeal.Facts] [hKeysRefIdeal : Cert.KeysRefIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysRefIdeal.nD Cert.KeysRefIdeal.τ Cert.KeysRefIdeal.sig) → Buf (Elt Ideal) ℓ) (g' : Dev Cert.KeysRefIdeal.nD → PrngReg), Pre_KeysIdeal m →
    (∀ c : Dev Cert.KeysIdeal.nD,
      m' ((c.tc : Thread Cert.KeysRefIdeal.nD Cert.KeysRefIdeal.τ).loc Cert.KeysRefIdeal.main_arg0) = m ((c.tc : Thread Cert.KeysIdeal.nD Cert.KeysIdeal.τ).loc Cert.KeysIdeal.main_arg0)
      ∧ m' ((c.tc : Thread Cert.KeysRefIdeal.nD Cert.KeysRefIdeal.τ).loc Cert.KeysRefIdeal.main_arg1) = m ((c.tc : Thread Cert.KeysIdeal.nD Cert.KeysIdeal.τ).loc Cert.KeysIdeal.main_arg1)
      ∧ m' ((c.tc : Thread Cert.KeysRefIdeal.nD Cert.KeysRefIdeal.τ).loc Cert.KeysRefIdeal.main_arg2) = m ((c.tc : Thread Cert.KeysIdeal.nD Cert.KeysIdeal.τ).loc Cert.KeysIdeal.main_arg2)
      ∧ m' ((c.tc : Thread Cert.KeysRefIdeal.nD Cert.KeysRefIdeal.τ).loc Cert.KeysRefIdeal.main_arg3) = m ((c.tc : Thread Cert.KeysIdeal.nD Cert.KeysIdeal.τ).loc Cert.KeysIdeal.main_arg3)
      ∧ m' ((c.tc : Thread Cert.KeysRefIdeal.nD Cert.KeysRefIdeal.τ).loc Cert.KeysRefIdeal.main_arg4) = m ((c.tc : Thread Cert.KeysIdeal.nD Cert.KeysIdeal.τ).loc Cert.KeysIdeal.main_arg4)) →
    ∃ (v0 : (c : Dev Cert.KeysIdeal.nD) → Buf (Elt Ideal) ((c.tc : Thread Cert.KeysIdeal.nD Cert.KeysIdeal.τ).loc Cert.KeysIdeal.main_v8_0)) (v1 : (c : Dev Cert.KeysIdeal.nD) → Buf (Elt Ideal) ((c.tc : Thread Cert.KeysIdeal.nD Cert.KeysIdeal.τ).loc Cert.KeysIdeal.main_v8_1)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v8_0) = v0 c
          ∧ r.2.mem ((c.tc : Thread Cert.KeysIdeal.nD Cert.KeysIdeal.τ).loc Cert.KeysIdeal.main_v8_1) = v1 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
          ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
          ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4))
      ∧ θ_run (Cert.KeysRefIdeal.defs (F := Ideal)) (onTc (τ := Cert.KeysRefIdeal.τ) (Cert.KeysRefIdeal.main (F := Ideal))) ⟨m', fun _ => 0, g'⟩ (fun r => ∀ c : Dev Cert.KeysRefIdeal.nD,
          r.2.mem ((c.tc : Thread Cert.KeysRefIdeal.nD Cert.KeysRefIdeal.τ).loc Cert.KeysRefIdeal.main_v20) = v0 c
          ∧ r.2.mem ((c.tc : Thread Cert.KeysRefIdeal.nD Cert.KeysRefIdeal.τ).loc Cert.KeysRefIdeal.main_v22) = v1 c
          ∧ r.2.mem ((c.tc : Thread Cert.KeysRefIdeal.nD Cert.KeysRefIdeal.τ).loc Cert.KeysRefIdeal.main_arg0) = m' ((c.tc : Thread Cert.KeysRefIdeal.nD Cert.KeysRefIdeal.τ).loc Cert.KeysRefIdeal.main_arg0)
          ∧ r.2.mem ((c.tc : Thread Cert.KeysRefIdeal.nD Cert.KeysRefIdeal.τ).loc Cert.KeysRefIdeal.main_arg1) = m' ((c.tc : Thread Cert.KeysRefIdeal.nD Cert.KeysRefIdeal.τ).loc Cert.KeysRefIdeal.main_arg1)
          ∧ r.2.mem ((c.tc : Thread Cert.KeysRefIdeal.nD Cert.KeysRefIdeal.τ).loc Cert.KeysRefIdeal.main_arg2) = m' ((c.tc : Thread Cert.KeysRefIdeal.nD Cert.KeysRefIdeal.τ).loc Cert.KeysRefIdeal.main_arg2)
          ∧ r.2.mem ((c.tc : Thread Cert.KeysRefIdeal.nD Cert.KeysRefIdeal.τ).loc Cert.KeysRefIdeal.main_arg3) = m' ((c.tc : Thread Cert.KeysRefIdeal.nD Cert.KeysRefIdeal.τ).loc Cert.KeysRefIdeal.main_arg3)
          ∧ r.2.mem ((c.tc : Thread Cert.KeysRefIdeal.nD Cert.KeysRefIdeal.τ).loc Cert.KeysRefIdeal.main_arg4) = m' ((c.tc : Thread Cert.KeysRefIdeal.nD Cert.KeysRefIdeal.τ).loc Cert.KeysRefIdeal.main_arg4))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)) →
    ∃ (v0 : (c : Dev Cert.PrepIdeal.nD) → Buf (Elt Ideal) ((c.tc : Thread Cert.PrepIdeal.nD Cert.PrepIdeal.τ).loc Cert.PrepIdeal.main_v31_0)) (v1 : (c : Dev Cert.PrepIdeal.nD) → Buf (Elt Ideal) ((c.tc : Thread Cert.PrepIdeal.nD Cert.PrepIdeal.τ).loc Cert.PrepIdeal.main_v31_1)) (v2 : (c : Dev Cert.PrepIdeal.nD) → Buf (Elt Ideal) ((c.tc : Thread Cert.PrepIdeal.nD Cert.PrepIdeal.τ).loc Cert.PrepIdeal.main_v31_2)) (v3 : (c : Dev Cert.PrepIdeal.nD) → Buf (Elt Ideal) ((c.tc : Thread Cert.PrepIdeal.nD Cert.PrepIdeal.τ).loc Cert.PrepIdeal.main_v31_3)) (v4 : (c : Dev Cert.PrepIdeal.nD) → Buf (Elt Ideal) ((c.tc : Thread Cert.PrepIdeal.nD Cert.PrepIdeal.τ).loc Cert.PrepIdeal.main_v31_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v31_0) = v0 c
          ∧ r.2.mem ((c.tc : Thread Cert.PrepIdeal.nD Cert.PrepIdeal.τ).loc Cert.PrepIdeal.main_v31_1) = v1 c
          ∧ r.2.mem ((c.tc : Thread Cert.PrepIdeal.nD Cert.PrepIdeal.τ).loc Cert.PrepIdeal.main_v31_2) = v2 c
          ∧ r.2.mem ((c.tc : Thread Cert.PrepIdeal.nD Cert.PrepIdeal.τ).loc Cert.PrepIdeal.main_v31_3) = v3 c
          ∧ r.2.mem ((c.tc : Thread Cert.PrepIdeal.nD Cert.PrepIdeal.τ).loc Cert.PrepIdeal.main_v31_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v29) = v0 c
          ∧ r.2.mem ((c.tc : Thread Cert.PrepRefIdeal.nD Cert.PrepRefIdeal.τ).loc Cert.PrepRefIdeal.main_v145) = v1 c
          ∧ r.2.mem ((c.tc : Thread Cert.PrepRefIdeal.nD Cert.PrepRefIdeal.τ).loc Cert.PrepRefIdeal.main_v159) = v2 c
          ∧ r.2.mem ((c.tc : Thread Cert.PrepRefIdeal.nD Cert.PrepRefIdeal.τ).loc Cert.PrepRefIdeal.main_v143) = v3 c
          ∧ r.2.mem ((c.tc : Thread Cert.PrepRefIdeal.nD Cert.PrepRefIdeal.τ).loc Cert.PrepRefIdeal.main_v161) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7))

def Claim : Prop :=
  ∃ (hFlash : Cert.Flash.Facts) (hFlashIdeal : Cert.FlashIdeal.Facts) (hFlashRefIdeal : Cert.FlashRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hKeys : Cert.Keys.Facts) (hKeysIdeal : Cert.KeysIdeal.Facts) (hKeysRefIdeal : Cert.KeysRefIdeal.Facts) (hPrep : Cert.Prep.Facts) (hPrepIdeal : Cert.PrepIdeal.Facts) (hPrepRefIdeal : Cert.PrepRefIdeal.Facts) (hPre_finite : Cert.Pre_finite.Facts),
    quiescent_Flash (hFlash := hFlash)
    ∧ quiescent_FlashIdeal (hFlashIdeal := hFlashIdeal)
    ∧ quiescent_FlashIdeal_pre_finite (hFlashIdeal := hFlashIdeal) (hPre_finite := hPre_finite)
    ∧ quiescent_FlashRefIdeal (hFlashRefIdeal := hFlashRefIdeal)
    ∧ quiescent_FlashRefIdeal_pre_finite (hFlashRefIdeal := hFlashRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Keys (hKeys := hKeys)
    ∧ quiescent_KeysIdeal (hKeysIdeal := hKeysIdeal)
    ∧ quiescent_KeysRefIdeal (hKeysRefIdeal := hKeysRefIdeal)
    ∧ quiescent_Prep (hPrep := hPrep)
    ∧ quiescent_PrepIdeal (hPrepIdeal := hPrepIdeal)
    ∧ quiescent_PrepRefIdeal (hPrepRefIdeal := hPrepRefIdeal)
    ∧ preserves_Flash_FlashIdeal
    ∧ algebraic_FlashIdeal_FlashRefIdeal_pre_finite (hFlashIdeal := hFlashIdeal) (hFlashRefIdeal := hFlashRefIdeal) (hPre_finite := hPre_finite)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Keys_KeysIdeal
    ∧ algebraic_KeysIdeal_KeysRefIdeal (hKeysIdeal := hKeysIdeal) (hKeysRefIdeal := hKeysRefIdeal)
    ∧ preserves_Prep_PrepIdeal
    ∧ algebraic_PrepIdeal_PrepRefIdeal (hPrepIdeal := hPrepIdeal) (hPrepRefIdeal := hPrepRefIdeal)
-- ==== Pre_finite.lean ====
abbrev S32768x1024 : Shape := ⟨2, ![32768, 1024]⟩
abbrev S32768x512 : Shape := ⟨2, ![32768, 512]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_

variable [Facts]

def fn {F : FTy → Type} [FloatOps F] (main_arg0 : FVec F S32768x1024 .bf16) (main_arg1 : FVec F S32768x1024 .bf16) (main_arg2 : FVec F S32768x512 .bf16) : IVec S_ 1 :=
  let main_v0 : FVec F S32768x1024 .bf16 := Host.absf main_arg0
  let main_cst : FVec F S_ .bf16 := constant S_ .bf16 0x7F80#16
  let main_v1 : FVec F S32768x1024 .bf16 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_c_0 : IVec S_ 1 := constantI S_ 1 1#1
  let main_v4 : IVec S_ 1 := andi main_c_0 main_v3
  let main_v5 : FVec F S32768x1024 .bf16 := Host.absf main_arg1
  let main_cst_1 : FVec F S_ .bf16 := constant S_ .bf16 0x7F80#16
  let main_v6 : FVec F S32768x1024 .bf16 := broadcastInDim S32768x1024 ![] bcast_S_S32768x1024 main_cst_1
  let main_v7 : IVec S32768x1024 1 := cmpf .olt main_v5 main_v6
  let main_c_2 : IVec S_ 1 := constantI S_ 1 1#1
  let main_v8 : IVec S_ 1 := (fun x v => Host.reduce IntOp.andi x v reducesTo_S32768x1024_S_d0_1 h_S_) main_v7 main_c_2
  let main_v9 : IVec S_ 1 := andi main_v4 main_v8
  let main_v10 : FVec F S32768x512 .bf16 := Host.absf main_arg2
  let main_cst_3 : FVec F S_ .bf16 := constant S_ .bf16 0x7F80#16
  let main_v11 : FVec F S32768x512 .bf16 := broadcastInDim S32768x512 ![] bcast_S_S32768x512 main_cst_3
  let main_v12 : IVec S32768x512 1 := cmpf .olt main_v10 main_v11
  let main_c_4 : IVec S_ 1 := constantI S_ 1 1#1
  let main_v13 : IVec S_ 1 := (fun x v => Host.reduce IntOp.andi x v reducesTo_S32768x512_S_d0_1 h_S_) main_v12 main_c_4
  let main_v14 : IVec S_ 1 := andi main_v9 main_v13
  main_v14
-- ==== Flash.lean ====
abbrev S32768x1024 : Shape := ⟨2, ![32768, 1024]⟩
abbrev S32768x512 : Shape := ⟨2, ![32768, 512]⟩
abbrev S512x256 : Shape := ⟨2, ![512, 256]⟩
abbrev S512x128 : Shape := ⟨2, ![512, 128]⟩
abbrev S2x512x1 : Shape := ⟨3, ![2, 512, 1]⟩
abbrev S2x512x64 : Shape := ⟨3, ![2, 512, 64]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x512x64 : Shape := ⟨3, ![1, 512, 64]⟩
abbrev S512x64 : Shape := ⟨2, ![512, 64]⟩

abbrev nBuf : Space → Nat
  | .hbm => 4
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S32768x512, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S2x512x1, .f32⟩
  | .local _ .vmem, ⟨9, _⟩ => ⟨S2x512x1, .f32⟩
  | .local _ .vmem, ⟨10, _⟩ => ⟨S2x512x64, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 4, 16, 16], ![false, false, false, false]⟩

def k0_cond3 (i : grid0.Coords) : BitVec 1 :=
  let arg3 : BitVec 32 := BitVec.ofNat 32 (i 3).val
  let c15_i32 : BitVec 32 := 15#32
  let v6 : BitVec 1 := Scalar.cmpi .eq arg3 c15_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.minsi arg2 arg3
  let v2 : BitVec 32 := Scalar.addi v0 v1
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.minsi arg2 arg3
  let v2 : BitVec 32 := Scalar.addi v0 v1
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== FlashIdeal.lean ====
variable {F : FTy → Type} [FloatOps F] [Named F]
def κ : String → Option EReal := fun
  | "mask" => some ⊥
  | "scale" => some (((Real.sqrt 96)⁻¹ : ℝ) : EReal)
  | _ => none
-- ==== FlashRefIdeal.lean ====
abbrev S32768x1024 : Shape := ⟨2, ![32768, 1024]⟩
abbrev S32768x512 : Shape := ⟨2, ![32768, 512]⟩
abbrev S4x8192x8x128 : Shape := ⟨4, ![4, 8192, 8, 128]⟩
abbrev S4x8192x8x64 : Shape := ⟨4, ![4, 8192, 8, 64]⟩
abbrev S8192 : Shape := ⟨1, ![8192]⟩
abbrev S4x8x8192x8192 : Shape := ⟨4, ![4, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S4x8192x8x128, .bf16⟩
  | .hbm, ⟨4, _⟩ => ⟨S4x8192x8x128, .bf16⟩
  | .hbm, ⟨5, _⟩ => ⟨S4x8192x8x64, .bf16⟩
  | .hbm, ⟨6, _⟩ => ⟨S8192, .i32⟩
  | .hbm, ⟨7, _⟩ => ⟨S4x8x8192x8192, .f32⟩
  | .hbm, ⟨8, _⟩ => ⟨S_, .f32⟩
  | .hbm, ⟨9, _⟩ => ⟨S_, .f32⟩
  | .hbm, ⟨10, _⟩ => ⟨S4x8x8192x8192, .f32⟩
  | .hbm, ⟨11, _⟩ => ⟨S4x8x8192x8192, .f32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x1x8192x8192, .i1⟩
  | .hbm, ⟨18, _⟩ => ⟨S_, .f32⟩
  | .hbm, ⟨19, _⟩ => ⟨S_, .f32⟩
  | .hbm, ⟨20, _⟩ => ⟨S4x8x8192x8192, .i1⟩
  | .hbm, ⟨21, _⟩ => ⟨S4x8x8192x8192, .f32⟩
  | .hbm, ⟨22, _⟩ => ⟨S4x8x8192x8192, .f32⟩
  | .hbm, ⟨23, _⟩ => ⟨S_, .f32⟩
  | .hbm, ⟨24, _⟩ => ⟨S4x8x8192, .f32⟩
  | .hbm, ⟨25, _⟩ => ⟨S_, .f32⟩
  | .hbm, ⟨26, _⟩ => ⟨S4x8x8192, .f32⟩
  | .hbm, ⟨27, _⟩ => ⟨S4x8x8192, .f32⟩
  | .hbm, ⟨28, _⟩ => ⟨S4x8x8192x1, .f32⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S_, .f32⟩
  | .hbm, ⟨33, _⟩ => ⟨S4x8x8192, .f32⟩
  | .hbm, ⟨34, _⟩ => ⟨S4x8x8192x1, .f32⟩
  | .hbm, ⟨35, _⟩ => ⟨S4x8x8192x8192, .f32⟩
  | .hbm, ⟨36, _⟩ => ⟨S4x8x8192x8192, .f32⟩
  | .hbm, ⟨37, _⟩ => ⟨S4x8x8192x8192, .bf16⟩
  | .hbm, ⟨38, _⟩ => ⟨S4x8x64x8192, .f32⟩
  | .hbm, ⟨39, _⟩ => ⟨S4x8192x8x64, .f32⟩
  | .hbm, ⟨40, _⟩ => ⟨S4x8192x8x64, .bf16⟩
  | .hbm, ⟨41, _⟩ => ⟨S32768x512, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proj.lean ====
abbrev S32768x1024 : Shape := ⟨2, ![32768, 1024]⟩
abbrev S1x1024 : Shape := ⟨2, ![1, 1024]⟩
abbrev S1024x6528 : Shape := ⟨2, ![1024, 6528]⟩
abbrev S32768x6528 : Shape := ⟨2, ![32768, 6528]⟩
abbrev S512x1024 : Shape := ⟨2, ![512, 1024]⟩
abbrev S1024x2176 : Shape := ⟨2, ![1024, 2176]⟩
abbrev S512x2176 : Shape := ⟨2, ![512, 2176]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x6528, .bf16⟩
  | .hbm, ⟨3, _⟩ => ⟨S32768x6528, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1024x2176, .bf16⟩
  | .local _ .vmem, ⟨5, _⟩ => ⟨S512x2176, .f32⟩
  | .local _ .vmem, ⟨6, _⟩ => ⟨S512x2176, .f32⟩
  | .local _ .vmem, ⟨7, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S32768x1024 : Shape := ⟨2, ![32768, 1024]⟩
abbrev S1x1024 : Shape := ⟨2, ![1, 1024]⟩
abbrev S1024x6528 : Shape := ⟨2, ![1024, 6528]⟩
abbrev S_ : Shape := ⟨0, ![]⟩
abbrev S32768 : Shape := ⟨1, ![32768]⟩
abbrev S32768x1 : Shape := ⟨2, ![32768, 1]⟩
abbrev S32768x6528 : Shape := ⟨2, ![32768, 6528]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x6528, .bf16⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1024x6528, .f32⟩
  | .hbm, ⟨19, _⟩ => ⟨S32768x6528, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S32768x6528 : Shape := ⟨2, ![32768, 6528]⟩
abbrev S1x512 : Shape := ⟨2, ![1, 512]⟩
abbrev S512x512 : Shape := ⟨2, ![512, 512]⟩
abbrev S3x512x1024 : Shape := ⟨3, ![3, 512, 1024]⟩
abbrev S1024x1024 : Shape := ⟨2, ![1024, 1024]⟩
abbrev S1x1024 : Shape := ⟨2, ![1, 1024]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩

abbrev nBuf : Space → Nat
  | .hbm => 15
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S32768x6528, .f32⟩
  | .hbm, ⟨4, _⟩ => ⟨S32768x512, .bf16⟩
  | .hbm, ⟨5, _⟩ => ⟨S1x512, .f32⟩
  | .hbm, ⟨6, _⟩ => ⟨S512x512, .bf16⟩
  | .hbm, ⟨7, _⟩ => ⟨S1x512, .f32⟩
  | .hbm, ⟨8, _⟩ => ⟨S3x512x1024, .bf16⟩
  | .hbm, ⟨9, _⟩ => ⟨S1024x1024, .bf16⟩
  | .hbm, ⟨10, _⟩ => ⟨S1x1024, .f32⟩
  | .hbm, ⟨11, _⟩ => ⟨S1024x1024, .bf16⟩
  | .hbm, ⟨12, _⟩ => ⟨S32768x1024, .f32⟩
  | .hbm, ⟨13, _⟩ => ⟨S32768x1024, .f32⟩
  | .hbm, ⟨14, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x512, .f32⟩
  | .local _ .vmem, ⟨17, _⟩ => ⟨S512x512, .bf16⟩
  | .local _ .vmem, ⟨18, _⟩ => ⟨S1x512, .f32⟩
  | .local _ .vmem, ⟨19, _⟩ => ⟨S3x512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x1024, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeRefIdeal.lean ====
abbrev S32768x1024 : Shape := ⟨2, ![32768, 1024]⟩
abbrev S32768x512 : Shape := ⟨2, ![32768, 512]⟩
abbrev S32768x6528 : Shape := ⟨2, ![32768, 6528]⟩
abbrev S1x512 : Shape := ⟨2, ![1, 512]⟩
abbrev S512x512 : Shape := ⟨2, ![512, 512]⟩
abbrev S3x512x1024 : Shape := ⟨3, ![3, 512, 1024]⟩
abbrev S1024x1024 : Shape := ⟨2, ![1024, 1024]⟩
abbrev S1x1024 : Shape := ⟨2, ![1, 1024]⟩
abbrev S_ : Shape := ⟨0, ![]⟩
abbrev S1x512x1024 : Shape := ⟨3, ![1, 512, 1024]⟩
abbrev S512x1024 : Shape := ⟨2, ![512, 1024]⟩
abbrev S32768 : Shape := ⟨1, ![32768]⟩
abbrev S32768x1 : Shape := ⟨2, ![32768, 1]⟩

abbrev nBuf : Space → Nat
  | .hbm => 112
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S32768x6528, .f32⟩
  | .hbm, ⟨4, _⟩ => ⟨S32768x512, .bf16⟩
  | .hbm, ⟨5, _⟩ => ⟨S1x512, .f32⟩
  | .hbm, ⟨6, _⟩ => ⟨S512x512, .bf16⟩
  | .hbm, ⟨7, _⟩ => ⟨S1x512, .f32⟩
  | .hbm, ⟨8, _⟩ => ⟨S3x512x1024, .bf16⟩
  | .hbm, ⟨9, _⟩ => ⟨S1024x1024, .bf16⟩
  | .hbm, ⟨10, _⟩ => ⟨S1x1024, .f32⟩
  | .hbm, ⟨11, _⟩ => ⟨S1024x1024, .bf16⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S_, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S_, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S512x512, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S_, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x512, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S1x512x1024, .bf16⟩
  | .hbm, ⟨58, _⟩ => ⟨S512x1024, .bf16⟩
  | .hbm, ⟨59, _⟩ => ⟨S512x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768x1024, .f32⟩
  | .hbm, ⟨70, _⟩ => ⟨S32768x1024, .f32⟩
  | .hbm, ⟨71, _⟩ => ⟨S1x512x1024, .bf16⟩
  | .hbm, ⟨72, _⟩ => ⟨S512x1024, .bf16⟩
  | .hbm, ⟨73, _⟩ => ⟨S512x1024, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S32768x1024, .f32⟩
  | .hbm, ⟨81, _⟩ => ⟨S32768x1024, .f32⟩
  | .hbm, ⟨82, _⟩ => ⟨S_, .f32⟩
  | .hbm, ⟨83, _⟩ => ⟨S32768x1024, .f32⟩
  | .hbm, ⟨84, _⟩ => ⟨S32768x1024, .f32⟩
  | .hbm, ⟨85, _⟩ => ⟨S1x512x1024, .bf16⟩
  | .hbm, ⟨86, _⟩ => ⟨S512x1024, .bf16⟩
  | .hbm, ⟨87, _⟩ => ⟨S512x1024, .f32⟩
  | .hbm, ⟨88, _⟩ => ⟨S32768x1024, .f32⟩
  | .hbm, ⟨89, _⟩ => ⟨S32768x1024, .f32⟩
  | .hbm, ⟨90, _⟩ => ⟨S32768x1024, .f32⟩
  | .hbm, ⟨91, _⟩ => ⟨S32768x1024, .f32⟩
  | .hbm, ⟨92, _⟩ => ⟨S1024x1024, .f32⟩
  | .hbm, ⟨93, _⟩ => ⟨S32768x1024, .f32⟩
  | .hbm, ⟨94, _⟩ => ⟨S32768x1024, .f32⟩
  | .hbm, ⟨95, _⟩ => ⟨S32768x1024, .f32⟩
  | .hbm, ⟨96, _⟩ => ⟨S_, .f32⟩
  | .hbm, ⟨97, _⟩ => ⟨S32768, .f32⟩
  | .hbm, ⟨98, _⟩ => ⟨S32768x1, .f32⟩
  | .hbm, ⟨99, _⟩ => ⟨S_, .f32⟩
  | .hbm, ⟨100, _⟩ => ⟨S32768x1, .f32⟩
  | .hbm, ⟨101, _⟩ => ⟨S32768x1, .f32⟩
  | .hbm, ⟨102, _⟩ => ⟨S_, .f32⟩
  | .hbm, ⟨103, _⟩ => ⟨S32768x1, .f32⟩
  | .hbm, ⟨104, _⟩ => ⟨S32768x1, .f32⟩
  | .hbm, ⟨105, _⟩ => ⟨S32768x1, .f32⟩
  | .hbm, ⟨106, _⟩ => ⟨S32768x1024, .f32⟩
  | .hbm, ⟨107, _⟩ => ⟨S32768x1024, .f32⟩
  | .hbm, ⟨108, _⟩ => ⟨S32768x1024, .f32⟩
  | .hbm, ⟨109, _⟩ => ⟨S32768x1024, .f32⟩
  | .hbm, ⟨110, _⟩ => ⟨S1024x1024, .f32⟩
  | .hbm, ⟨111, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]
-- ==== Keys.lean ====
abbrev S32768x256 : Shape := ⟨2, ![32768, 256]⟩
abbrev S32768x32 : Shape := ⟨2, ![32768, 32]⟩
abbrev S256x8x64 : Shape := ⟨3, ![256, 8, 64]⟩
abbrev S64 : Shape := ⟨1, ![64]⟩
abbrev S_ : Shape := ⟨0, ![]⟩
abbrev S32768x128 : Shape := ⟨2, ![32768, 128]⟩
abbrev S256x8x128 : Shape := ⟨3, ![256, 8, 128]⟩
abbrev S256x1024 : Shape := ⟨2, ![256, 1024]⟩
abbrev S256x512 : Shape := ⟨2, ![256, 512]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S512x256 : Shape := ⟨2, ![512, 256]⟩
abbrev S512x128 : Shape := ⟨2, ![512, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 11
  | .smem => 0
  | _ => 0

abbrev bufTy : (tb : Table) → Fin (tcTables nBuf tb) → BufTy
  | .hbm, ⟨0, _⟩ => ⟨S32768x256, .f32⟩
  | .hbm, ⟨1, _⟩ => ⟨S32768x32, .f32⟩
  | .hbm, ⟨2, _⟩ => ⟨S256x8x64, .f32⟩
  | .hbm, ⟨3, _⟩ => ⟨S256x8x64, .f32⟩
  | .hbm, ⟨4, _⟩ => ⟨S64, .f32⟩
  | .hbm, ⟨5, _⟩ => ⟨S_, .i32⟩
  | .hbm, ⟨6, _⟩ => ⟨S_, .f32⟩
  | .hbm, ⟨7, _⟩ => ⟨S32768x128, .f32⟩
  | .hbm, ⟨8, _⟩ => ⟨S_, .i32⟩
  | .hbm, ⟨9, _⟩ => ⟨S_, .f32⟩
  | .hbm, ⟨10, _⟩ => ⟨S256x8x128, .f32⟩
  | .hbm, ⟨11, _⟩ => ⟨S256x1024, .f32⟩
  | .hbm, ⟨12, _⟩ => ⟨S256x1024, .bf16⟩
  | .hbm, ⟨13, _⟩ => ⟨S256x512, .f32⟩
  | .hbm, ⟨14, _⟩ => ⟨S256x512, .bf16⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S32768x1024, .bf16⟩
  | .hbm, ⟨20, _⟩ => ⟨S32768x512, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S256x1024, .bf16⟩
  | .local _ .vmem, ⟨5, _⟩ => ⟨S256x512, .bf16⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S512x512, .bf16⟩
  | .local _ .vmem, ⟨10, _⟩ => ⟨S512x512, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KeysRefIdeal.lean ====
abbrev S32768x256 : Shape := ⟨2, ![32768, 256]⟩
abbrev S32768x32 : Shape := ⟨2, ![32768, 32]⟩
abbrev S256x8x64 : Shape := ⟨3, ![256, 8, 64]⟩
abbrev S64 : Shape := ⟨1, ![64]⟩
abbrev S32768x8x64 : Shape := ⟨3, ![32768, 8, 64]⟩
abbrev S_ : Shape := ⟨0, ![]⟩
abbrev S32768x8 : Shape := ⟨2, ![32768, 8]⟩
abbrev S32768x8x1 : Shape := ⟨3, ![32768, 8, 1]⟩
abbrev S1x1x64 : Shape := ⟨3, ![1, 1, 64]⟩
abbrev S32768x1x32 : Shape := ⟨3, ![32768, 1, 32]⟩
abbrev S32768x8x32 : Shape := ⟨3, ![32768, 8, 32]⟩
abbrev S32768x8x128 : Shape := ⟨3, ![32768, 8, 128]⟩
abbrev S32768x1024 : Shape := ⟨2, ![32768, 1024]⟩
abbrev S32768x512 : Shape := ⟨2, ![32768, 512]⟩

abbrev nBuf : Space → Nat
  | .hbm => 32
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x32, .f32⟩
  | .hbm, ⟨2, _⟩ => ⟨S256x8x64, .f32⟩
  | .hbm, ⟨3, _⟩ => ⟨S256x8x64, .f32⟩
  | .hbm, ⟨4, _⟩ => ⟨S64, .f32⟩
  | .hbm, ⟨5, _⟩ => ⟨S32768x8x64, .f32⟩
  | .hbm, ⟨6, _⟩ => ⟨S32768x8x64, .f32⟩
  | .hbm, ⟨7, _⟩ => ⟨S_, .f32⟩
  | .hbm, ⟨8, _⟩ => ⟨S32768x8, .f32⟩
  | .hbm, ⟨9, _⟩ => ⟨S32768x8x1, .f32⟩
  | .hbm, ⟨10, _⟩ => ⟨S_, .f32⟩
  | .hbm, ⟨11, _⟩ => ⟨S32768x8x1, .f32⟩
  | .hbm, ⟨12, _⟩ => ⟨S32768x8x1, .f32⟩
  | .hbm, ⟨13, _⟩ => ⟨S_, .f32⟩
  | .hbm, ⟨14, _⟩ => ⟨S32768x8x1, .f32⟩
  | .hbm, ⟨15, _⟩ => ⟨S32768x8x1, .f32⟩
  | .hbm, ⟨16, _⟩ => ⟨S32768x8x1, .f32⟩
  | .hbm, ⟨17, _⟩ => ⟨S32768x8x64, .f32⟩
  | .hbm, ⟨18, _⟩ => ⟨S32768x8x64, .f32⟩
  | .hbm, ⟨19, _⟩ => ⟨S1x1x64, .f32⟩
  | .hbm, ⟨20, _⟩ => ⟨S32768x8x64, .f32⟩
  | .hbm, ⟨21, _⟩ => ⟨S32768x8x64, .f32⟩
  | .hbm, ⟨22, _⟩ => ⟨S32768x8x64, .f32⟩
  | .hbm, ⟨23, _⟩ => ⟨S32768x1x32, .f32⟩
  | .hbm, ⟨24, _⟩ => ⟨S32768x8x32, .f32⟩
  | .hbm, ⟨25, _⟩ => ⟨S_, .f32⟩
  | .hbm, ⟨26, _⟩ => ⟨S32768x8x32, .f32⟩
  | .hbm, ⟨27, _⟩ => ⟨S32768x8x128, .f32⟩
  | .hbm, ⟨28, _⟩ => ⟨S32768x1024, .f32⟩
  | .hbm, ⟨29, _⟩ => ⟨S32768x1024, .bf16⟩
  | .hbm, ⟨30, _⟩ => ⟨S32768x512, .f32⟩
  | .hbm, ⟨31, _⟩ => ⟨S32768x512, .bf16⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Prep.lean ====
abbrev S32768x6400 : Shape := ⟨2, ![32768, 6400]⟩
abbrev S32768x32 : Shape := ⟨2, ![32768, 32]⟩
abbrev S8192 : Shape := ⟨1, ![8192]⟩
abbrev S3x512 : Shape := ⟨2, ![3, 512]⟩
abbrev S64 : Shape := ⟨1, ![64]⟩
abbrev S32 : Shape := ⟨1, ![32]⟩
abbrev S256 : Shape := ⟨1, ![256]⟩
abbrev S_ : Shape := ⟨0, ![]⟩
abbrev S32768x128 : Shape := ⟨2, ![32768, 128]⟩
abbrev S32768x6528 : Shape := ⟨2, ![32768, 6528]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x32 : Shape := ⟨2, ![8192, 32]⟩
abbrev S8192x128 : Shape := ⟨2, ![8192, 128]⟩
abbrev S96 : Shape := ⟨1, ![96]⟩
abbrev S128 : Shape := ⟨1, ![128]⟩
abbrev S1x128 : Shape := ⟨2, ![1, 128]⟩
abbrev S1x256 : Shape := ⟨2, ![1, 256]⟩
abbrev S32768x512 : Shape := ⟨2, ![32768, 512]⟩
abbrev S32768x1024 : Shape := ⟨2, ![32768, 1024]⟩
abbrev S32768x256 : Shape := ⟨2, ![32768, 256]⟩
abbrev S64x8x512 : Shape := ⟨3, ![64, 8, 512]⟩
abbrev S512x512 : Shape := ⟨2, ![512, 512]⟩
abbrev S512x1024 : Shape := ⟨2, ![512, 1024]⟩
abbrev S512x256 : Shape := ⟨2, ![512, 256]⟩
abbrev S512x128 : Shape := ⟨2, ![512, 128]⟩
abbrev S8x512 : Shape := ⟨2, ![8, 512]⟩
abbrev S1x8x512 : Shape := ⟨3, ![1, 8, 512]⟩
abbrev S512x1 : Shape := ⟨2, ![512, 1]⟩
abbrev S1x512 : Shape := ⟨2, ![1, 512]⟩
abbrev S512 : Shape := ⟨1, ![512]⟩

abbrev nBuf : Space → Nat
  | .hbm => 57
  | .vmem => 34
  | .smem => 0
  | _ => 0

abbrev bufTy : (tb : Table) → Fin (tcTables nBuf tb) → BufTy
  | .hbm, ⟨0, _⟩ => ⟨S32768x6400, .f32⟩
  | .hbm, ⟨1, _⟩ => ⟨S32768x32, .f32⟩
  | .hbm, ⟨2, _⟩ => ⟨S8192, .i32⟩
  | .hbm, ⟨3, _⟩ => ⟨S3x512, .f32⟩
  | .hbm, ⟨4, _⟩ => ⟨S64, .f32⟩
  | .hbm, ⟨5, _⟩ => ⟨S32, .f32⟩
  | .hbm, ⟨6, _⟩ => ⟨S32, .f32⟩
  | .hbm, ⟨7, _⟩ => ⟨S256, .f32⟩
  | .hbm, ⟨8, _⟩ => ⟨S_, .i32⟩
  | .hbm, ⟨9, _⟩ => ⟨S_, .f32⟩
  | .hbm, ⟨10, _⟩ => ⟨S32768x128, .f32⟩
  | .hbm, ⟨11, _⟩ => ⟨S32768x6528, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S8192, .f32⟩
  | .hbm, ⟨21, _⟩ => ⟨S8192x1, .f32⟩
  | .hbm, ⟨22, _⟩ => ⟨S1x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S8192x64, .f32⟩
  | .hbm, ⟨30, _⟩ => ⟨S_, .f32⟩
  | .hbm, ⟨31, _⟩ => ⟨S8192x32, .f32⟩
  | .hbm, ⟨32, _⟩ => ⟨S8192x128, .f32⟩
  | .hbm, ⟨33, _⟩ => ⟨S_, .f32⟩
  | .hbm, ⟨34, _⟩ => ⟨S8192x64, .f32⟩
  | .hbm, ⟨35, _⟩ => ⟨S8192x16, .f32⟩
  | .hbm, ⟨36, _⟩ => ⟨S_, .f32⟩
  | .hbm, ⟨37, _⟩ => ⟨S8192x32, .f32⟩
  | .hbm, ⟨38, _⟩ => ⟨S8192x128, .f32⟩
  | .hbm, ⟨39, _⟩ => ⟨S96, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S_, .f32⟩
  | .hbm, ⟨45, _⟩ => ⟨S64, .f32⟩
  | .hbm, ⟨46, _⟩ => ⟨S96, .f32⟩
  | .hbm, ⟨47, _⟩ => ⟨S_, .i32⟩
  | .hbm, ⟨48, _⟩ => ⟨S_, .f32⟩
  | .hbm, ⟨49, _⟩ => ⟨S128, .f32⟩
  | .hbm, ⟨50, _⟩ => ⟨S1x128, .f32⟩
  | .hbm, ⟨51, _⟩ => ⟨S1x256, .f32⟩
  | .hbm, ⟨52, _⟩ => ⟨S32768x512, .bf16⟩
  | .hbm, ⟨53, _⟩ => ⟨S32768x1024, .bf16⟩
  | .hbm, ⟨54, _⟩ => ⟨S32768x256, .f32⟩
  | .hbm, ⟨55, _⟩ => ⟨S32768x128, .f32⟩
  | .hbm, ⟨56, _⟩ => ⟨S64x8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S3x512, .f32⟩
  | .local _ .vmem, ⟨17, _⟩ => ⟨S1x128, .f32⟩
  | .local _ .vmem, ⟨18, _⟩ => ⟨S1x128, .f32⟩
  | .local _ .vmem, ⟨19, _⟩ => ⟨S1x256, .f32⟩
  | .local _ .vmem, ⟨20, _⟩ => ⟨S8x512, .f32⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S512x512, .bf16⟩
  | .local _ .vmem, ⟨25, _⟩ => ⟨S512x512, .bf16⟩
  | .local _ .vmem, ⟨26, _⟩ => ⟨S512x1024, .bf16⟩
  | .local _ .vmem, ⟨27, _⟩ => ⟨S512x1024, .bf16⟩
  | .local _ .vmem, ⟨28, _⟩ => ⟨S512x256, .f32⟩
  | .local _ .vmem, ⟨29, _⟩ => ⟨S512x256, .f32⟩
  | .local _ .vmem, ⟨30, _⟩ => ⟨S512x128, .f32⟩
  | .local _ .vmem, ⟨31, _⟩ => ⟨S512x128, .f32⟩
  | .local _ .vmem, ⟨32, _⟩ => ⟨S1x8x512, .f32⟩
  | .local _ .vmem, ⟨33, _⟩ => ⟨S1x8x512, .f32⟩
  | _, _ => ⟨S32768x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_call2_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_v31_2 : Ref sig .tc := ⟨.hbm, 54, rfl⟩
abbrev main_v31_3 : Ref sig .tc := ⟨.hbm, 55, rfl⟩
abbrev main_v31_4 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_5 (i : grid0.Coords) : Fin 2 → Nat :=
  let arg0 : BitVec 32 := BitVec.ofNat 32 (i 0).val
  let c50_i32 : BitVec 32 := 50#32
  let c0_i32 : BitVec 32 := 0#32
  ![arg0.toNat, c50_i32.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== PrepRefIdeal.lean ====
abbrev S32768x6400 : Shape := ⟨2, ![32768, 6400]⟩
abbrev S32768x32 : Shape := ⟨2, ![32768, 32]⟩
abbrev S8192 : Shape := ⟨1, ![8192]⟩
abbrev S3x512 : Shape := ⟨2, ![3, 512]⟩
abbrev S64 : Shape := ⟨1, ![64]⟩
abbrev S32 : Shape := ⟨1, ![32]⟩
abbrev S256 : Shape := ⟨1, ![256]⟩
abbrev S32768x512 : Shape := ⟨2, ![32768, 512]⟩
abbrev S4x8192x512 : Shape := ⟨3, ![4, 8192, 512]⟩
abbrev S_ : Shape := ⟨0, ![]⟩
abbrev S4x2x512 : Shape := ⟨3, ![4, 2, 512]⟩
abbrev S4x8194x512 : Shape := ⟨3, ![4, 8194, 512]⟩
abbrev S1x512 : Shape := ⟨2, ![1, 512]⟩
abbrev S512 : Shape := ⟨1, ![512]⟩
abbrev S1x1x512 : Shape := ⟨3, ![1, 1, 512]⟩
abbrev S32768x1024 : Shape := ⟨2, ![32768, 1024]⟩
abbrev S4x8192x8x128 : Shape := ⟨4, ![4, 8192, 8, 128]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x8x32 : Shape := ⟨4, ![4, 8192, 8, 32]⟩
abbrev S1x1x1x32 : Shape := ⟨4, ![1, 1, 1, 32]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S4x8192x8x16 : Shape := ⟨4, ![4, 8192, 8, 16]⟩
abbrev S1x8192x1x16 : Shape := ⟨4, ![1, 8192, 1, 16]⟩
abbrev S32768 : Shape := ⟨1, ![32768]⟩
abbrev S32768x1 : Shape := ⟨2, ![32768, 1]⟩
abbrev S1x32 : Shape := ⟨2, ![1, 32]⟩
abbrev S4x8192x1x32 : Shape := ⟨4, ![4, 8192, 1, 32]⟩
abbrev S4x8192x1x16 : Shape := ⟨4, ![4, 8192, 1, 16]⟩
abbrev S32768x128 : Shape := ⟨2, ![32768, 128]⟩
abbrev S32768x256 : Shape := ⟨2, ![32768, 256]⟩
abbrev S1x256 : Shape := ⟨2, ![1, 256]⟩
abbrev S64x512x512 : Shape := ⟨3, ![64, 512, 512]⟩
abbrev S64x8x512 : Shape := ⟨3, ![64, 8, 512]⟩

abbrev nBuf : Space → Nat
  | .hbm => 190
  | .vmem => 0
  | .smem => 0
  | _ => 0

abbrev hbmTy0_0 (i : Nat) : BufTy := match i % 128 with
  | 0 => ⟨S32768x6400, .f32⟩
  | 1 => ⟨S32768x32, .f32⟩
  | 2 => ⟨S8192, .i32⟩
  | 3 => ⟨S3x512, .f32⟩
  | 4 => ⟨S64, .f32⟩
  | 5 => ⟨S32, .f32⟩
  | 6 => ⟨S32, .f32⟩
  | 7 => ⟨S256, .f32⟩
  | 8 => ⟨S32768x512, .f32⟩
  | 9 => ⟨S32768x512, .f32⟩
  | 10 => ⟨S32768x512, .f32⟩
  | 11 => ⟨S4x8192x512, .f32⟩
  | 12 => ⟨S_, .f32⟩
  | 13 => ⟨S4x2x512, .f32⟩
  | 14 => ⟨S4x8194x512, .f32⟩
  | 15 => ⟨S4x8192x512, .f32⟩
  | 16 => ⟨S1x512, .f32⟩
  | 17 => ⟨S512, .f32⟩
  | 18 => ⟨S1x1x512, .f32⟩
  | 19 => ⟨S4x8192x512, .f32⟩
  | 20 => ⟨S4x8192x512, .f32⟩
  | 21 => ⟨S4x8192x512, .f32⟩
  | 22 => ⟨S1x512, .f32⟩
  | 23 => ⟨S512, .f32⟩
  | 24 => ⟨S1x1x512, .f32⟩
  | 25 => ⟨S4x8192x512, .f32⟩
  | 26 => ⟨S4x8192x512, .f32⟩
  | 27 => ⟨S4x8192x512, .f32⟩
  | 28 => ⟨S4x8192x512, .f32⟩
  | 29 => ⟨S1x512, .f32⟩
  | 30 => ⟨S512, .f32⟩
  | 31 => ⟨S1x1x512, .f32⟩
  | 32 => ⟨S4x8192x512, .f32⟩
  | 33 => ⟨S4x8192x512, .f32⟩
  | 34 => ⟨S4x8192x512, .f32⟩
  | 35 => ⟨S32768x512, .f32⟩
  | 36 => ⟨S32768x512, .f32⟩
  | 37 => ⟨S32768x512, .f32⟩
  | 38 => ⟨S32768x512, .bf16⟩
  | 39 => ⟨S32768x1024, .f32⟩
  | 40 => ⟨S4x8192x8x128, .f32⟩
  | 41 => ⟨S4x8192x8x64, .f32⟩
  | 42 => ⟨S4x8192x8x64, .f32⟩
  | 43 => ⟨S_, .f32⟩
  | 44 => ⟨S4x8192x8, .f32⟩
  | 45 => ⟨S4x8192x8x1, .f32⟩
  | 46 => ⟨S_, .f32⟩
  | 47 => ⟨S4x8192x8x1, .f32⟩
  | 48 => ⟨S4x8192x8x1, .f32⟩
  | 49 => ⟨S_, .f32⟩
  | 50 => ⟨S4x8192x8x1, .f32⟩
  | 51 => ⟨S4x8192x8x1, .f32⟩
  | 52 => ⟨S4x8192x8x1, .f32⟩
  | 53 => ⟨S4x8192x8x64, .f32⟩
  | 54 => ⟨S4x8192x8x64, .f32⟩
  | 55 => ⟨S1x1x1x64, .f32⟩
  | 56 => ⟨S4x8192x8x64, .f32⟩
  | 57 => ⟨S4x8192x8x64, .f32⟩
  | 58 => ⟨S4x8192x8x32, .f32⟩
  | 59 => ⟨S4x8192x8x32, .f32⟩
  | 60 => ⟨S_, .f32⟩
  | 61 => ⟨S4x8192x8, .f32⟩
  | 62 => ⟨S4x8192x8x1, .f32⟩
  | 63 => ⟨S_, .f32⟩
  | 64 => ⟨S4x8192x8x1, .f32⟩
  | 65 => ⟨S4x8192x8x1, .f32⟩
  | 66 => ⟨S_, .f32⟩
  | 67 => ⟨S4x8192x8x1, .f32⟩
  | 68 => ⟨S4x8192x8x1, .f32⟩
  | 69 => ⟨S4x8192x8x1, .f32⟩
  | 70 => ⟨S4x8192x8x32, .f32⟩
  | 71 => ⟨S4x8192x8x32, .f32⟩
  | 72 => ⟨S1x1x1x32, .f32⟩
  | 73 => ⟨S4x8192x8x32, .f32⟩
  | 74 => ⟨S4x8192x8x32, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S8192, .f32⟩
  | 84 => ⟨S8192x1, .f32⟩
  | 85 => ⟨S1x16, .f32⟩
  | 86 => ⟨S8192x16, .f32⟩
  | 87 => ⟨S8192x16, .f32⟩
  | 88 => ⟨S8192x16, .f32⟩
  | 89 => ⟨S8192x16, .f32⟩
  | 90 => ⟨S8192x1x16, .f32⟩
  | 91 => ⟨S8192x16, .f32⟩
  | 92 => ⟨S8192x1x16, .f32⟩
  | 93 => ⟨S4x8192x8x16, .f32⟩
  | 94 => ⟨S4x8192x8x16, .f32⟩
  | 95 => ⟨S1x8192x1x16, .f32⟩
  | 96 => ⟨S4x8192x8x16, .f32⟩
  | 97 => ⟨S4x8192x8x16, .f32⟩
  | 98 => ⟨S1x8192x1x16, .f32⟩
  | 99 => ⟨S4x8192x8x16, .f32⟩
  | 100 => ⟨S4x8192x8x16, .f32⟩
  | 101 => ⟨S4x8192x8x16, .f32⟩
  | 102 => ⟨S1x8192x1x16, .f32⟩
  | 103 => ⟨S4x8192x8x16, .f32⟩
  | 104 => ⟨S4x8192x8x16, .f32⟩
  | 105 => ⟨S1x8192x1x16, .f32⟩
  | 106 => ⟨S4x8192x8x16, .f32⟩
  | 107 => ⟨S4x8192x8x16, .f32⟩
  | 108 => ⟨S4x8192x8x16, .f32⟩
  | 109 => ⟨S4x8192x8x32, .f32⟩
  | 110 => ⟨S_, .f32⟩
  | 111 => ⟨S4x8192x8x32, .f32⟩
  | 112 => ⟨S4x8192x8x128, .f32⟩
  | 113 => ⟨S32768x32, .f32⟩
  | 114 => ⟨S_, .f32⟩
  | 115 => ⟨S32768, .f32⟩
  | 116 => ⟨S32768x1, .f32⟩
  | 117 => ⟨S_, .f32⟩
  | 118 => ⟨S32768x1, .f32⟩
  | 119 => ⟨S32768x1, .f32⟩
  | 120 => ⟨S_, .f32⟩
  | 121 => ⟨S32768x1, .f32⟩
  | 122 => ⟨S32768x1, .f32⟩
  | 123 => ⟨S32768x1, .f32⟩
  | 124 => ⟨S32768x32, .f32⟩
  | 125 => ⟨S32768x32, .f32⟩
  | 126 => ⟨S1x32, .f32⟩
  | 127 => ⟨S32768x32, .f32⟩
  | _ => ⟨S32768x6400, .f32⟩

abbrev hbmTy0_1 (i : Nat) : BufTy := match i % 128 with
  | 0 => ⟨S32768x32, .f32⟩
  | 1 => ⟨S4x8192x1x32, .f32⟩
  | 2 => ⟨S16, .f32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S8192, .f32⟩
  | 11 => ⟨S8192x1, .f32⟩
  | 12 => ⟨S1x16, .f32⟩
  | 13 => ⟨S8192x16, .f32⟩
  | 14 => ⟨S8192x16, .f32⟩
  | 15 => ⟨S8192x16, .f32⟩
  | 16 => ⟨S8192x16, .f32⟩
  | 17 => ⟨S8192x1x16, .f32⟩
  | 18 => ⟨S8192x16, .f32⟩
  | 19 => ⟨S8192x1x16, .f32⟩
  | 20 => ⟨S4x8192x1x16, .f32⟩
  | 21 => ⟨S4x8192x1x16, .f32⟩
  | 22 => ⟨S1x8192x1x16, .f32⟩
  | 23 => ⟨S4x8192x1x16, .f32⟩
  | 24 => ⟨S4x8192x1x16, .f32⟩
  | 25 => ⟨S1x8192x1x16, .f32⟩
  | 26 => ⟨S4x8192x1x16, .f32⟩
  | 27 => ⟨S4x8192x1x16, .f32⟩
  | 28 => ⟨S4x8192x1x16, .f32⟩
  | 29 => ⟨S1x8192x1x16, .f32⟩
  | 30 => ⟨S4x8192x1x16, .f32⟩
  | 31 => ⟨S4x8192x1x16, .f32⟩
  | 32 => ⟨S1x8192x1x16, .f32⟩
  | 33 => ⟨S4x8192x1x16, .f32⟩
  | 34 => ⟨S4x8192x1x16, .f32⟩
  | 35 => ⟨S4x8192x1x16, .f32⟩
  | 36 => ⟨S4x8192x1x32, .f32⟩
  | 37 => ⟨S32768x32, .f32⟩
  | 38 => ⟨S_, .i32⟩
  | 39 => ⟨S_, .f32⟩
  | 40 => ⟨S32768x128, .f32⟩
  | 41 => ⟨S32768x1024, .f32⟩
  | 42 => ⟨S32768x1024, .bf16⟩
  | 43 => ⟨S32768x256, .f32⟩
  | 44 => ⟨S32768x256, .f32⟩
  | 45 => ⟨S_, .f32⟩
  | 46 => ⟨S32768, .f32⟩
  | 47 => ⟨S32768x1, .f32⟩
  | 48 => ⟨S_, .f32⟩
  | 49 => ⟨S32768x1, .f32⟩
  | 50 => ⟨S32768x1, .f32⟩
  | 51 => ⟨S_, .f32⟩
  | 52 => ⟨S32768x1, .f32⟩
  | 53 => ⟨S32768x1, .f32⟩
  | 54 => ⟨S32768x1, .f32⟩
  | 55 => ⟨S32768x256, .f32⟩
  | 56 => ⟨S32768x256, .f32⟩
  | 57 => ⟨S1x256, .f32⟩
  | 58 => ⟨S32768x256, .f32⟩
  | 59 => ⟨S32768x256, .f32⟩
  | 60 => ⟨S64x512x512, .f32⟩
  | 61 => ⟨S64x8x512, .f32⟩
  | _ => ⟨S32768x6400, .f32⟩

abbrev hbmTy (i : Nat) : BufTy := match i / 128 with
  | 0 => hbmTy0_0 i
  | 1 => hbmTy0_1 i
  | _ => ⟨S32768x6400, .f32⟩

abbrev bufTy : (tb : Table) → Fin (tcTables nBuf tb) → BufTy
  | .hbm, ⟨i, _⟩ => hbmTy i
  | _, _ => ⟨S32768x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_0 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_3 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_8 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_9 : Ref sig .tc := ⟨.hbm, 114, rfl⟩
abbrev main_v96 : Ref sig .tc := ⟨.hbm, 115, rfl⟩
abbrev main_v97 : Ref sig .tc := ⟨.hbm, 116, rfl⟩
abbrev main_cst_10 : Ref sig .tc := ⟨.hbm, 117, rfl⟩
abbrev main_v98 : Ref sig .tc := ⟨.hbm, 118, rfl⟩
abbrev main_v99 : Ref sig .tc := ⟨.hbm, 119, rfl⟩
abbrev main_cst_11 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_cst_12 : Ref sig .tc := ⟨.hbm, 132, rfl⟩
abbrev main_v111 : Ref sig .tc := ⟨.hbm, 133, rfl⟩
abbrev main_v112 : Ref sig .tc := ⟨.hbm, 134, rfl⟩
abbrev main_cst_13 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_c : Ref sig .tc := ⟨.hbm, 166, rfl⟩
abbrev main_call0_v0 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_cst_14 : Ref sig .tc := ⟨.hbm, 173, rfl⟩
abbrev main_v148 : Ref sig .tc := ⟨.hbm, 174, rfl⟩
abbrev main_v149 : Ref sig .tc := ⟨.hbm, 175, rfl⟩
abbrev main_cst_15 : Ref sig .tc := ⟨.hbm, 176, rfl⟩
abbrev main_v150 : Ref sig .tc := ⟨.hbm, 177, rfl⟩
abbrev main_v151 : Ref sig .tc := ⟨.hbm, 178, rfl⟩
abbrev main_cst_16 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩

abbrev nD : Nat := 1
abbrev τ : Topo := Topo.v7x

variable {F : FTy → Type} [FloatOps F]
-- ==== Proof.OnlineSoftmax.lean ====
/- The mathematics of a running softmax, free of any program: a triple (running maximum, denominator, numerator) of
   extended reals stands for two real sums of weights, an update by a block of scores adds the block's weights to the
   two sums, and the quotient of the last two components is the quotient of the sums. -/
module

public import Idealize.ShloMosaic.PureOps.Ideal
public import Idealize.ShloMosaic.PureOps.Ideal.Laws

@[expose] public section

noncomputable section

namespace Cert.Softmax

open Idealize.ShloMosaic

/-- `e` is the exponential of `β` times its argument, 0 at `⊥`. -/
structure ExpLike (e : EReal → EReal) (β : ℝ) : Prop where
  bot : e ⊥ = 0
  coe : ∀ r : ℝ, e (r : EReal) = ((Real.exp (β * r) : ℝ) : EReal)

/-- The exponential itself, `β = 1`. -/
theorem expLike_exp : ExpLike Ideal.exp 1 :=
  ⟨rfl, fun r => by simp⟩

/-- A finite sum of real numbers, read in the extended reals. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The weight of a score that is not `⊤`: `exp (β s)` of a real score, 0 of `⊥`. -/
def wt (β : ℝ) : EReal → ℝ
  | ⊥ => 0
  | ⊤ => 0
  | (r : ℝ) => Real.exp (β * r)

@[simp] theorem wt_bot (β : ℝ) : wt β ⊥ = 0 := rfl
@[simp] theorem wt_coe (β r : ℝ) : wt β (r : EReal) = Real.exp (β * r) := rfl

theorem wt_nonneg (β : ℝ) (s : EReal) : 0 ≤ wt β s := by
  induction s using EReal.rec with
  | bot => exact le_refl _
  | top => exact le_refl _
  | coe r => exact (Real.exp_pos _).le

/-- The exponential of a score less a real number is the score's weight times the number's own factor. -/
theorem exp_sub {e : EReal → EReal} {β : ℝ} (he : ExpLike e β) (s : EReal) (hs : s ≠ ⊤) (μ : ℝ) :
    e (s - (μ : EReal)) = ((Real.exp (-(β * μ)) * wt β s : ℝ) : EReal) := by
  induction s using EReal.rec with
  | bot => rw [EReal.bot_sub, he.bot]; simp
  | top => exact absurd rfl hs
  | coe r =>
    rw [← EReal.coe_sub, he.coe, wt_coe, ← Real.exp_add]
    congr 2; ring

/-- The maximum of finitely many scores, none `⊤` and one of them a real number, is a real number. -/
theorem fold_max_coe {ι : Type*} [Fintype ι] (s : ι → EReal) (hs : ∀ t, s t ≠ ⊤) (t0 : ι) (h0 : s t0 ≠ ⊥) :
    ∃ μ : ℝ, Finset.univ.fold max ⊥ s = (μ : EReal) := by
  have hle : s t0 ≤ Finset.univ.fold max ⊥ s :=
    Finset.le_fold_max _ |>.mpr (Or.inr ⟨t0, Finset.mem_univ _, le_refl _⟩)
  have hlt : Finset.univ.fold max ⊥ s < ⊤ :=
    Finset.fold_max_lt _ |>.mpr ⟨bot_lt_top, fun t _ => lt_top_iff_ne_top.mpr (hs t)⟩
  have hb : Finset.univ.fold max ⊥ s ≠ ⊥ := fun h => h0 (le_bot_iff.mp (h ▸ hle))
  exact ⟨_, (EReal.coe_toReal hlt.ne hb).symm⟩

/-- The triple `(m, l, a)` of extended reals stands for the real sums `(L, A)`: either nothing has been added, or
    `m` is a real number and `l`, `a` are the two sums over `exp (β m)`. -/
def Rep (β : ℝ) (m l a : EReal) (L A : ℝ) : Prop :=
  (m = ⊥ ∧ l = 0 ∧ a = 0 ∧ L = 0 ∧ A = 0) ∨
  ∃ μ : ℝ, m = (μ : EReal) ∧ l = ((Real.exp (-(β * μ)) * L : ℝ) : EReal) ∧ a = ((Real.exp (-(β * μ)) * A : ℝ) : EReal)

/-- The start stands for the empty sums. -/
theorem rep_start (β : ℝ) : Rep β ⊥ 0 0 0 0 := Or.inl ⟨rfl, rfl, rfl, rfl, rfl⟩

/-- The weights of a block of scores against a real maximum, summed. -/
theorem sum_exp_sub {ι : Type*} [Fintype ι] {e : EReal → EReal} {β : ℝ} (he : ExpLike e β) (s : ι → EReal)
    (hs : ∀ t, s t ≠ ⊤) (μ : ℝ) :
    ∑ t, e (s t - (μ : EReal)) = ((Real.exp (-(β * μ)) * ∑ t, wt β (s t) : ℝ) : EReal) := by
  rw [Finset.mul_sum, coe_sum]
  exact Finset.sum_congr rfl fun t _ => exp_sub he _ (hs t) _

/-- The same, each weight multiplied by a real value. -/
theorem sum_exp_sub_mul {ι : Type*} [Fintype ι] {e : EReal → EReal} {β : ℝ} (he : ExpLike e β) (s : ι → EReal)
    (hs : ∀ t, s t ≠ ⊤) (c : ι → ℝ) (μ : ℝ) :
    ∑ t, e (s t - (μ : EReal)) * ((c t : ℝ) : EReal)
      = ((Real.exp (-(β * μ)) * ∑ t, wt β (s t) * c t : ℝ) : EReal) := by
  rw [Finset.mul_sum, coe_sum]
  refine Finset.sum_congr rfl fun t _ => ?_
  rw [exp_sub he _ (hs t), ← EReal.coe_mul, mul_assoc]

/-- An update by a block of scores, one of them a real number, adds the block's weights to the sums. -/
theorem rep_update {ι : Type*} [Fintype ι] {e : EReal → EReal} {β : ℝ} (he : ExpLike e β) {m l a : EReal} {L A : ℝ}
    (h : Rep β m l a L A) (s : ι → EReal) (hs : ∀ t, s t ≠ ⊤) (t0 : ι) (h0 : s t0 ≠ ⊥) (c : ι → ℝ) :
    Rep β (max m (Finset.univ.fold max ⊥ s))
      (e (m - max m (Finset.univ.fold max ⊥ s)) * l + ∑ t, e (s t - max m (Finset.univ.fold max ⊥ s)))
      (e (m - max m (Finset.univ.fold max ⊥ s)) * a
        + ∑ t, e (s t - max m (Finset.univ.fold max ⊥ s)) * ((c t : ℝ) : EReal))
      (L + ∑ t, wt β (s t)) (A + ∑ t, wt β (s t) * c t) := by
  obtain ⟨ν, hν⟩ := fold_max_coe s hs t0 h0
  right
  rcases h with ⟨rfl, rfl, rfl, rfl, rfl⟩ | ⟨μ, rfl, rfl, rfl⟩
  · refine ⟨ν, ?_, ?_, ?_⟩
    · rw [hν]; exact max_eq_right bot_le
    · rw [hν, max_eq_right bot_le, sum_exp_sub he s hs, mul_zero, zero_add, zero_add]
    · rw [hν, max_eq_right bot_le, sum_exp_sub_mul he s hs, mul_zero, zero_add, zero_add]
  · have hm : max (μ : EReal) (ν : EReal) = ((max μ ν : ℝ) : EReal) := (EReal.coe_strictMono.monotone.map_max).symm
    refine ⟨max μ ν, ?_, ?_, ?_⟩
    · rw [hν, hm]
    · rw [hν, hm, sum_exp_sub he s hs, exp_sub he _ (EReal.coe_ne_top μ), ← EReal.coe_mul, ← EReal.coe_add, wt_coe]
      congr 1
      have hone : Real.exp (β * μ) * Real.exp (-(β * μ)) = 1 := by rw [← Real.exp_add]; simp
      linear_combination (Real.exp (-(β * max μ ν)) * L) * hone
    · rw [hν, hm, sum_exp_sub_mul he s hs, exp_sub he _ (EReal.coe_ne_top μ), ← EReal.coe_mul, ← EReal.coe_add, wt_coe]
      congr 1
      have hone : Real.exp (β * μ) * Real.exp (-(β * μ)) = 1 := by rw [← Real.exp_add]; simp
      linear_combination (Real.exp (-(β * max μ ν)) * A) * hone

/-- The quotient of two real numbers, the divisor not 0. -/
theorem div_coe_coe {y : ℝ} (hy : y ≠ 0) (x : ℝ) : Ideal.div (x : EReal) (y : EReal) = ((x / y : ℝ) : EReal) := by
  rw [Ideal.div_coe hy, ← EReal.coe_mul, mul_one_div]

/-- The quotient at the end is the quotient of the sums. -/
theorem rep_div {β : ℝ} {m l a : EReal} {L A : ℝ} (h : Rep β m l a L A) (hL : 0 < L) :
    Ideal.div a l = ((A / L : ℝ) : EReal) := by
  rcases h with ⟨-, -, -, hL0, -⟩ | ⟨μ, -, rfl, rfl⟩
  · exact absurd hL0 hL.ne'
  · have hE := Real.exp_pos (-(β * μ))
    rw [div_coe_coe (mul_pos hE hL).ne', mul_div_mul_left _ _ hE.ne']

/-- The sum of the weights of scores, one of them a real number, is positive. -/
theorem sum_wt_pos {ι : Type*} [Fintype ι] (β : ℝ) (s : ι → EReal) (hs : ∀ t, s t ≠ ⊤) (t0 : ι) (h0 : s t0 ≠ ⊥) :
    0 < ∑ t, wt β (s t) := by
  refine Finset.sum_pos' (fun t _ => wt_nonneg β _) ⟨t0, Finset.mem_univ _, ?_⟩
  have := hs t0
  induction hx : s t0 using EReal.rec with
  | bot => exact absurd hx h0
  | top => exact absurd hx this
  | coe r => exact Real.exp_pos _

/-- One entry of a softmax taken all at once: the weight over the sum of the weights. -/
theorem softmax_entry {ι : Type*} [Fintype ι] (s : ι → EReal) (hs : ∀ t, s t ≠ ⊤) (t0 : ι) (h0 : s t0 ≠ ⊥) (t : ι) :
    Ideal.div (Ideal.exp (s t - Finset.univ.fold max ⊥ s)) (∑ k, Ideal.exp (s k - Finset.univ.fold max ⊥ s))
      = ((wt 1 (s t) / ∑ k, wt 1 (s k) : ℝ) : EReal) := by
  obtain ⟨ν, hν⟩ := fold_max_coe s hs t0 h0
  have hE := Real.exp_pos (-(1 * ν))
  rw [hν, sum_exp_sub expLike_exp s hs, exp_sub expLike_exp _ (hs t),
    div_coe_coe (mul_pos hE (sum_wt_pos 1 s hs t0 h0)).ne', mul_div_mul_left _ _ hE.ne']

end Cert.Softmax

end
-- ==== Proof.AttendMath.lean ====
/- Attention of one query row over numbered keys: the sums of the weights of the keys below a bound, what a block of
   keys adds to them, and the softmax taken all at once as their quotient. -/
module

public import proofs.«01_k».proof.Proof.OnlineSoftmax

@[expose] public section

noncomputable section

namespace Cert.Softmax

open Idealize.ShloMosaic

/-- The sum of the weights of the keys below `n`. -/
def sumL (s : ℕ → EReal) (n : ℕ) : ℝ := ∑ κ ∈ Finset.range n, wt 1 (s κ)

/-- The sum of the weighted values of the keys below `n`. -/
def sumA (s : ℕ → EReal) (v : ℕ → ℝ) (n : ℕ) : ℝ := ∑ κ ∈ Finset.range n, wt 1 (s κ) * v κ

theorem sumL_add (s : ℕ → EReal) (n b : ℕ) : sumL s (n + b) = sumL s n + ∑ x : Fin b, wt 1 (s (n + x)) := by
  unfold sumL
  rw [Finset.sum_range_add, ← Fin.sum_univ_eq_sum_range (fun x => wt 1 (s (n + x)))]

theorem sumA_add (s : ℕ → EReal) (v : ℕ → ℝ) (n b : ℕ) :
    sumA s v (n + b) = sumA s v n + ∑ x : Fin b, wt 1 (s (n + x)) * v (n + x) := by
  unfold sumA
  rw [Finset.sum_range_add, ← Fin.sum_univ_eq_sum_range (fun x => wt 1 (s (n + x)) * v (n + x))]

/-- A block of `b` keys from key `n` on, its first key seen, adds its weights to both sums. -/
theorem rep_block {b : ℕ} (hb : 0 < b) (s : ℕ → EReal) (hs : ∀ κ, s κ ≠ ⊤) (v : ℕ → ℝ) (n : ℕ) (h0 : s n ≠ ⊥)
    {m l a : EReal} (h : Rep 1 m l a (sumL s n) (sumA s v n)) (s' v' : Fin b → EReal) (es : ∀ x, s' x = s (n + x))
    (ev : ∀ x : Fin b, v' x = ((v (n + x) : ℝ) : EReal)) :
    Rep 1 (max m (Finset.univ.fold max ⊥ s'))
      (Ideal.exp (m - max m (Finset.univ.fold max ⊥ s')) * l + ∑ x, Ideal.exp (s' x - max m (Finset.univ.fold max ⊥ s')))
      (Ideal.exp (m - max m (Finset.univ.fold max ⊥ s')) * a
        + ∑ x, Ideal.exp (s' x - max m (Finset.univ.fold max ⊥ s')) * v' x)
      (sumL s (n + b)) (sumA s v (n + b)) := by
  rw [sumL_add, sumA_add]
  obtain rfl : s' = fun x : Fin b => s (n + x) := funext es
  obtain rfl : v' = fun x : Fin b => ((v (n + x) : ℝ) : EReal) := funext ev
  exact rep_update expLike_exp h _ (fun x => hs _) ⟨0, hb⟩ (by simpa using h0) _

theorem sumL_of_bot (s : ℕ → EReal) {n N : ℕ} (hn : n ≤ N) (h : ∀ κ, n ≤ κ → s κ = ⊥) : sumL s N = sumL s n := by
  refine (Finset.sum_subset (Finset.range_mono hn) fun κ _ hκ => ?_).symm
  rw [h κ (by simpa using hκ), wt_bot]

theorem sumA_of_bot (s : ℕ → EReal) (v : ℕ → ℝ) {n N : ℕ} (hn : n ≤ N) (h : ∀ κ, n ≤ κ → s κ = ⊥) :
    sumA s v N = sumA s v n := by
  refine (Finset.sum_subset (Finset.range_mono hn) fun κ _ hκ => ?_).symm
  rw [h κ (by simpa using hκ), wt_bot, zero_mul]

theorem sumL_pos (s : ℕ → EReal) (hs : ∀ κ, s κ ≠ ⊤) (h0 : s 0 ≠ ⊥) {n : ℕ} (hn : 0 < n) : 0 < sumL s n := by
  unfold sumL
  rw [← Fin.sum_univ_eq_sum_range (fun x => wt 1 (s x))]
  exact sum_wt_pos 1 _ (fun x => hs _) ⟨0, hn⟩ h0

/-- When every key from `n` on is masked, the quotient of the two sums below `n` is that of the sums below `N`. -/
theorem rep_final (s : ℕ → EReal) (hs : ∀ κ, s κ ≠ ⊤) (v : ℕ → ℝ) (h0 : s 0 ≠ ⊥) {n N : ℕ} (hn : 0 < n) (hN : n ≤ N)
    (hb : ∀ κ, n ≤ κ → s κ = ⊥) {m l a : EReal} (h : Rep 1 m l a (sumL s n) (sumA s v n)) :
    Ideal.div a l = ((sumA s v N / sumL s N : ℝ) : EReal) := by
  rw [sumL_of_bot s hN hb, sumA_of_bot s v hN hb]
  exact rep_div h (sumL_pos s hs h0 hn)

/-- The softmax of the scores of `N` keys, times the values, is the quotient of the two sums. -/
theorem softmax_dot (s : ℕ → EReal) (hs : ∀ κ, s κ ≠ ⊤) (v : ℕ → ℝ) (h0 : s 0 ≠ ⊥) {N : ℕ} (hN : 0 < N)
    (s' v' : Fin N → EReal) (es : ∀ x, s' x = s x) (ev : ∀ x : Fin N, v' x = ((v x : ℝ) : EReal)) :
    ∑ x, v' x * Ideal.div (Ideal.exp (s' x - Finset.univ.fold max ⊥ s'))
        (∑ k, Ideal.exp (s' k - Finset.univ.fold max ⊥ s'))
      = ((sumA s v N / sumL s N : ℝ) : EReal) := by
  obtain rfl : s' = fun x : Fin N => s x := funext es
  obtain rfl : v' = fun x : Fin N => ((v x : ℝ) : EReal) := funext ev
  have e : ∀ x : Fin N, ((v x : ℝ) : EReal) * Ideal.div (Ideal.exp (s x - Finset.univ.fold max ⊥ fun x : Fin N => s x))
        (∑ k : Fin N, Ideal.exp (s k - Finset.univ.fold max ⊥ fun x : Fin N => s x))
      = ((wt 1 (s x) * v x / sumL s N : ℝ) : EReal) := by
    intro x
    rw [softmax_entry (fun x : Fin N => s x) (fun x => hs _) ⟨0, hN⟩ h0 x, ← EReal.coe_mul]
    unfold sumL
    rw [← Fin.sum_univ_eq_sum_range (fun x => wt 1 (s x))]
    congr 1; ring
  rw [Finset.sum_congr rfl fun x _ => e x, ← coe_sum]
  unfold sumA
  rw [Finset.sum_div, ← Fin.sum_univ_eq_sum_range (fun x => wt 1 (s x) * v x / sumL s N)]

end Cert.Softmax
-- ==== Proof.AttendSpec.lean ====
/- Causal attention as a formula in the entries of its three arguments, which the kernel and the reference are both brought to. -/
module

public import proofs.«01_k».proof.Proof.AttendMath
public import Idealize.ShloMosaic.Lib.Pipeline.ValueKit
public import Idealize.ShloMosaic.Lib.Affine

@[expose] public section

noncomputable section

namespace Cert.Attend

open Idealize.ShloMosaic Cert.Softmax

/-- The factor of every score, the inverse of the root of 96. -/
def scale : EReal := (((Real.sqrt 96)⁻¹ : ℝ) : EReal)

/-- The scale is a real number. -/
theorem scale_real : ∃ r : ℝ, scale = (r : EReal) := ⟨(Real.sqrt 96)⁻¹, rfl⟩

/-- An entry of a matrix, named by two numbers, `0` outside it. -/
def rd {n m : ℕ} (x : (⟨2, ![n, m]⟩ : Shape).Idx → EReal) (a b : ℕ) : EReal :=
  if h : a < n ∧ b < m then x (ix2 ⟨a, h.1⟩ ⟨b, h.2⟩) else 0

theorem rd_eq {n m : ℕ} (x : (⟨2, ![n, m]⟩ : Shape).Idx → EReal) (i : Fin n) (j : Fin m) {a b : ℕ} (ha : i.val = a)
    (hb : j.val = b) : x (ix2 i j) = rd x a b := by
  subst ha hb
  unfold rd
  rw [dif_pos ⟨i.isLt, j.isLt⟩]

/-- Every entry of a matrix is a real number. -/
def Real {n m : ℕ} (x : (⟨2, ![n, m]⟩ : Shape).Idx → EReal) : Prop := ∀ i, x i ≠ ⊤ ∧ x i ≠ ⊥

theorem rd_real {n m : ℕ} {x : (⟨2, ![n, m]⟩ : Shape).Idx → EReal} (h : Real x) (a b : ℕ) :
    rd x a b = ((rd x a b).toReal : EReal) := by
  symm
  unfold rd
  split
  · exact EReal.coe_toReal (h _).1 (h _).2
  · simp

/-- The score of key `κ` for the query of row `R`, of sequence `b` and head `H`: `⊥` for a later key. -/
def sc (q k : (⟨2, ![32768, 1024]⟩ : Shape).Idx → EReal) (b R H κ : ℕ) : EReal :=
  if κ ≤ R then (∑ x : Fin 128, rd q (b * 8192 + R) (H * 128 + x) * rd k (b * 8192 + κ) (H * 128 + x)) * scale else ⊥

/-- The value of key `κ`, of sequence `b` and column `y`. -/
def vl (v : (⟨2, ![32768, 512]⟩ : Shape).Idx → EReal) (b y κ : ℕ) : ℝ := (rd v (b * 8192 + κ) y).toReal

variable {q k : (⟨2, ![32768, 1024]⟩ : Shape).Idx → EReal}

theorem dot_real (hq : Real q) (hk : Real k) (b R H κ : ℕ) : ∃ s : ℝ,
    (∑ x : Fin 128, rd q (b * 8192 + R) (H * 128 + x) * rd k (b * 8192 + κ) (H * 128 + x)) * scale = (s : EReal) := by
  obtain ⟨r, hr⟩ := scale_real
  refine ⟨(∑ x : Fin 128, (rd q (b * 8192 + R) (H * 128 + x)).toReal * (rd k (b * 8192 + κ) (H * 128 + x)).toReal) * r, ?_⟩
  rw [EReal.coe_mul, coe_sum, hr]
  congr 1
  refine Finset.sum_congr rfl fun x _ => ?_
  rw [EReal.coe_mul, ← rd_real hq, ← rd_real hk]

/-- No score is `⊤`. -/
theorem sc_ne_top (hq : Real q) (hk : Real k) (b R H κ : ℕ) : sc q k b R H κ ≠ ⊤ := by
  unfold sc
  obtain ⟨s, hs⟩ := dot_real hq hk b R H κ
  split
  · rw [hs]; exact EReal.coe_ne_top s
  · exact bot_ne_top

/-- The score of a key that is seen is not `⊥`. -/
theorem sc_ne_bot (hq : Real q) (hk : Real k) {b R H κ : ℕ} (h : κ ≤ R) : sc q k b R H κ ≠ ⊥ := by
  unfold sc
  obtain ⟨s, hs⟩ := dot_real hq hk b R H κ
  rw [if_pos h, hs]; exact EReal.coe_ne_bot s

theorem sc_of_lt (q k : (⟨2, ![32768, 1024]⟩ : Shape).Idx → EReal) {b R H κ : ℕ} (h : R < κ) : sc q k b R H κ = ⊥ :=
  if_neg (by omega)

/-- The attention of the three arguments, at an entry. -/
def attn (q k : (⟨2, ![32768, 1024]⟩ : Shape).Idx → EReal) (v : (⟨2, ![32768, 512]⟩ : Shape).Idx → EReal) (a y : ℕ) : EReal :=
  ((sumA (sc q k (a / 8192) (a % 8192) (y / 64)) (vl v (a / 8192) y) 8192
    / sumL (sc q k (a / 8192) (a % 8192) (y / 64)) 8192 : ℝ) : EReal)

/-- A signed comparison of two small words. -/
theorem sle_iff (a b : ℕ) (ha : a < 2 ^ 31) (hb : b < 2 ^ 31) :
    IntOp.cmpi .sle (BitVec.ofNat 32 a) (BitVec.ofNat 32 b) = 1#1 ↔ a ≤ b := by
  rw [IntOp.cmpi_sle, BitVec.toInt_ofNat', BitVec.toInt_ofNat']
  simp only [Int.bmod]
  split <;> split <;> omega

theorem slt_iff (a b : ℕ) (ha : a < 2 ^ 31) (hb : b < 2 ^ 31) :
    IntOp.cmpi .slt (BitVec.ofNat 32 a) (BitVec.ofNat 32 b) = 1#1 ↔ a < b := by
  rw [IntOp.cmpi_slt, BitVec.toInt_ofNat', BitVec.toInt_ofNat']
  simp only [Int.bmod]
  split <;> split <;> omega

theorem select_pos {α : Type} {c : BitVec 1} (h : c = 1#1) (x y : α) : Scalar.select c x y = x := by
  subst h; rfl

theorem select_neg {α : Type} {c : BitVec 1} (h : ¬c = 1#1) (x y : α) : Scalar.select c x y = y := by
  have : c = 0#1 := by revert c; decide
  subst this; rfl

end Cert.Attend
-- ==== Proof.FlashBody.lean ====
/- What one grid point of the prompt attention kernel computes, read entry by entry over the extended reals. -/
module

public import proofs.«01_k».proof.Proof.AttendSpec
public import proofs.«01_k».proof.Proof.Gen.FlashIdeal.Skeleton
public import Idealize.ShloMosaic.Lib.Pipeline.ValueKit
public import Idealize.ShloMosaic.Lib.Pipeline.ReadBack

@[expose] public section

set_option maxRecDepth 16384

noncomputable section

namespace Cert.FlashIdeal.Body

open Cert.Attend Cert.FlashIdeal Cert.FlashIdeal.Gen Idealize.ShloMosaic Idealize.ShloMosaic.TcCoe Idealize.SL.Sem

/-- Whether key `c` of the block is seen by row `r`: at or before it, or the key block stands before the row block. -/
def seen (a2 a3 : BitVec 32) (r c : Fin 512) : BitVec 1 :=
  IntOp.ori (IntOp.cmpi CmpIPredicate.sle (BitVec.ofNat 32 ↑c) (BitVec.ofNat 32 ↑r)) (Scalar.cmpi CmpIPredicate.slt a3 a2)

/-- One score of a block: the product of a query and a key row times the factor, `⊥` where the key is not seen. -/
def score (a2 a3 : BitVec 32) (q k : Vec Ideal S512x128 .bf16) (r c : Fin 512) : EReal :=
  Scalar.select (seen a2 a3 r c) ((∑ x, q (ix2 r x) * k (ix2 c x)) * scale) (⊥ : EReal)

/-- The running maximum after a block. -/
def newMax (s : Fin 512 → EReal) (m : EReal) : EReal := max m (Finset.univ.fold max ⊥ s)

/-- The running sum of the weights after a block. -/
def newSum (s : Fin 512 → EReal) (m l : EReal) : EReal :=
  Ideal.exp (m - newMax s m) * l + ∑ x, Ideal.exp (s x - newMax s m)

/-- The running weighted sum of the values after a block. -/
def newAcc (s v : Fin 512 → EReal) (m a : EReal) : EReal :=
  Ideal.exp (m - newMax s m) * a + ∑ x, Ideal.exp (s x - newMax s m) * v x

theorem neg_inf : Ideal.ofBits FTy.f32 4286578688#32 = ⊥ := by simp [Ideal.ofBits, Ideal.ieee]

theorem mask_eq : (Named.named κ "mask" (0xF149F2CA#32 : BitVec (FTy.f32).bits) : Ideal .f32) = (⊥ : EReal) := rfl

/-- The masked scores, at an entry. -/
theorem pay10_apply (a2 a3 : BitVec 32) (q k : Vec Ideal S512x128 .bf16) (r c : Fin 512) :
    k0_pay10 a2 a3 q k (ix2 r c) = score a2 a3 q k r c := by
  pointwise [k0_pay10, k0_pay9]
  exact congrArg (Scalar.select _ _) mask_eq

/-- The new maximum, at a row. -/
theorem pay12_apply (a2 a3 : BitVec 32) (q k : Vec Ideal S512x128 .bf16) (m : Vec Ideal S1x512x1 .f32) (r : Fin 512) :
    k0_pay12 a2 a3 q k m (ix2 r 0) = newMax (score a2 a3 q k r) (m (ix3 0 r 0)) := by
  pointwise [k0_pay12, k0_pay11]
  simp only [pay10_apply, neg_inf]; rfl

/-- The new sum of weights, at a row. -/
theorem pay15_apply (a2 a3 : BitVec 32) (q k : Vec Ideal S512x128 .bf16) (m l : Vec Ideal S1x512x1 .f32) (r : Fin 512) :
    k0_pay15 a2 a3 q k m l (ix3 0 r 0) = newSum (score a2 a3 q k r) (m (ix3 0 r 0)) (l (ix3 0 r 0)) := by
  pointwise [k0_pay15, k0_pay13, k0_pay11, k0_pay14]
  simp only [pay10_apply, pay12_apply]; rfl

/-- The new weighted sum, at a row and a column. -/
theorem pay18_apply (a2 a3 : BitVec 32) (q k : Vec Ideal S512x128 .bf16) (m : Vec Ideal S1x512x1 .f32)
    (a : Vec Ideal S1x512x64 .f32) (v : Vec Ideal S512x64 .bf16) (r : Fin 512) (c : Fin 64) :
    k0_pay18 (k0_pay16 a2 a3 q k m a) (k0_pay17 a2 a3 q k m) v (ix3 0 r c)
      = newAcc (score a2 a3 q k r) (fun x => v (ix2 x c)) (m (ix3 0 r 0)) (a (ix3 0 r c)) := by
  pointwise [k0_pay18, k0_pay16, k0_pay17, k0_pay13, k0_pay11, k0_pay14]
  simp only [pay10_apply, pay12_apply]; rfl

/-- The same four for the second head of the point. -/
theorem pay22_apply (a2 a3 : BitVec 32) (q k : Vec Ideal S512x128 .bf16) (m : Vec Ideal S1x512x1 .f32) (r : Fin 512) :
    k0_pay6 (k0_pay22 (k0_pay9 a2 a3) q k m) (ix3 0 r 0) = newMax (score a2 a3 q k r) (m (ix3 0 r 0)) := by
  have h : k0_pay22 (k0_pay9 a2 a3) q k m = k0_pay12 a2 a3 q k m := rfl
  rw [h]
  pointwise [k0_pay6]
  exact pay12_apply ..

theorem pay25_apply (a2 a3 : BitVec 32) (q k : Vec Ideal S512x128 .bf16) (m l : Vec Ideal S1x512x1 .f32) (r : Fin 512) :
    k0_pay4 (k0_pay25 (k0_pay9 a2 a3) q k m l) (ix3 0 r 0)
      = newSum (score a2 a3 q k r) (m (ix3 0 r 0)) (l (ix3 0 r 0)) := by
  have h : k0_pay4 (k0_pay25 (k0_pay9 a2 a3) q k m l) = k0_pay15 a2 a3 q k m l := rfl
  rw [h]
  exact pay15_apply ..

theorem pay5_apply (a2 a3 : BitVec 32) (q k : Vec Ideal S512x128 .bf16) (m : Vec Ideal S1x512x1 .f32)
    (a : Vec Ideal S1x512x64 .f32) (v : Vec Ideal S512x64 .bf16) (r : Fin 512) (c : Fin 64) :
    k0_pay5 (k0_pay23 (k0_pay9 a2 a3) q k m) (k0_pay24 (k0_pay9 a2 a3) q k m) a v (ix3 0 r c)
      = newAcc (score a2 a3 q k r) (fun x => v (ix2 x c)) (m (ix3 0 r 0)) (a (ix3 0 r c)) := by
  have h : k0_pay5 (k0_pay23 (k0_pay9 a2 a3) q k m) (k0_pay24 (k0_pay9 a2 a3) q k m) a v
      = k0_pay18 (k0_pay16 a2 a3 q k m a) (k0_pay17 a2 a3 q k m) v := rfl
  rw [h]
  exact pay18_apply ..

theorem pay19_apply (a2 a3 : BitVec 32) (q k : Vec Ideal S512x128 .bf16) (m : Vec Ideal S1x512x1 .f32) (r : Fin 512) :
    k0_pay19 (k0_pay12 a2 a3 q k m) (ix3 0 r 0) = newMax (score a2 a3 q k r) (m (ix3 0 r 0)) := by
  pointwise [k0_pay19]
  exact pay12_apply ..

/-- The quotient stored at the last point, for either head. -/
theorem pay7_apply (a : Vec Ideal S1x512x64 .f32) (l : Vec Ideal S1x512x1 .f32) (r : Fin 512) (c : Fin 64) :
    k0_pay7 a l (ix2 r c) = Ideal.div (a (ix3 0 r c)) (l (ix3 0 r 0)) := by
  pointwise [k0_pay7]

theorem pay8_apply (a : Vec Ideal S1x512x64 .f32) (l : Vec Ideal S1x512x1 .f32) (r : Fin 512) (c : Fin 64) :
    k0_pay8 a l (ix2 r c) = Ideal.div (a (ix3 0 r c)) (l (ix3 0 r 0)) := by
  pointwise [k0_pay8]

end Cert.FlashIdeal.Body
-- ==== Proof.FlashCases.lean ====
/- What each kind of grid point of the prompt attention kernel leaves in its scratch and its output block. -/
module

public import proofs.«01_k».proof.Proof.FlashBody
public import proofs.«01_k».proof.Proof.Gen.FlashIdeal.Frame
public import Idealize.ShloMosaic.Lib.Pipeline.ValueKit
public import Idealize.ShloMosaic.Lib.Pipeline.ReadBack

@[expose] public section

set_option maxRecDepth 16384

noncomputable section

namespace Cert.FlashIdeal.Cases

open Cert.Attend Cert.FlashIdeal Cert.FlashIdeal.Gen Cert.FlashIdeal.Body Idealize.ShloMosaic Idealize.ShloMosaic.TcCoe Idealize.SL.Sem

/-- A column of one of the two heads of a block. -/
def col (h : Fin 2) (y : Fin 128) : Fin 256 := ⟨128 * h.val + y.val, by omega⟩

/-- A score of one head of a point. -/
def scoreH (a2 a3 : BitVec 32) (x0 x1 : Vec Ideal S512x256 .bf16) (h : Fin 2) (r c : Fin 512) : EReal :=
  Scalar.select (seen a2 a3 r c) ((∑ y, x0 (ix2 r (col h y)) * x1 (ix2 c (col h y))) * scale) (⊥ : EReal)

theorem score0 (a2 a3 : BitVec 32) (x0 x1 : Vec Ideal S512x256 .bf16) (e) (e') :
    score a2 a3 (View.ld (S := S512x256) x0 (Rect.unit ![0, 0] ![512, 128] e)) (View.ld (S := S512x256) x1 (Rect.unit ![0, 0] ![512, 128] e'))
      = scoreH a2 a3 x0 x1 0 := by
  funext r c
  unfold score scoreH col
  pointwise
  try simp

theorem score1 (a2 a3 : BitVec 32) (x0 x1 : Vec Ideal S512x256 .bf16) (e) (e') :
    score a2 a3 (View.ld (S := S512x256) x0 (Rect.unit ![0, 128] ![512, 128] e)) (View.ld (S := S512x256) x1 (Rect.unit ![0, 128] ![512, 128] e'))
      = scoreH a2 a3 x0 x1 1 := by
  funext r c
  unfold score scoreH col
  pointwise
  try simp

/-- An entry of one head is an entry of that head's rectangle. -/
theorem emb_head (n : ℕ) (h : Fin 2) (r : Fin 512) (z : Fin n) (k : ℕ) (hk : h.val = k) (e) :
    (Rect.unit (s := ⟨3, ![2, 512, n]⟩) ![k, 0, 0] ![1, 512, n] e).emb
      (show (Rect.unit (s := ⟨3, ![2, 512, n]⟩) ![k, 0, 0] ![1, 512, n] e).shape.Idx from (ix3 0 r z : (⟨3, ![1, 512, n]⟩ : Shape).Idx))
      = (ix3 h r z : (⟨3, ![2, 512, n]⟩ : Shape).Idx) := by
  funext a
  apply Fin.ext
  match a with
  | ⟨0, _⟩ => show k + 1 * 0 = h.val; omega
  | ⟨1, _⟩ => show 0 + 1 * r.val = r.val; omega
  | ⟨2, _⟩ => show 0 + 1 * z.val = z.val; omega

/-- Two stores, one per head, over whatever stood before, read back. -/
theorem canon_heads (n : ℕ) (L : List (View.Piece (Elt Ideal) ⟨3, ![2, 512, n]⟩ .f32)) (e0 e1) (p0 p1 : (⟨3, ![1, 512, n]⟩ : Shape).Idx → EReal)
    (h : Fin 2) (r : Fin 512) (z : Fin n) :
    View.canon (⟨Rect.unit ![1, 0, 0] ![1, 512, n] e1, p1⟩ :: ⟨Rect.unit ![0, 0, 0] ![1, 512, n] e0, p0⟩ :: L) (ix3 h r z)
      = if h = 0 then p0 (ix3 0 r z) else p1 (ix3 0 r z) := by
  by_cases hh : h.val = 0
  · rw [if_pos (Fin.ext hh), View.canon_cons_of_not_mem, ← emb_head n h r z 0 hh e0]
    · exact View.canon_cons_emb _ _ _ _
    · rw [Rect.mem_set_unit]
      intro H
      have h1 : 1 ≤ h.val := (H 0).1
      omega
  · rw [if_neg (fun e => hh (congrArg Fin.val e)), ← emb_head n h r z 1 (by omega) e1]
    exact View.canon_cons_emb _ _ _ _

/-- A column of one of the two heads of an output block. -/
def ocol (h : Fin 2) (d : Fin 64) : Fin 128 := ⟨64 * h.val + d.val, by omega⟩

theorem emb_col (h : Fin 2) (r : Fin 512) (d : Fin 64) (k : ℕ) (hk : 64 * h.val = k) (e) :
    (Rect.unit (s := S512x128) ![0, k] ![512, 64] e).emb
      (show (Rect.unit (s := S512x128) ![0, k] ![512, 64] e).shape.Idx from (ix2 r d : S512x64.Idx))
      = (ix2 r (ocol h d) : S512x128.Idx) := by
  funext a
  apply Fin.ext
  match a with
  | ⟨0, _⟩ => show 0 + 1 * r.val = r.val; omega
  | ⟨1, _⟩ => show k + 1 * d.val = 64 * h.val + d.val; omega

/-- Two stores of an output block, one per head, read back. -/
theorem canon_cols (L : List (View.Piece (Elt Ideal) S512x128 .bf16)) (e0 e1) (p0 p1 : S512x64.Idx → EReal)
    (h : Fin 2) (r : Fin 512) (d : Fin 64) :
    View.canon (⟨Rect.unit ![0, 64] ![512, 64] e1, p1⟩ :: ⟨Rect.unit ![0, 0] ![512, 64] e0, p0⟩ :: L) (ix2 r (ocol h d))
      = if h = 0 then p0 (ix2 r d) else p1 (ix2 r d) := by
  by_cases hh : h.val = 0
  · rw [if_pos (Fin.ext hh), View.canon_cons_of_not_mem, ← emb_col h r d 0 (by omega) e0]
    · exact View.canon_cons_emb _ _ _ _
    · rw [Rect.mem_set_unit]
      intro H
      have h1 : 64 ≤ 64 * h.val + d.val := (H 1).1
      omega
  · rw [if_neg (fun e => hh (congrArg Fin.val e)), ← emb_col h r d 64 (by omega) e1]
    exact View.canon_cons_emb _ _ _ _

/-- The three resets. -/
theorem pay1_apply (h : Fin 2) (r : Fin 512) : k0_pay1 (F := Ideal) (ix3 h r 0) = (⊥ : EReal) := by
  pointwise [k0_pay1]
  exact mask_eq

theorem pay2_apply (h : Fin 2) (r : Fin 512) : k0_pay2 (F := Ideal) (ix3 h r 0) = (0 : EReal) := by
  pointwise [k0_pay2]

theorem pay3_apply (h : Fin 2) (r : Fin 512) (d : Fin 64) : k0_pay3 (F := Ideal) (ix3 h r d) = (0 : EReal) := by
  pointwise [k0_pay3]

/-- A read of one head of a scratch. -/
theorem ld_head (n : ℕ) (x : Vec Ideal ⟨3, ![2, 512, n]⟩ .f32) (h : Fin 2) (r : Fin 512) (z : Fin n) (k : ℕ) (hk : h.val = k) (e) :
    View.ld (S := ⟨3, ![2, 512, n]⟩) x (Rect.unit ![k, 0, 0] ![1, 512, n] e) (ix3 0 r z : (⟨3, ![1, 512, n]⟩ : Shape).Idx) = x (ix3 h r z) :=
  congrArg x (emb_head n h r z k hk e)

/-- The values a point reads, of one head. -/
def valH (x2 : Vec Ideal S512x128 .bf16) (h : Fin 2) (d : Fin 64) (x : Fin 512) : EReal :=
  x2 (ix2 x (ocol h d))

theorem val0 (x2 : Vec Ideal S512x128 .bf16) (d : Fin 64) (e) :
    (fun x => View.ld (S := S512x128) x2 (Rect.unit ![0, 0] ![512, 64] e) (ix2 x d)) = valH x2 0 d := by
  funext x
  unfold valH ocol
  pointwise
  try simp

theorem val1 (x2 : Vec Ideal S512x128 .bf16) (d : Fin 64) (e) :
    (fun x => View.ld (S := S512x128) x2 (Rect.unit ![0, 64] ![512, 64] e) (ix2 x d)) = valH x2 1 d := by
  funext x
  unfold valH ocol
  pointwise
  try simp

section
variable (a2 a3 : BitVec 32) (x0 x1 : Vec Ideal S512x256 .bf16) (x2 : Vec Ideal S512x128 .bf16) (xs0 xs1 : Vec Ideal S2x512x1 .f32)
  (xs2 : Vec Ideal S2x512x64 .f32) (h : Fin 2) (r : Fin 512) (d : Fin 64)

/-- The queries and keys of a head, and its values, as a point reads them. -/
abbrev q0 (x : Vec Ideal S512x256 .bf16) : Vec Ideal S512x128 .bf16 := View.ld x (Rect.unit ![0, 0] ![512, 128] inb_S512x256_S512x128_0_0)
abbrev q1 (x : Vec Ideal S512x256 .bf16) : Vec Ideal S512x128 .bf16 := View.ld x (Rect.unit ![0, 128] ![512, 128] inb_S512x256_S512x128_0_128)
abbrev v0 (x : Vec Ideal S512x128 .bf16) : Vec Ideal S512x64 .bf16 := View.ld x (Rect.unit ![0, 0] ![512, 64] inb_S512x128_S512x64_0_0)
abbrev v1 (x : Vec Ideal S512x128 .bf16) : Vec Ideal S512x64 .bf16 := View.ld x (Rect.unit ![0, 64] ![512, 64] inb_S512x128_S512x64_0_64)
abbrev c0 (x : Vec Ideal S2x512x1 .f32) : Vec Ideal S1x512x1 .f32 := View.ld x (Rect.unit ![0, 0, 0] ![1, 512, 1] inb_S2x512x1_S1x512x1_0_0_0)
abbrev c1 (x : Vec Ideal S2x512x1 .f32) : Vec Ideal S1x512x1 .f32 := View.ld x (Rect.unit ![1, 0, 0] ![1, 512, 1] inb_S2x512x1_S1x512x1_1_0_0)
abbrev w0 (x : Vec Ideal S2x512x64 .f32) : Vec Ideal S1x512x64 .f32 := View.ld x (Rect.unit ![0, 0, 0] ![1, 512, 64] inb_S2x512x64_S1x512x64_0_0_0)
abbrev w1 (x : Vec Ideal S2x512x64 .f32) : Vec Ideal S1x512x64 .f32 := View.ld x (Rect.unit ![1, 0, 0] ![1, 512, 64] inb_S2x512x64_S1x512x64_1_0_0)

theorem sum_head0 : k0_pay15 a2 a3 (q0 x0) (q0 x1) (c0 xs0) (c0 xs1) (ix3 0 r 0)
    = newSum (scoreH a2 a3 x0 x1 0 r) (xs0 (ix3 0 r 0)) (xs1 (ix3 0 r 0)) :=
  (pay15_apply ..).trans (by rw [score0]; exact congr (congrArg _ (ld_head 1 _ 0 r 0 0 rfl _)) (ld_head 1 _ 0 r 0 0 rfl _))

theorem sum_head1 : k0_pay4 (k0_pay25 (k0_pay9 a2 a3) (q1 x0) (q1 x1) (c1 xs0) (c1 xs1)) (ix3 0 r 0)
    = newSum (scoreH a2 a3 x0 x1 1 r) (xs0 (ix3 1 r 0)) (xs1 (ix3 1 r 0)) :=
  (pay25_apply ..).trans (by rw [score1]; exact congr (congrArg _ (ld_head 1 _ 1 r 0 1 rfl _)) (ld_head 1 _ 1 r 0 1 rfl _))

theorem acc_head0 : k0_pay18 (k0_pay16 a2 a3 (q0 x0) (q0 x1) (c0 xs0) (w0 xs2)) (k0_pay17 a2 a3 (q0 x0) (q0 x1) (c0 xs0)) (v0 x2) (ix3 0 r d)
    = newAcc (scoreH a2 a3 x0 x1 0 r) (valH x2 0 d) (xs0 (ix3 0 r 0)) (xs2 (ix3 0 r d)) :=
  (pay18_apply ..).trans (by rw [score0, val0]; exact congr (congrArg _ (ld_head 1 _ 0 r 0 0 rfl _)) (ld_head 64 _ 0 r d 0 rfl _))

theorem acc_head1 : k0_pay5 (k0_pay23 (k0_pay9 a2 a3) (q1 x0) (q1 x1) (c1 xs0)) (k0_pay24 (k0_pay9 a2 a3) (q1 x0) (q1 x1) (c1 xs0)) (w1 xs2) (v1 x2) (ix3 0 r d)
    = newAcc (scoreH a2 a3 x0 x1 1 r) (valH x2 1 d) (xs0 (ix3 1 r 0)) (xs2 (ix3 1 r d)) :=
  (pay5_apply ..).trans (by rw [score1, val1]; exact congr (congrArg _ (ld_head 1 _ 1 r 0 1 rfl _)) (ld_head 64 _ 1 r d 1 rfl _))

/-- The maximum both heads store. -/
theorem heads_max (L : List (View.Piece (Elt Ideal) ⟨3, ![2, 512, 1]⟩ .f32)) (e0 e1) :
    View.canon (⟨Rect.unit ![1, 0, 0] ![1, 512, 1] e1, k0_pay6 (k0_pay22 (k0_pay9 a2 a3) (q1 x0) (q1 x1) (c1 xs0))⟩
        :: ⟨Rect.unit ![0, 0, 0] ![1, 512, 1] e0, k0_pay19 (k0_pay12 a2 a3 (q0 x0) (q0 x1) (c0 xs0))⟩ :: L) (ix3 h r 0)
      = newMax (scoreH a2 a3 x0 x1 h r) (xs0 (ix3 h r 0)) := by
  refine (canon_heads 1 _ _ _ _ _ h r 0).trans ?_
  match h with
  | ⟨0, _⟩ => exact (pay19_apply ..).trans (by rw [score0]; exact congrArg _ (ld_head 1 _ 0 r 0 0 rfl _))
  | ⟨1, _⟩ => exact (pay22_apply ..).trans (by rw [score1]; exact congrArg _ (ld_head 1 _ 1 r 0 1 rfl _))

/-- The sum of the weights both heads store. -/
theorem heads_sum (L : List (View.Piece (Elt Ideal) ⟨3, ![2, 512, 1]⟩ .f32)) (e0 e1) :
    View.canon (⟨Rect.unit ![1, 0, 0] ![1, 512, 1] e1, k0_pay4 (k0_pay25 (k0_pay9 a2 a3) (q1 x0) (q1 x1) (c1 xs0) (c1 xs1))⟩
        :: ⟨Rect.unit ![0, 0, 0] ![1, 512, 1] e0, k0_pay15 a2 a3 (q0 x0) (q0 x1) (c0 xs0) (c0 xs1)⟩ :: L) (ix3 h r 0)
      = newSum (scoreH a2 a3 x0 x1 h r) (xs0 (ix3 h r 0)) (xs1 (ix3 h r 0)) := by
  refine (canon_heads 1 _ _ _ _ _ h r 0).trans ?_
  match h with
  | ⟨0, _⟩ => exact sum_head0 ..
  | ⟨1, _⟩ => exact sum_head1 ..

/-- The weighted sum of the values both heads store. -/
theorem heads_acc (L : List (View.Piece (Elt Ideal) ⟨3, ![2, 512, 64]⟩ .f32)) (e0 e1) :
    View.canon (⟨Rect.unit ![1, 0, 0] ![1, 512, 64] e1, k0_pay5 (k0_pay23 (k0_pay9 a2 a3) (q1 x0) (q1 x1) (c1 xs0)) (k0_pay24 (k0_pay9 a2 a3) (q1 x0) (q1 x1) (c1 xs0)) (w1 xs2) (v1 x2)⟩
        :: ⟨Rect.unit ![0, 0, 0] ![1, 512, 64] e0, k0_pay18 (k0_pay16 a2 a3 (q0 x0) (q0 x1) (c0 xs0) (w0 xs2)) (k0_pay17 a2 a3 (q0 x0) (q0 x1) (c0 xs0)) (v0 x2)⟩ :: L) (ix3 h r d)
      = newAcc (scoreH a2 a3 x0 x1 h r) (valH x2 h d) (xs0 (ix3 h r 0)) (xs2 (ix3 h r d)) := by
  refine (canon_heads 64 _ _ _ _ _ h r d).trans ?_
  match h with
  | ⟨0, _⟩ => exact acc_head0 ..
  | ⟨1, _⟩ => exact acc_head1 ..

end

section
variable (c : Dev nD) (i : grid0.Coords) (arg4 : Memref sig .tc .vmem S512x256 .bf16) (harg4 : arg4.IsWhole) (arg5 : Memref sig .tc .vmem S512x256 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S2x512x1 .f32) (harg8 : arg8.IsWhole) (arg9 : Memref sig .tc .vmem S2x512x1 .f32) (harg9 : arg9.IsWhole) (arg10 : Memref sig .tc .vmem S2x512x64 .f32) (harg10 : arg10.IsWhole)
  (x0 : Vec Ideal S512x256 .bf16) (x1 : Vec Ideal S512x256 .bf16) (x2 : Vec Ideal S512x128 .bf16) (xs0 xs1 : Vec Ideal S2x512x1 .f32) (xs2 : Vec Ideal S2x512x64 .f32)

/-- The maximum a first point of a row of blocks leaves. -/
theorem sout_A_0 (hc0 : cond0_0 i) (hc1 : cond0_1 i) (hc2 : ¬cond0_2 i) (h : Fin 2) (r : Fin 512) :
    sout0_A_0 c i arg4 harg4 arg5 harg5 arg6 harg6 arg7 harg7 arg8 harg8 arg9 harg9 arg10 harg10 hc0 hc1 hc2 x0 x1 x2 (ix3 h r 0) = newMax (scoreH (BitVec.ofNat 32 (i 2)) (BitVec.ofNat 32 (i 3)) x0 x1 h r) ⊥ := by
  frame_open
  simp (disch := decide) only [↓ View.readCov_skip, ↓ View.readCov_cons_toLoadRect, ↓ View.readCov_fill]
  frame_out
  exact (heads_max ..).trans (by rw [pay1_apply])

/-- The sum of the weights a first point of a row of blocks leaves. -/
theorem sout_A_1 (hc0 : cond0_0 i) (hc1 : cond0_1 i) (hc2 : ¬cond0_2 i) (h : Fin 2) (r : Fin 512) :
    sout0_A_1 c i arg4 harg4 arg5 harg5 arg6 harg6 arg7 harg7 arg8 harg8 arg9 harg9 arg10 harg10 hc0 hc1 hc2 x0 x1 x2 (ix3 h r 0) = newSum (scoreH (BitVec.ofNat 32 (i 2)) (BitVec.ofNat 32 (i 3)) x0 x1 h r) ⊥ 0 := by
  frame_open
  simp (disch := decide) only [↓ View.readCov_skip, ↓ View.readCov_cons_toLoadRect, ↓ View.readCov_fill]
  frame_out
  exact (heads_sum ..).trans (by rw [pay1_apply, pay2_apply])

/-- The weighted sum a first point of a row of blocks leaves. -/
theorem sout_A_2 (hc0 : cond0_0 i) (hc1 : cond0_1 i) (hc2 : ¬cond0_2 i) (h : Fin 2) (r : Fin 512) (d : Fin 64) :
    sout0_A_2 c i arg4 harg4 arg5 harg5 arg6 harg6 arg7 harg7 arg8 harg8 arg9 harg9 arg10 harg10 hc0 hc1 hc2 x0 x1 x2 (ix3 h r d) = newAcc (scoreH (BitVec.ofNat 32 (i 2)) (BitVec.ofNat 32 (i 3)) x0 x1 h r) (valH x2 h d) ⊥ 0 := by
  frame_open
  simp (disch := decide) only [↓ View.readCov_skip, ↓ View.readCov_cons_toLoadRect, ↓ View.readCov_fill]
  frame_out
  exact (heads_acc ..).trans (by rw [pay1_apply, pay3_apply])

/-- The maximum a middle point leaves. -/
theorem sout_D_0 (hc0 : ¬cond0_0 i) (hc1 : cond0_1 i) (hc2 : ¬cond0_2 i) (h : Fin 2) (r : Fin 512) :
    sout0_D_0 c i arg4 harg4 arg5 harg5 arg6 harg6 arg7 harg7 arg8 harg8 arg9 harg9 arg10 harg10 hc0 hc1 hc2 x0 x1 x2 xs0 xs1 xs2 (ix3 h r 0) = newMax (scoreH (BitVec.ofNat 32 (i 2)) (BitVec.ofNat 32 (i 3)) x0 x1 h r) (xs0 (ix3 h r 0)) := by
  frame_open
  simp (disch := decide) only [↓ View.readCov_skip, ↓ View.readCov_cons_toLoadRect, ↓ View.readCov_fill]
  frame_out
  exact heads_max ..

/-- The sum of the weights a middle point leaves. -/
theorem sout_D_1 (hc0 : ¬cond0_0 i) (hc1 : cond0_1 i) (hc2 : ¬cond0_2 i) (h : Fin 2) (r : Fin 512) :
    sout0_D_1 c i arg4 harg4 arg5 harg5 arg6 harg6 arg7 harg7 arg8 harg8 arg9 harg9 arg10 harg10 hc0 hc1 hc2 x0 x1 x2 xs0 xs1 xs2 (ix3 h r 0) = newSum (scoreH (BitVec.ofNat 32 (i 2)) (BitVec.ofNat 32 (i 3)) x0 x1 h r) (xs0 (ix3 h r 0)) (xs1 (ix3 h r 0)) := by
  frame_open
  simp (disch := decide) only [↓ View.readCov_skip, ↓ View.readCov_cons_toLoadRect, ↓ View.readCov_fill]
  frame_out
  exact heads_sum ..

/-- The weighted sum a middle point leaves. -/
theorem sout_D_2 (hc0 : ¬cond0_0 i) (hc1 : cond0_1 i) (hc2 : ¬cond0_2 i) (h : Fin 2) (r : Fin 512) (d : Fin 64) :
    sout0_D_2 c i arg4 harg4 arg5 harg5 arg6 harg6 arg7 harg7 arg8 harg8 arg9 harg9 arg10 harg10 hc0 hc1 hc2 x0 x1 x2 xs0 xs1 xs2 (ix3 h r d) = newAcc (scoreH (BitVec.ofNat 32 (i 2)) (BitVec.ofNat 32 (i 3)) x0 x1 h r) (valH x2 h d) (xs0 (ix3 h r 0)) (xs2 (ix3 h r d)) := by
  frame_open
  simp (disch := decide) only [↓ View.readCov_skip, ↓ View.readCov_cons_toLoadRect, ↓ View.readCov_fill]
  frame_out
  exact heads_acc ..

/-- The maximum a last point, on the diagonal leaves. -/
theorem sout_E_0 (hc0 : ¬cond0_0 i) (hc1 : cond0_1 i) (hc2 : cond0_2 i) (h : Fin 2) (r : Fin 512) :
    sout0_E_0 c i arg4 harg4 arg5 harg5 arg6 harg6 arg7 harg7 arg8 harg8 arg9 harg9 arg10 harg10 hc0 hc1 hc2 x0 x1 x2 xs0 xs1 xs2 (ix3 h r 0) = newMax (scoreH (BitVec.ofNat 32 (i 2)) (BitVec.ofNat 32 (i 3)) x0 x1 h r) (xs0 (ix3 h r 0)) := by
  frame_open
  simp (disch := decide) only [↓ View.readCov_skip, ↓ View.readCov_cons_toLoadRect, ↓ View.readCov_fill]
  frame_out
  exact heads_max ..

/-- The sum of the weights a last point, on the diagonal leaves. -/
theorem sout_E_1 (hc0 : ¬cond0_0 i) (hc1 : cond0_1 i) (hc2 : cond0_2 i) (h : Fin 2) (r : Fin 512) :
    sout0_E_1 c i arg4 harg4 arg5 harg5 arg6 harg6 arg7 harg7 arg8 harg8 arg9 harg9 arg10 harg10 hc0 hc1 hc2 x0 x1 x2 xs0 xs1 xs2 (ix3 h r 0) = newSum (scoreH (BitVec.ofNat 32 (i 2)) (BitVec.ofNat 32 (i 3)) x0 x1 h r) (xs0 (ix3 h r 0)) (xs1 (ix3 h r 0)) := by
  frame_open
  simp (disch := decide) only [↓ View.readCov_skip, ↓ View.readCov_cons_toLoadRect, ↓ View.readCov_fill]
  frame_out
  exact heads_sum ..

/-- The weighted sum a last point, on the diagonal leaves. -/
theorem sout_E_2 (hc0 : ¬cond0_0 i) (hc1 : cond0_1 i) (hc2 : cond0_2 i) (h : Fin 2) (r : Fin 512) (d : Fin 64) :
    sout0_E_2 c i arg4 harg4 arg5 harg5 arg6 harg6 arg7 harg7 arg8 harg8 arg9 harg9 arg10 harg10 hc0 hc1 hc2 x0 x1 x2 xs0 xs1 xs2 (ix3 h r d) = newAcc (scoreH (BitVec.ofNat 32 (i 2)) (BitVec.ofNat 32 (i 3)) x0 x1 h r) (valH x2 h d) (xs0 (ix3 h r 0)) (xs2 (ix3 h r d)) := by
  frame_open
  simp (disch := decide) only [↓ View.readCov_skip, ↓ View.readCov_cons_toLoadRect, ↓ View.readCov_fill]
  frame_out
  exact heads_acc ..

/-- The block written past the diagonal: the quotients of the two sums. -/
theorem out_C (hc0 : ¬cond0_0 i) (hc1 : ¬cond0_1 i) (hc2 : cond0_2 i) (h : Fin 2) (r : Fin 512) (d : Fin 64) :
    out0_C_3 c i arg4 harg4 arg5 harg5 arg6 harg6 arg7 harg7 arg8 harg8 arg9 harg9 arg10 harg10 hc0 hc1 hc2 x0 x1 x2 xs0 xs1 xs2 (ix2 r (ocol h d)) = Ideal.div (xs2 (ix3 h r d)) (xs1 (ix3 h r 0)) := by
  frame_open
  simp (disch := decide) only [↓ View.readCov_skip, ↓ View.readCov_cons_toLoadRect, ↓ View.readCov_fill]
  frame_out
  refine (canon_cols _ _ _ _ _ h r d).trans ?_
  match h with
  | ⟨0, _⟩ => exact (pay7_apply ..).trans (congr (congrArg _ (ld_head 64 _ 0 r d 0 rfl _)) (ld_head 1 _ 0 r 0 0 rfl _))
  | ⟨1, _⟩ => exact (pay8_apply ..).trans (congr (congrArg _ (ld_head 64 _ 1 r d 1 rfl _)) (ld_head 1 _ 1 r 0 1 rfl _))

/-- The block written on the diagonal: the quotients of the two new sums. -/
theorem out_E (hc0 : ¬cond0_0 i) (hc1 : cond0_1 i) (hc2 : cond0_2 i) (h : Fin 2) (r : Fin 512) (d : Fin 64) :
    out0_E_3 c i arg4 harg4 arg5 harg5 arg6 harg6 arg7 harg7 arg8 harg8 arg9 harg9 arg10 harg10 hc0 hc1 hc2 x0 x1 x2 xs0 xs1 xs2 (ix2 r (ocol h d)) = Ideal.div (newAcc (scoreH (BitVec.ofNat 32 (i 2)) (BitVec.ofNat 32 (i 3)) x0 x1 h r) (valH x2 h d) (xs0 (ix3 h r 0)) (xs2 (ix3 h r d))) (newSum (scoreH (BitVec.ofNat 32 (i 2)) (BitVec.ofNat 32 (i 3)) x0 x1 h r) (xs0 (ix3 h r 0)) (xs1 (ix3 h r 0))) := by
  frame_open
  simp (disch := decide) only [↓ View.readCov_skip, ↓ View.readCov_cons_toLoadRect, ↓ View.readCov_fill]
  frame_out
  refine (canon_cols _ _ _ _ _ h r d).trans ?_
  match h with
  | ⟨0, _⟩ => exact (pay7_apply ..).trans (congr (congrArg _ (acc_head0 ..)) (sum_head0 ..))
  | ⟨1, _⟩ => exact (pay8_apply ..).trans (congr (congrArg _ (acc_head1 ..)) (sum_head1 ..))

/-- A point past the diagonal leaves the scratch as it was. -/
theorem sout_B_0 (hc0 : ¬cond0_0 i) (hc1 : ¬cond0_1 i) (hc2 : ¬cond0_2 i) : sout0_B_0 c i arg4 harg4 arg5 harg5 arg6 harg6 arg7 harg7 arg8 harg8 arg9 harg9 arg10 harg10 hc0 hc1 hc2 x0 x1 x2 xs0 xs1 xs2 = xs0 := rfl

theorem sout_B_1 (hc0 : ¬cond0_0 i) (hc1 : ¬cond0_1 i) (hc2 : ¬cond0_2 i) : sout0_B_1 c i arg4 harg4 arg5 harg5 arg6 harg6 arg7 harg7 arg8 harg8 arg9 harg9 arg10 harg10 hc0 hc1 hc2 x0 x1 x2 xs0 xs1 xs2 = xs1 := rfl

theorem sout_B_2 (hc0 : ¬cond0_0 i) (hc1 : ¬cond0_1 i) (hc2 : ¬cond0_2 i) : sout0_B_2 c i arg4 harg4 arg5 harg5 arg6 harg6 arg7 harg7 arg8 harg8 arg9 harg9 arg10 harg10 hc0 hc1 hc2 x0 x1 x2 xs0 xs1 xs2 = xs2 := rfl

theorem sout_C_0 (hc0 : ¬cond0_0 i) (hc1 : ¬cond0_1 i) (hc2 : cond0_2 i) : sout0_C_0 c i arg4 harg4 arg5 harg5 arg6 harg6 arg7 harg7 arg8 harg8 arg9 harg9 arg10 harg10 hc0 hc1 hc2 x0 x1 x2 xs0 xs1 xs2 = xs0 := rfl

theorem sout_C_1 (hc0 : ¬cond0_0 i) (hc1 : ¬cond0_1 i) (hc2 : cond0_2 i) : sout0_C_1 c i arg4 harg4 arg5 harg5 arg6 harg6 arg7 harg7 arg8 harg8 arg9 harg9 arg10 harg10 hc0 hc1 hc2 x0 x1 x2 xs0 xs1 xs2 = xs1 := rfl

theorem sout_C_2 (hc0 : ¬cond0_0 i) (hc1 : ¬cond0_1 i) (hc2 : cond0_2 i) : sout0_C_2 c i arg4 harg4 arg5 harg5 arg6 harg6 arg7 harg7 arg8 harg8 arg9 harg9 arg10 harg10 hc0 hc1 hc2 x0 x1 x2 xs0 xs1 xs2 = xs2 := rfl

end

end Cert.FlashIdeal.Cases
-- ==== Proof.FlashValue.lean ====
/- The array the prompt attention kernel leaves is the attention of its three arguments. -/
module

public import proofs.«01_k».proof.Proof.FlashCases
public import proofs.«01_k».proof.Proof.Gen.FlashIdeal.Value

@[expose] public section

set_option maxRecDepth 16384

noncomputable section

namespace Cert.FlashIdeal.Attention

open Cert.Attend Cert.Softmax Cert.FlashIdeal Cert.FlashIdeal.Gen Cert.FlashIdeal.Body Cert.FlashIdeal.Cases Idealize.ShloMosaic Idealize.ShloMosaic.TcCoe Idealize.SL.Sem

/-- The block indices and the two coordinates the body reads, at a point. -/
theorem place : ∀ t : Fin grid0.N,
    (cfg0.win 0).index t 0 = t.val / 1024 * 16 + t.val / 16 % 16 ∧ (cfg0.win 0).index t 1 = t.val / 256 % 4
    ∧ (cfg0.win 1).index t 0 = t.val / 1024 * 16 + min (t.val / 16 % 16) (t.val % 16) ∧ (cfg0.win 1).index t 1 = t.val / 256 % 4
    ∧ (cfg0.win 2).index t 0 = t.val / 1024 * 16 + min (t.val / 16 % 16) (t.val % 16) ∧ (cfg0.win 2).index t 1 = t.val / 256 % 4
    ∧ (cfg0.win 3).index t 0 = t.val / 1024 * 16 + t.val / 16 % 16 ∧ (cfg0.win 3).index t 1 = t.val / 256 % 4
    ∧ (grid0.coords t 2).val = t.val / 16 % 16 ∧ (grid0.coords t 3).val = t.val % 16 := by decide +kernel

variable (m : (ℓ : Loc nD τ sig) → Buf (Elt Ideal) ℓ) (c : Dev nD)

/-- The three arguments. -/
abbrev Q : Vec Ideal S32768x1024 .bf16 := m ((c.tc : Thread nD τ).loc main_arg0)
abbrev K : Vec Ideal S32768x1024 .bf16 := m ((c.tc : Thread nD τ).loc main_arg1)
abbrev V' : Vec Ideal S32768x512 .bf16 := m ((c.tc : Thread nD τ).loc main_arg2)

theorem read_q (t : Fin cfg0.N) (r : Fin 512) (x : Fin 256) :
    iblk m c 0 t (ix2 r x) = rd (Q m c) (t.val / 1024 * 8192 + (t.val / 16 % 16 * 512 + r.val)) (t.val / 256 % 4 * 256 + x.val) := by
  obtain ⟨e0, e1, -⟩ := place t
  have ht : t.val < 4096 := lt_of_lt_of_eq t.isLt N_0
  rw [← rd_eq (Q m c) ⟨t.val / 1024 * 8192 + (t.val / 16 % 16 * 512 + r.val), by omega⟩ ⟨t.val / 256 % 4 * 256 + x.val, by omega⟩ rfl rfl]
  blk_ext [iblk, V, e0, e1]

theorem read_k (t : Fin cfg0.N) (r : Fin 512) (x : Fin 256) (hj : t.val % 16 ≤ t.val / 16 % 16) :
    iblk m c 1 t (ix2 r x) = rd (K m c) (t.val / 1024 * 8192 + (t.val % 16 * 512 + r.val)) (t.val / 256 % 4 * 256 + x.val) := by
  obtain ⟨-, -, e0, e1, -⟩ := place t
  rw [min_eq_right hj] at e0
  have ht : t.val < 4096 := lt_of_lt_of_eq t.isLt N_0
  rw [← rd_eq (K m c) ⟨t.val / 1024 * 8192 + (t.val % 16 * 512 + r.val), by omega⟩ ⟨t.val / 256 % 4 * 256 + x.val, by omega⟩ rfl rfl]
  blk_ext [iblk, V, e0, e1]

theorem read_v (t : Fin cfg0.N) (r : Fin 512) (x : Fin 128) (hj : t.val % 16 ≤ t.val / 16 % 16) :
    iblk m c 2 t (ix2 r x) = rd (V' m c) (t.val / 1024 * 8192 + (t.val % 16 * 512 + r.val)) (t.val / 256 % 4 * 128 + x.val) := by
  obtain ⟨-, -, -, -, e0, e1, -⟩ := place t
  rw [min_eq_right hj] at e0
  have ht : t.val < 4096 := lt_of_lt_of_eq t.isLt N_0
  rw [← rd_eq (V' m c) ⟨t.val / 1024 * 8192 + (t.val % 16 * 512 + r.val), by omega⟩ ⟨t.val / 256 % 4 * 128 + x.val, by omega⟩ rfl rfl]
  blk_ext [iblk, V, e0, e1]

/-- A key of a block on or before the diagonal is seen exactly when it stands at or before the row. -/
theorem seen_iff {i j : ℕ} (hi : i < 16) (hj : j ≤ i) (r x : Fin 512) :
    seen (BitVec.ofNat 32 i) (BitVec.ofNat 32 j) r x = 1#1 ↔ j * 512 + x.val ≤ i * 512 + r.val := by
  unfold seen
  have h1 := sle_iff x.val r.val (by omega) (by omega)
  have h2 : Scalar.cmpi .slt (BitVec.ofNat 32 j) (BitVec.ofNat 32 i) = 1#1 ↔ j < i := slt_iff j i (by omega) (by omega)
  have h3 : ∀ a b : BitVec 1, IntOp.ori a b = 1#1 ↔ a = 1#1 ∨ b = 1#1 := by decide
  rw [h3, h1, h2]
  omega

/-- The scores of a point are those of the formula. -/
theorem scores_eq (t : Fin cfg0.N) (hj : t.val % 16 ≤ t.val / 16 % 16) (h : Fin 2) (r x : Fin 512) :
    scoreH (BitVec.ofNat 32 (grid0.coords t 2)) (BitVec.ofNat 32 (grid0.coords t 3)) (iblk m c 0 t) (iblk m c 1 t) h r x
      = sc (Q m c) (K m c) (t.val / 1024) (t.val / 16 % 16 * 512 + r.val) (t.val / 256 % 4 * 2 + h.val) (t.val % 16 * 512 + x.val) := by
  obtain ⟨-, -, -, -, -, -, -, -, e2, e3⟩ := place t
  unfold scoreH sc
  rw [e2, e3]
  have hs := seen_iff (i := t.val / 16 % 16) (by omega) hj r x
  by_cases hx : t.val % 16 * 512 + x.val ≤ t.val / 16 % 16 * 512 + r.val
  · rw [select_pos (hs.2 hx), if_pos hx]
    refine congrArg (· * scale) (Finset.sum_congr rfl fun y _ => ?_)
    rw [read_q, read_k m c t _ _ hj]
    have e : t.val / 256 % 4 * 256 + (col h y).val = (t.val / 256 % 4 * 2 + h.val) * 128 + y.val := by
      show t.val / 256 % 4 * 256 + (128 * h.val + y.val) = _
      omega
    rw [e]
  · rw [select_neg (fun e => hx (hs.1 e)), if_neg hx]

/-- The values of a point are those of the formula. -/
theorem values_eq (hv : Attend.Real (V' m c)) (t : Fin cfg0.N) (hj : t.val % 16 ≤ t.val / 16 % 16) (h : Fin 2) (d : Fin 64) (x : Fin 512) :
    valH (iblk m c 2 t) h d x
      = ((vl (V' m c) (t.val / 1024) ((t.val / 256 % 4 * 2 + h.val) * 64 + d.val) (t.val % 16 * 512 + x.val) : ℝ) : EReal) := by
  unfold valH vl
  rw [← rd_real hv, read_v m c t _ _ hj]
  have e : t.val / 256 % 4 * 128 + (ocol h d).val = (t.val / 256 % 4 * 2 + h.val) * 64 + d.val := by
    show t.val / 256 % 4 * 128 + (64 * h.val + d.val) = _
    omega
  rw [e]

/-- A point's scores, as its payloads spell them. -/
abbrev scoresAt (t : Fin cfg0.N) (h : Fin 2) (r : Fin 512) : Fin 512 → EReal :=
  scoreH (BitVec.ofNat 32 (grid0.coords t 2)) (BitVec.ofNat 32 (grid0.coords t 3)) (iblk m c 0 t) (iblk m c 1 t) h r

/-- The four contents a point leaves. -/
abbrev Left : Type := Vec Ideal S512x128 .bf16 × Vec Ideal S2x512x1 .f32 × Vec Ideal S2x512x1 .f32 × Vec Ideal S2x512x64 .f32

/-- A block's update of the running quantities `M`, `L`, `A` of a row and column of a head. -/
def Upd (t : Fin cfg0.N) (s : Left) (h : Fin 2) (r : Fin 512) (d : Fin 64) (M L A : EReal) : Prop :=
  s.2.1 (ix3 h r 0) = newMax (scoresAt m c t h r) M ∧ s.2.2.1 (ix3 h r 0) = newSum (scoresAt m c t h r) M L
    ∧ s.2.2.2 (ix3 h r d) = newAcc (scoresAt m c t h r) (valH (iblk m c 2 t) h d) M A

/-- What stood before a point. -/
abbrev prev (t : Fin cfg0.N) : Left := outsAt0 m c (t.val - 1) (Nat.lt_of_le_of_lt (Nat.sub_le _ _) t.isLt)

theorem upd_first (t : Fin cfg0.N) (h0 : t.val % 16 = 0) (h : Fin 2) (r : Fin 512) (d : Fin 64) :
    Upd m c t (outsAt0 m c t.val t.isLt) h r d ⊥ 0 0 := by
  unfold Upd
  rw [outsAt0_A m c t h0 (by omega) (by omega)]
  dsimp only
  rw [sout_A_0, sout_A_1, sout_A_2]
  exact ⟨rfl, rfl, rfl⟩

theorem upd_next (t : Fin cfg0.N) (h0 : ¬t.val % 16 = 0) (h1 : t.val % 16 ≤ t.val / 16 % 16) (h : Fin 2) (r : Fin 512) (d : Fin 64) :
    Upd m c t (outsAt0 m c t.val t.isLt) h r d ((prev m c t).2.1 (ix3 h r 0)) ((prev m c t).2.2.1 (ix3 h r 0)) ((prev m c t).2.2.2 (ix3 h r d)) := by
  unfold Upd
  by_cases h2 : t.val % 16 = 15
  · rw [outsAt0_E m c t h0 h1 h2]
    dsimp only
    rw [sout_E_0, sout_E_1, sout_E_2]
    exact ⟨rfl, rfl, rfl⟩
  · rw [outsAt0_D m c t h0 h1 h2]
    dsimp only
    rw [sout_D_0, sout_D_1, sout_D_2]
    exact ⟨rfl, rfl, rfl⟩

/-- Past the diagonal the scratch stays. -/
theorem stays (t : Fin cfg0.N) (h0 : ¬t.val % 16 = 0) (h1 : ¬t.val % 16 ≤ t.val / 16 % 16) :
    (outsAt0 m c t.val t.isLt).2 = (prev m c t).2 := by
  by_cases h2 : t.val % 16 = 15
  · rw [outsAt0_C m c t h0 h1 h2]
    dsimp only
    rw [sout_C_0, sout_C_1, sout_C_2]
  · rw [outsAt0_B m c t h0 h1 h2]
    dsimp only
    rw [sout_B_0, sout_B_1, sout_B_2]

/-- The last point of a row of blocks writes the quotients of what the scratch then holds. -/
theorem quot (t : Fin cfg0.N) (ht : t.val % 16 = 15) (h : Fin 2) (r : Fin 512) (d : Fin 64) :
    (outsAt0 m c t.val t.isLt).1 (ix2 r (ocol h d))
      = Ideal.div ((outsAt0 m c t.val t.isLt).2.2.2 (ix3 h r d)) ((outsAt0 m c t.val t.isLt).2.2.1 (ix3 h r 0)) := by
  by_cases hj : t.val % 16 ≤ t.val / 16 % 16
  · rw [outsAt0_E m c t (by omega) hj ht]
    dsimp only
    rw [out_E, sout_E_1, sout_E_2]
  · rw [outsAt0_C m c t (by omega) hj ht]
    dsimp only
    rw [out_C, sout_C_1, sout_C_2]

/-- What the scratch holds after point `t`, at a row and a column of a head: the running maximum and the two sums over the
    keys up to the end of the last block computed. -/
def Inv (t : ℕ) (s : Vec Ideal S2x512x1 .f32 × Vec Ideal S2x512x1 .f32 × Vec Ideal S2x512x64 .f32)
    (h : Fin 2) (r : Fin 512) (d : Fin 64) : Prop :=
  Rep 1 (s.1 (ix3 h r 0)) (s.2.1 (ix3 h r 0)) (s.2.2 (ix3 h r d))
    (sumL (sc (Q m c) (K m c) (t / 1024) (t / 16 % 16 * 512 + r.val) (t / 256 % 4 * 2 + h.val)) (min (t / 16 % 16) (t % 16) * 512 + 512))
    (sumA (sc (Q m c) (K m c) (t / 1024) (t / 16 % 16 * 512 + r.val) (t / 256 % 4 * 2 + h.val))
      (vl (V' m c) (t / 1024) ((t / 256 % 4 * 2 + h.val) * 64 + d.val)) (min (t / 16 % 16) (t % 16) * 512 + 512))

section
variable (hq : Attend.Real (Q m c)) (hk : Attend.Real (K m c)) (hv : Attend.Real (V' m c))
include hq hk hv

/-- One block more. -/
theorem step (t : Fin cfg0.N) (hj : t.val % 16 ≤ t.val / 16 % 16) (h : Fin 2) (r : Fin 512) (d : Fin 64) {M L A : EReal}
    (hp : Rep 1 M L A
      (sumL (sc (Q m c) (K m c) (t.val / 1024) (t.val / 16 % 16 * 512 + r.val) (t.val / 256 % 4 * 2 + h.val)) (t.val % 16 * 512))
      (sumA (sc (Q m c) (K m c) (t.val / 1024) (t.val / 16 % 16 * 512 + r.val) (t.val / 256 % 4 * 2 + h.val))
        (vl (V' m c) (t.val / 1024) ((t.val / 256 % 4 * 2 + h.val) * 64 + d.val)) (t.val % 16 * 512)))
    (s : Left) (hs : Upd m c t s h r d M L A) : Inv m c t.val s.2 h r d := by
  obtain ⟨e0, e1, e2⟩ := hs
  unfold Inv
  rw [min_eq_right hj, e0, e1, e2]
  exact rep_block (by omega) _ (fun κ => sc_ne_top hq hk _ _ _ κ) _ _ (sc_ne_bot hq hk (by omega)) hp _ _
    (fun x => scores_eq m c t hj h r x) (fun x => values_eq m c hv t hj h d x)

/-- The invariant, at every point. -/
theorem inv (n : ℕ) : ∀ (hn : n < cfg0.N) (h : Fin 2) (r : Fin 512) (d : Fin 64), Inv m c n (outsAt0 m c n hn).2 h r d := by
  induction n using Nat.strong_induction_on with
  | _ n ih =>
    intro hn h r d
    have hN : n < 4096 := lt_of_lt_of_eq hn N_0
    by_cases h0 : n % 16 = 0
    · refine step m c hq hk hv ⟨n, hn⟩ (by show n % 16 ≤ n / 16 % 16; omega) h r d (M := ⊥) (L := 0) (A := 0) ?_ _ (upd_first m c ⟨n, hn⟩ h0 h r d)
      rw [show (⟨n, hn⟩ : Fin cfg0.N).val = n from rfl, h0, Nat.zero_mul]
      exact rep_start 1
    · have hp := ih (n - 1) (by omega) (by omega) h r d
      unfold Inv at hp
      rw [show (n - 1) / 1024 = n / 1024 by omega, show (n - 1) / 16 % 16 = n / 16 % 16 by omega, show (n - 1) / 256 % 4 = n / 256 % 4 by omega] at hp
      by_cases hj : n % 16 ≤ n / 16 % 16
      · rw [show min (n / 16 % 16) ((n - 1) % 16) * 512 + 512 = n % 16 * 512 by omega] at hp
        exact step m c hq hk hv ⟨n, hn⟩ hj h r d hp _ (upd_next m c ⟨n, hn⟩ h0 hj h r d)
      · rw [show min (n / 16 % 16) ((n - 1) % 16) = min (n / 16 % 16) (n % 16) by omega] at hp
        have e := stays m c ⟨n, hn⟩ h0 hj
        dsimp only at e
        rw [e]
        exact hp

/-- The block a last point writes, at an entry. -/
theorem block (t : Fin cfg0.N) (ht : t.val % 16 = 15) (h : Fin 2) (r : Fin 512) (d : Fin 64) :
    (outsAt0 m c t.val t.isLt).1 (ix2 r (ocol h d))
      = attn (Q m c) (K m c) (V' m c) (t.val / 1024 * 8192 + (t.val / 16 % 16 * 512 + r.val)) ((t.val / 256 % 4 * 2 + h.val) * 64 + d.val) := by
  rw [quot m c t ht]
  have hi := inv m c hq hk hv t.val t.isLt h r d
  unfold Inv at hi
  unfold attn
  rw [show (t.val / 1024 * 8192 + (t.val / 16 % 16 * 512 + r.val)) / 8192 = t.val / 1024 by omega,
    show (t.val / 1024 * 8192 + (t.val / 16 % 16 * 512 + r.val)) % 8192 = t.val / 16 % 16 * 512 + r.val by omega,
    show ((t.val / 256 % 4 * 2 + h.val) * 64 + d.val) / 64 = t.val / 256 % 4 * 2 + h.val by omega]
  exact rep_final _ (fun κ => sc_ne_top hq hk _ _ _ κ) _ (sc_ne_bot hq hk (by omega)) (by omega) (by omega)
    (fun κ hκ => sc_of_lt _ _ (by omega)) hi

/-- The array the kernel leaves. -/
theorem array : (dats m 0 c).arrAt 3 cfg0.N = fun i => attn (Q m c) (K m c) (V' m c) (i 0).val (i 1).val := by
  refine (dats m 0 c).arrAt_eq_of_covers 3 _ (by decide +kernel) fun t hf y => ?_
  have ht : t.val % 16 = 15 := (flush0_3 t).mp hf
  obtain ⟨-, -, -, -, -, -, e0, e1, -⟩ := place t
  rw [after0_3]
  blk_simp [e0, e1]
  have h0 : (y 0).val < 512 := (y 0).isLt
  have h1 : (y 1).val < 128 := (y 1).isLt
  have hy : y = ix2 (⟨(y 0).val, h0⟩ : Fin 512) (ocol ⟨(y 1).val / 64, by omega⟩ ⟨(y 1).val % 64, by omega⟩) := by
    funext a
    apply Fin.ext
    match a with
    | ⟨0, _⟩ => rfl
    | ⟨1, _⟩ => show (y 1).val = 64 * ((y 1).val / 64) + (y 1).val % 64; omega
  refine (congrArg _ hy).trans ((block m c hq hk hv t ht _ _ _).trans ?_)
  dsimp only
  congr 1 <;> omega

end

end Cert.FlashIdeal.Attention
-- ==== Proof.FlashRefRead.lean ====
/- The reference's attention, read entry by entry over the extended reals. -/
module

public import proofs.«01_k».proof.Proof.Gen.FlashRefIdeal.Run
public import proofs.«01_k».proof.Proof.AttendSpec
public import Idealize.ShloMosaic.Lib.Pipeline.ValueKit

@[expose] public section

set_option maxRecDepth 16384

noncomputable section

namespace Cert.FlashRefIdeal.Read

open Cert.Attend Cert.Softmax Cert.FlashRefIdeal Cert.FlashRefIdeal.Gen Idealize.ShloMosaic Idealize.ShloMosaic.TcCoe Idealize.SL.Sem

/-- The masked scores. -/
def scores (q k : FVec Ideal S32768x1024 .bf16) : FVec Ideal S4x8x8192x8192 .f32 :=
  select (broadcastInDim S4x8x8192x8192 ![0, 1, 2, 3] bcast_S1x1x8192x8192_S4x8x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) (Host.divf (Host.dotGeneral dot_S4x8192x8x128_S4x8192x8x128_S4x8x8192x8192_3_3_1_1_02_02 none (shapeCast _ q shapeCasts_S32768x1024_S4x8192x8x128) (shapeCast _ k shapeCasts_S32768x1024_S4x8192x8x128)) (broadcastInDim S4x8x8192x8192 ![] bcast_S_S4x8x8192x8192 (Host.sqrt (constant S_ .f32 0x42C00000#32)))) (broadcastInDim S4x8x8192x8192 ![] bcast_S_S4x8x8192x8192 (id (constant S_ .f32 0xFF800000#32)))

/-- The largest score of each row. -/
def rowMax (s : FVec Ideal S4x8x8192x8192 .f32) : FVec Ideal S4x8x8192 .f32 :=
  maximumf (broadcastInDim S4x8x8192 ![] bcast_S_S4x8x8192 (constant S_ .f32 0xFF800000#32)) (Host.reduce FloatOps.maximumf s (constant S_ .f32 0xFF800000#32) reducesTo_S4x8x8192x8192_S4x8x8192_d3 h_S_)

/-- The exponentials of the scores less their row's largest. -/
def expo (s : FVec Ideal S4x8x8192x8192 .f32) : FVec Ideal S4x8x8192x8192 .f32 :=
  Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 (rowMax s))))

/-- The softmax of an array of exponentials. -/
def soft (e : FVec Ideal S4x8x8192x8192 .f32) : FVec Ideal S4x8x8192x8192 .bf16 :=
  truncf .bf16 (Host.divf e (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd e (constant S_ .f32 0x00000000#32) reducesTo_S4x8x8192x8192_S4x8x8192_d3 h_S_)))) bitsLt_bf16_f32

/-- The weighted values. -/
def out (p : FVec Ideal S4x8x8192x8192 .bf16) (v : FVec Ideal S32768x512 .bf16) : FVec Ideal S32768x512 .bf16 :=
  shapeCast _ (truncf .bf16 (transpose S4x8192x8x64 [0, 3, 1, 2] (Host.dotGeneral dot_S4x8192x8x64_S4x8x8192x8192_S4x8x64x8192_1_3_3_2_02_01 none (shapeCast _ v shapeCasts_S32768x512_S4x8192x8x64) p) transposes_S4x8x64x8192_S4x8192x8x64_0_3_1_2) bitsLt_bf16_f32) shapeCasts_S4x8192x8x64_S32768x512

theorem res_eq (m : (ℓ : Loc nD τ sig) → Buf (Elt Ideal) ℓ) (c : Dev nD) :
    Value.res_main_v30 m c = out (soft (expo (scores (m ((c.tc : Thread nD τ).loc main_arg0)) (m ((c.tc : Thread nD τ).loc main_arg1))))) (m ((c.tc : Thread nD τ).loc main_arg2)) := rfl

theorem neg_inf : Ideal.ofBits .f32 0xFF800000#32 = (⊥ : EReal) := by simp [Ideal.ofBits, Ideal.ieee]

/-- A quotient by the root of 96 is a product with its inverse. -/
theorem div_root (x : EReal) : Ideal.div x (Ideal.sqrt (Ideal.ofBits .f32 0x42C00000#32)) = x * scale := by
  have h : Ideal.ofBits .f32 0x42C00000#32 = ((96 : ℝ) : EReal) := by
    simp [Ideal.ofBits, Ideal.ieee]
    rw [← EReal.coe_mul]
    norm_num
  rw [h, Ideal.sqrt_coe]
  simp only [show ¬(96 : ℝ) < 0 from by norm_num, ↓reduceIte,
    Ideal.div_coe (show Real.sqrt 96 ≠ 0 from (Real.sqrt_pos.mpr (by norm_num)).ne'), one_div]
  rfl

/-- A score is that of the formula. -/
theorem scores_apply (q k : FVec Ideal S32768x1024 .bf16) (b : Fin 4) (H : Fin 8) (R κ : Fin 8192) :
    scores q k (ix4 b H R κ) = sc q k b.val R.val H.val κ.val := by
  pointwise [scores]
  unfold sc
  have hs := sle_iff κ.val R.val (by omega) (by omega)
  by_cases h : κ.val ≤ R.val
  · rw [select_pos (hs.2 h), if_pos h]
    refine (div_root _).trans (congrArg (· * scale) (Finset.sum_congr rfl fun x _ => ?_))
    rw [rd_eq q _ _ rfl rfl, rd_eq k _ _ rfl rfl]
  · rw [select_neg (fun e => h (hs.1 e)), if_neg h]
    exact neg_inf

/-- A maximum over the last of four axes. -/
theorem max_last {A B C N : ℕ} (x : FVec Ideal ⟨4, ![A, B, C, N]⟩ .f32) (init : FVec Ideal S_ .f32) (h0 : init (Shape.Idx.first h_S_) = (⊥ : EReal))
    (h : (⟨4, ![A, B, C, N]⟩ : Shape).ReducesTo [3] ⟨3, ![A, B, C]⟩) (b : Fin A) (c : Fin B) (r : Fin C) :
    Host.reduce FloatOps.maximumf x init h h_S_ (ix3 b c r) = Finset.univ.fold max (⊥ : EReal) fun κ : Fin N => x (ix4 b c r κ) := by
  have h' : (⟨4, ![A, B, C, N]⟩ : Shape).Reduces [3] ⟨3, ![A, B, C]⟩ := ⟨rfl, Nat.succ_pos _, h.2⟩
  rw [← h0]
  refine (Host.reduce_eq_fold_single (max : EReal → EReal → EReal) x init h h' h_S_ (ix3 b c r)).trans ?_
  refine congrArg (fun f => Finset.univ.fold max (init (Shape.Idx.first h_S_) : EReal) f) (funext fun κ => congrArg x (funext fun a => Fin.ext ?_))
  match a with
  | ⟨0, _⟩ => rfl
  | ⟨1, _⟩ => rfl
  | ⟨2, _⟩ => rfl
  | ⟨3, _⟩ => rfl

theorem maximumf_apply {s : Shape} (a b : FVec Ideal s .f32) (i : s.Idx) : maximumf a b i = max (a i : EReal) (b i) := rfl

theorem const_apply {s : Shape} (h : S_.BroadcastsInDim s ![]) (w : BitVec 32) (i : s.Idx) :
    broadcastInDim s ![] h (constant (F := Ideal) S_ .f32 w) i = Ideal.ofBits .f32 w := rfl

theorem rowMax_apply (s : FVec Ideal S4x8x8192x8192 .f32) (b : Fin 4) (H : Fin 8) (R : Fin 8192) :
    rowMax s (ix3 b H R) = Finset.univ.fold max (⊥ : EReal) fun κ : Fin 8192 => s (ix4 b H R κ) := by
  unfold rowMax
  rw [maximumf_apply, const_apply, max_last s _ neg_inf reducesTo_S4x8x8192x8192_S4x8x8192_d3 b H R, neg_inf]
  exact max_eq_right bot_le

theorem expo_apply (s : FVec Ideal S4x8x8192x8192 .f32) (b : Fin 4) (H : Fin 8) (R κ : Fin 8192) :
    expo s (ix4 b H R κ) = Ideal.exp (s (ix4 b H R κ) - rowMax s (ix3 b H R)) := by
  pointwise [expo]

theorem soft_apply (e : FVec Ideal S4x8x8192x8192 .f32) (b : Fin 4) (H : Fin 8) (R κ : Fin 8192) :
    soft e (ix4 b H R κ) = Ideal.div (e (ix4 b H R κ)) (∑ x, e (ix4 b H R x)) := by
  pointwise [soft]

theorem out_apply (p : FVec Ideal S4x8x8192x8192 .bf16) (v : FVec Ideal S32768x512 .bf16) (r : Fin 32768) (y : Fin 512) :
    out p v (ix2 r y) = ∑ x : Fin 8192, v (ix2 ⟨r.val / 8192 * 8192 + x.val, by omega⟩ y)
      * p (ix4 ⟨r.val / 8192, by omega⟩ ⟨y.val / 64, by omega⟩ ⟨r.val % 8192, by omega⟩ x) := by
  pointwise [out]

/-- The reference's attention is the formula. -/
theorem out_eq (q k : FVec Ideal S32768x1024 .bf16) (v : FVec Ideal S32768x512 .bf16) (hq : Attend.Real q) (hk : Attend.Real k)
    (hv : Attend.Real v) (r : Fin 32768) (y : Fin 512) : out (soft (expo (scores q k))) v (ix2 r y) = attn q k v r.val y.val := by
  rw [out_apply]
  simp only [soft_apply, expo_apply, rowMax_apply, scores_apply]
  refine softmax_dot (sc q k (r.val / 8192) (r.val % 8192) (y.val / 64)) (fun κ => sc_ne_top hq hk _ _ _ κ) (vl v (r.val / 8192) y.val)
    (sc_ne_bot hq hk (Nat.zero_le _)) (by omega) _ _ (fun x => rfl) fun x => ?_
  rw [rd_eq v _ _ rfl rfl]
  exact rd_real hv _ _

end Cert.FlashRefIdeal.Read
-- ==== Proof.Finite.lean ====
/- The precondition `finite`, read: every entry of every argument is a real number. -/
module

public import proofs.«01_k».proof.Proof.Gen.Pre_finite
public import Idealize.ShloMosaic.Lib.Pipeline.ValueKit
public import Idealize.ShloMosaic.Lib.ReduceAll

@[expose] public section

set_option maxRecDepth 16384

noncomputable section

namespace Cert.Pre

open Idealize.ShloMosaic Cert.Pre_finite

attribute [local instance] Cert.Pre_finite.Gen.facts

/-- An entry whose absolute value compares below infinity is neither infinity. -/
theorem real_of_lt {s : Shape} (x b : FVec Ideal s .bf16) (i : s.Idx) (hb : b i = (⊤ : EReal))
    (h : cmpf .olt (Host.absf x) b i = 1#1) : (x i : EReal) ≠ ⊤ ∧ (x i : EReal) ≠ ⊥ := by
  have h' : BitVec.ofBool (decide (max (x i : EReal) (-(x i : EReal)) < b i)) = 1#1 := h
  rw [hb] at h'
  have hlt : max (x i : EReal) (-(x i : EReal)) < ⊤ := by
    by_contra hn
    rw [decide_eq_false hn] at h'
    exact absurd h' (by decide)
  constructor
  · intro e; rw [e] at hlt; simp at hlt
  · intro e; rw [e] at hlt; simp at hlt

theorem ofBits_inf : Ideal.ofBits .bf16 0x7F80#16 = ⊤ := by simp [Ideal.ofBits, Ideal.ieee]

/-- Under the precondition the entries of all three arguments are real numbers. -/
theorem finite_reads (q k : FVec Ideal S32768x1024 .bf16) (v : FVec Ideal S32768x512 .bf16)
    (h : fn q k v = fun _ => 1#1) :
    (∀ i, (q i : EReal) ≠ ⊤ ∧ (q i : EReal) ≠ ⊥) ∧ (∀ i, (k i : EReal) ≠ ⊤ ∧ (k i : EReal) ≠ ⊥)
      ∧ (∀ i, (v i : EReal) ≠ ⊤ ∧ (v i : EReal) ≠ ⊥) := by
  have h0 := congrFun h (fun a => a.elim0)
  unfold fn at h0
  obtain ⟨h1, hv⟩ := IntOp.andi_eq_one.1 h0
  obtain ⟨h2, hk⟩ := IntOp.andi_eq_one.1 h1
  obtain ⟨-, hq⟩ := IntOp.andi_eq_one.1 h2
  haveI : Subsingleton S_.Idx := ⟨fun a b => funext fun x => x.elim0⟩
  exact ⟨fun i => real_of_lt _ _ i ofBits_inf (Host.reduce_andi_all _ _ _ _ _ hq i),
    fun i => real_of_lt _ _ i ofBits_inf (Host.reduce_andi_all _ _ _ _ _ hk i),
    fun i => real_of_lt _ _ i ofBits_inf (Host.reduce_andi_all _ _ _ _ _ hv i)⟩

end Cert.Pre
-- ==== Proof.FlashClaims.lean ====
/- The value claim of the prompt attention: kernel and reference leave the same array. -/
module

public import proofs.«01_k».proof.Defs
public import proofs.«01_k».proof.Proof.FlashValue
public import proofs.«01_k».proof.Proof.FlashRefRead
public import proofs.«01_k».proof.Proof.Finite
public import Idealize.ShloMosaic.Adequacy
public import Idealize.ShloMosaic.Init

@[expose] public section

set_option maxRecDepth 16384

noncomputable section

namespace Cert.FlashClaims

open Idealize.ShloMosaic Idealize.SL.Sem Cert.Attend Cert.FlashIdeal.Attention

attribute [local instance] Cert.FlashIdeal.Gen.facts Cert.FlashRefIdeal.Gen.facts Cert.Pre_finite.Gen.facts

/-- The array the reference leaves is the attention of its three arguments, when their entries are real. -/
theorem reference (m : (ℓ : Loc Cert.FlashRefIdeal.nD Cert.FlashRefIdeal.τ Cert.FlashRefIdeal.sig) → Buf (Elt Ideal) ℓ)
    (c : Dev Cert.FlashRefIdeal.nD) (q k : FVec Ideal Cert.FlashRefIdeal.S32768x1024 .bf16)
    (v : FVec Ideal Cert.FlashRefIdeal.S32768x512 .bf16)
    (eq : m ((c.tc : Thread Cert.FlashRefIdeal.nD Cert.FlashRefIdeal.τ).loc Cert.FlashRefIdeal.main_arg0) = q)
    (ek : m ((c.tc : Thread Cert.FlashRefIdeal.nD Cert.FlashRefIdeal.τ).loc Cert.FlashRefIdeal.main_arg1) = k)
    (ev : m ((c.tc : Thread Cert.FlashRefIdeal.nD Cert.FlashRefIdeal.τ).loc Cert.FlashRefIdeal.main_arg2) = v)
    (hq : Attend.Real q) (hk : Attend.Real k) (hv : Attend.Real v) :
    Cert.FlashRefIdeal.Value.res_main_v30 m c = fun i => attn q k v (i 0).val (i 1).val := by
  rw [Cert.FlashRefIdeal.Read.res_eq, eq, ek, ev]
  funext i
  have e : i = ix2 (i 0) (i 1) := by
    funext a
    fin_cases a <;> rfl
  exact (congrArg (Cert.FlashRefIdeal.Read.out
      (Cert.FlashRefIdeal.Read.soft (Cert.FlashRefIdeal.Read.expo (Cert.FlashRefIdeal.Read.scores q k))) v) e).trans
    (Cert.FlashRefIdeal.Read.out_eq q k v hq hk hv (i 0) (i 1))

/-- On finite arguments on which the two memories agree, the kernel's result array and the reference's are one array: the
    causal attention of the queries, keys and values. -/
theorem algebraic : Cert.algebraic_FlashIdeal_FlashRefIdeal_pre_finite := by
  intro m g m' g' hpre hagree
  refine ⟨fun c => fun i => attn (Q m c) (K m c) (V' m c) (i 0).val (i 1).val, ?_, ?_⟩
  · refine (θ_run Cert.FlashIdeal.defs _ _).mono (fun r h c => ⟨(h c).1.trans ?_, (h c).2⟩)
      (Cert.FlashIdeal.Value.run_blocks (F := Ideal) m g)
    obtain ⟨hq, hk, hv⟩ := Cert.Pre.finite_reads _ _ _ (hpre c)
    exact array m c hq hk hv
  · refine (θ_run Cert.FlashRefIdeal.defs _ _).mono (fun r h c => ⟨(h c).1.trans ?_, (h c).2⟩)
      (Cert.FlashRefIdeal.Value.run (F := Ideal) m' g')
    obtain ⟨hq, hk, hv⟩ := Cert.Pre.finite_reads _ _ _ (hpre c)
    exact reference m' c _ _ _ (hagree c).1 (hagree c).2.1 (hagree c).2.2 hq hk hv

/-- The reference ends with its arguments as they were and every semaphore at zero. -/
theorem frame_ri : Cert.quiescent_FlashRefIdeal := fun m ρ _ =>
  (θ_run Cert.FlashRefIdeal.defs _ _).mono (fun r h => ⟨fun c => (h c).2, sem_eq_zero_of_no_sems (by decide) r.2⟩)
    (Cert.FlashRefIdeal.Value.run (F := Ideal) m ρ)

end Cert.FlashClaims
-- ==== Proof.LayerSpec.lean ====
/- The formulas of the layer, row by row: the normalisation, the products, and the merge of the three branches. -/
module

public import Idealize.ShloMosaic.Lib.Pipeline.ValueKit

@[expose] public section

noncomputable section

namespace Cert.Layer

open Idealize.ShloMosaic

/-- A row divided by the root of its mean square (plus a small constant), times a gain. -/
def normed (x g : Fin 1024 → EReal) (κ : Fin 1024) : EReal :=
  x κ * Ideal.rsqrt (Ideal.div (∑ y, x y * x y) (Ideal.ofBits .f32 0x44800000#32) + Ideal.ofBits .f32 0x358637BD#32) * g κ

/-- The product of a row with a column. -/
def prod {n : ℕ} (x w : Fin n → EReal) : EReal := ∑ κ, x κ * w κ

/-- The gelu, by its tanh form. -/
def act (v : EReal) : EReal :=
  v * (Ideal.ofBits .f32 0x3F000000#32 * (1
    + Ideal.tanh (Ideal.ofBits .f32 0x3F4C422A#32 * (v + Ideal.ofBits .f32 0x3D372713#32 * (v * (v * v))))))

/-- The activated row of the scan's branch: its result plus its gain times its input. -/
def mixed (y u d : Fin 512 → EReal) (κ : Fin 512) : EReal := act (y κ + d κ * u κ)

/-- The gated linear unit of a row. -/
def glu (a : Fin 512 → EReal) (w : Fin 512 → Fin 512 → EReal) (b : Fin 512 → EReal) (n : Fin 512) : EReal :=
  a n * Ideal.logistic (prod a (w n) + b n)

/-- A branch's product with its weights, times its gate. -/
def branch (s : EReal) (o w : Fin 512 → EReal) : EReal := Ideal.logistic s * prod o w

/-- The sum of the three gated branches. -/
def joined (s0 s1 s2 : Fin 1024 → EReal) (o0 o1 o2 : Fin 512 → EReal) (w0 w1 w2 : Fin 1024 → Fin 512 → EReal) (n : Fin 1024) : EReal :=
  branch (s0 n) o0 (w0 n) + branch (s1 n) o1 (w1 n) + branch (s2 n) o2 (w2 n)

/-- The layer's row after the branches. -/
def summed (x j : Fin 1024 → EReal) (w : Fin 1024 → Fin 1024 → EReal) (n : Fin 1024) : EReal := x n + prod j (w n)

end Cert.Layer
-- ==== Proof.ProjValue.lean ====
/- The array the input projection's kernel leaves: each normalised row times each column of the weights. -/
module

public import proofs.«01_k».proof.Proof.LayerSpec
public import proofs.«01_k».proof.Proof.Gen.ProjIdeal.Value
public import Idealize.ShloMosaic.Lib.Pipeline.ValueKit
public import Idealize.ShloMosaic.Lib.Pipeline.ReadBack

@[expose] public section

set_option maxRecDepth 16384

noncomputable section

namespace Cert.ProjIdeal.Product

open Cert.Layer Cert.ProjIdeal Cert.ProjIdeal.Gen Idealize.ShloMosaic Idealize.ShloMosaic.TcCoe Idealize.SL.Sem

/-- The normalised rows of a block, at an entry. -/
theorem pay1_apply (x : Vec Ideal S512x1024 .f32) (g : Vec Ideal S1x1024 .f32) (r : Fin 512) (κ : Fin 1024) :
    k0_pay1 x g (ix2 r κ) = normed (fun y => x (ix2 r y)) (fun y => g (ix2 0 y)) κ := by
  pointwise [k0_pay1]
  rfl

/-- The product of a block, at an entry. -/
theorem pay2_apply (h : Vec Ideal S512x1024 .bf16) (w : Vec Ideal S1024x2176 .bf16) (r : Fin 512) (n : Fin 2176) :
    k0_pay2 h w (ix2 r n) = prod (fun κ : Fin 1024 => h (ix2 r κ)) (fun κ => w (ix2 κ n)) := by
  pointwise [k0_pay2]
  rfl

section
variable (c : Dev nD) (i : grid0.Coords) (arg2 : Memref sig .tc .vmem S512x1024 .f32) (harg2 : arg2.IsWhole)
  (arg3 : Memref sig .tc .vmem S1x1024 .f32) (harg3 : arg3.IsWhole) (arg4 : Memref sig .tc .vmem S1024x2176 .bf16) (harg4 : arg4.IsWhole)
  (arg5 : Memref sig .tc .vmem S512x2176 .f32) (harg5 : arg5.IsWhole) (arg6 : Memref sig .tc .vmem S512x1024 .bf16) (harg6 : arg6.IsWhole)
  (x0 : Vec Ideal S512x1024 .f32) (x1 : Vec Ideal S1x1024 .f32) (x2 : Vec Ideal S1024x2176 .bf16) (xs0 : Vec Ideal S512x1024 .bf16)

/-- A first point of a row block leaves the normalised rows in scratch. -/
theorem rows_A (hc0 : cond0_0 i) : sout0_A_0 c i arg2 harg2 arg3 harg3 arg4 harg4 arg5 harg5 arg6 harg6 hc0 x0 x1 x2 = k0_pay1 x0 x1 := by
  frame_open
  simp (disch := decide) only [↓ View.readCov_skip, ↓ View.readCov_cons_toLoadRect, ↓ View.readCov_fill]
  frame_out

/-- A first point writes the product of the rows it has just normalised. -/
theorem out_A (hc0 : cond0_0 i) :
    out0_A_3 c i arg2 harg2 arg3 harg3 arg4 harg4 arg5 harg5 arg6 harg6 hc0 x0 x1 x2 = k0_pay2 (k0_pay1 x0 x1) x2 := by
  frame_open
  simp (disch := decide) only [↓ View.readCov_skip, ↓ View.readCov_cons_toLoadRect, ↓ View.readCov_fill]
  frame_out

/-- A later point writes the product of the rows in scratch. -/
theorem out_B (hc0 : ¬cond0_0 i) :
    out0_B_3 c i arg2 harg2 arg3 harg3 arg4 harg4 arg5 harg5 arg6 harg6 hc0 x0 x1 x2 xs0 = k0_pay2 xs0 x2 := by
  frame_open
  simp (disch := decide) only [↓ View.readCov_skip, ↓ View.readCov_cons_toLoadRect, ↓ View.readCov_fill]
  frame_out

end

/-- The block indices of a point. -/
theorem place : ∀ t : Fin grid0.N,
    (cfg0.win 0).index t 0 = t.val / 3 ∧ (cfg0.win 0).index t 1 = 0 ∧ (cfg0.win 1).index t 0 = 0 ∧ (cfg0.win 1).index t 1 = 0
    ∧ (cfg0.win 2).index t 0 = 0 ∧ (cfg0.win 2).index t 1 = t.val % 3
    ∧ (cfg0.win 3).index t 0 = t.val / 3 ∧ (cfg0.win 3).index t 1 = t.val % 3 := by decide +kernel

variable (m : (ℓ : Loc nD τ sig) → Buf (Elt Ideal) ℓ) (c : Dev nD)

/-- The three arguments. -/
abbrev X : Vec Ideal S32768x1024 .f32 := m ((c.tc : Thread nD τ).loc main_arg0)
abbrev G : Vec Ideal S1x1024 .f32 := m ((c.tc : Thread nD τ).loc main_arg1)
abbrev W : Vec Ideal S1024x6528 .bf16 := m ((c.tc : Thread nD τ).loc main_arg2)

/-- Row `r` of the block of rows that point `n` works on. -/
def row (n : ℕ) (hn : n < cfg0.N) (r : Fin 512) : Fin 32768 :=
  ⟨n / 3 * 512 + r.val, by have : n < 192 := lt_of_lt_of_eq hn N_0; omega⟩

/-- Column `y` of the block of columns that point `n` works on. -/
def column (n : ℕ) (y : Fin 2176) : Fin 6528 := ⟨n % 3 * 2176 + y.val, by omega⟩

theorem read_x (t : Fin cfg0.N) (r : Fin 512) (κ : Fin 1024) : iblk m c 0 t (ix2 r κ) = X m c (ix2 (row t.val t.isLt r) κ) := by
  obtain ⟨e0, e1, -⟩ := place t
  unfold row
  blk_ext [iblk, V, e0, e1]

theorem read_g (t : Fin cfg0.N) (κ : Fin 1024) : iblk m c 1 t (ix2 0 κ) = G m c (ix2 0 κ) := by
  obtain ⟨-, -, e0, e1, -⟩ := place t
  blk_ext [iblk, V, e0, e1]

theorem read_w (t : Fin cfg0.N) (κ : Fin 1024) (n : Fin 2176) : iblk m c 2 t (ix2 κ n) = W m c (ix2 κ (column t.val n)) := by
  obtain ⟨-, -, -, -, e0, e1, -⟩ := place t
  unfold column
  blk_ext [iblk, V, e0, e1]

/-- The normalised entry of a row of the argument. -/
def entry (x : Vec Ideal S32768x1024 .f32) (g : Vec Ideal S1x1024 .f32) (r : Fin 32768) (κ : Fin 1024) : EReal :=
  normed (fun y => x (ix2 r y)) (fun y => g (ix2 0 y)) κ

theorem rows_eq (t : Fin cfg0.N) (r : Fin 512) (κ : Fin 1024) :
    k0_pay1 (iblk m c 0 t) (iblk m c 1 t) (ix2 r κ) = entry (X m c) (G m c) (row t.val t.isLt r) κ := by
  refine (pay1_apply _ _ r κ).trans ?_
  unfold entry
  exact congr (congr (congrArg normed (funext fun y => read_x m c t r y)) (funext fun y => read_g m c t y)) rfl

/-- After every point the scratch holds the normalised rows of the point's block. -/
theorem held (n : ℕ) : ∀ (hn : n < cfg0.N) (r : Fin 512) (κ : Fin 1024),
    (outsAt0 m c n hn).2 (ix2 r κ) = entry (X m c) (G m c) (row n hn r) κ := by
  induction n with
  | zero =>
    intro hn r κ
    rw [outsAt0_A m c ⟨0, hn⟩ (Nat.zero_mod _)]
    dsimp only
    rw [rows_A]
    exact rows_eq m c ⟨0, hn⟩ r κ
  | succ n ih =>
    intro hn r κ
    by_cases h0 : (n + 1) % 3 = 0
    · rw [outsAt0_A m c ⟨n + 1, hn⟩ h0]
      dsimp only
      rw [rows_A]
      exact rows_eq m c ⟨n + 1, hn⟩ r κ
    · rw [outsAt0_B m c ⟨n + 1, hn⟩ h0]
      dsimp only
      refine (ih (Nat.lt_of_succ_lt hn) r κ).trans ?_
      congr 1
      unfold row
      apply Fin.ext
      show n / 3 * 512 + r.val = (n + 1) / 3 * 512 + r.val
      omega

/-- The block a first point writes, at an entry. -/
theorem block_A (t : Fin cfg0.N) (h0 : t.val % 3 = 0) (r : Fin 512) (n : Fin 2176) :
    (outsAt0 m c t.val t.isLt).1 (ix2 r n)
      = prod (entry (X m c) (G m c) (row t.val t.isLt r)) (fun κ => W m c (ix2 κ (column t.val n))) := by
  rw [outsAt0_A m c t h0]
  dsimp only
  rw [out_A]
  refine (pay2_apply _ _ r n).trans ?_
  exact congr (congrArg prod (funext fun κ => rows_eq m c t r κ)) (funext fun κ => read_w m c t κ n)

/-- A later point works on the rows of the point before. -/
theorem row_pred (t : Fin cfg0.N) (h0 : ¬t.val % 3 = 0) (h : t.val - 1 < cfg0.N) (r : Fin 512) : row (t.val - 1) h r = row t.val t.isLt r := by
  unfold row
  apply Fin.ext
  show (t.val - 1) / 3 * 512 + r.val = t.val / 3 * 512 + r.val
  omega

/-- The block a later point writes, at an entry. -/
theorem block_B (t : Fin cfg0.N) (h0 : ¬t.val % 3 = 0) (r : Fin 512) (n : Fin 2176) :
    (outsAt0 m c t.val t.isLt).1 (ix2 r n)
      = prod (entry (X m c) (G m c) (row t.val t.isLt r)) (fun κ => W m c (ix2 κ (column t.val n))) := by
  have h : t.val - 1 < cfg0.N := Nat.lt_of_le_of_lt (Nat.sub_le _ _) t.isLt
  have hh := fun κ => held m c (t.val - 1) h r κ
  rw [row_pred t h0 h r] at hh
  rw [outsAt0_B m c t h0]
  dsimp only
  rw [out_B]
  refine (pay2_apply _ _ r n).trans ?_
  exact congr (congrArg prod (funext hh)) (funext fun κ => read_w m c t κ n)

/-- The block a point writes, at an entry. -/
theorem block (t : Fin cfg0.N) (r : Fin 512) (n : Fin 2176) :
    (outsAt0 m c t.val t.isLt).1 (ix2 r n)
      = prod (entry (X m c) (G m c) (row t.val t.isLt r)) (fun κ => W m c (ix2 κ (column t.val n))) := by
  by_cases h0 : t.val % 3 = 0
  · exact block_A m c t h0 r n
  · exact block_B m c t h0 r n

/-- The entry of the result at a row and a column given as numbers. -/
def result (x : Vec Ideal S32768x1024 .f32) (g : Vec Ideal S1x1024 .f32) (w : Vec Ideal S1024x6528 .bf16) (a b : ℕ) : EReal :=
  prod (entry x g ⟨a % 32768, Nat.mod_lt _ (by decide)⟩) (fun κ => w (ix2 κ ⟨b % 6528, Nat.mod_lt _ (by decide)⟩))

theorem result_eq (x : Vec Ideal S32768x1024 .f32) (g : Vec Ideal S1x1024 .f32) (w : Vec Ideal S1024x6528 .bf16) (r : Fin 32768) (n : Fin 6528) :
    prod (entry x g r) (fun κ => w (ix2 κ n)) = result x g w r.val n.val := by
  have er : r = ⟨r.val % 32768, Nat.mod_lt _ (by decide)⟩ := Fin.ext (Nat.mod_eq_of_lt r.isLt).symm
  have en : n = ⟨n.val % 6528, Nat.mod_lt _ (by decide)⟩ := Fin.ext (Nat.mod_eq_of_lt n.isLt).symm
  unfold result
  rw [← er, ← en]

/-- The array the kernel leaves. -/
theorem array : (dats m 0 c).arrAt 3 cfg0.N = fun i => result (X m c) (G m c) (W m c) (i 0).val (i 1).val := by
  refine (dats m 0 c).arrAt_eq_of_covers 3 _ (by decide +kernel) fun t hf y => ?_
  obtain ⟨-, -, -, -, -, -, e0, e1⟩ := place t
  rw [after0_3]
  blk_simp [e0, e1]
  have h0 : (y 0).val < 512 := (y 0).isLt
  have h1 : (y 1).val < 2176 := (y 1).isLt
  have hy : y = ix2 (⟨(y 0).val, h0⟩ : Fin 512) (⟨(y 1).val, h1⟩ : Fin 2176) := by
    funext a
    apply Fin.ext
    match a with
    | ⟨0, _⟩ => rfl
    | ⟨1, _⟩ => rfl
  refine (congrArg _ hy).trans ((block m c t _ _).trans ((result_eq _ _ _ _ _).trans ?_))
  unfold row column
  congr 1 <;> omega

end Cert.ProjIdeal.Product
-- ==== Proof.ProjClaims.lean ====
/- The value claim of the input projection: kernel and reference leave the same array. -/
module

public import proofs.«01_k».proof.Defs
public import proofs.«01_k».proof.Proof.ProjValue
public import proofs.«01_k».proof.Proof.Gen.ProjRefIdeal.Run
public import Idealize.ShloMosaic.Adequacy
public import Idealize.ShloMosaic.Init

@[expose] public section

set_option maxRecDepth 16384

noncomputable section

namespace Cert.ProjRefIdeal.Read

open Cert.Layer Cert.ProjRefIdeal Cert.ProjRefIdeal.Gen Idealize.ShloMosaic Idealize.ShloMosaic.TcCoe Idealize.SL.Sem

/-- The normalised rows. -/
def rows (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)

/-- The products. -/
def out (h : FVec Ideal S32768x1024 .f32) (w : FVec Ideal S1024x6528 .bf16) : FVec Ideal S32768x6528 .f32 :=
  Host.dotGeneral dot_S32768x1024_S1024x6528_S32768x6528_1_0_0_1_n_n none h (extf .f32 w bitsLt_bf16_f32)

theorem rows_apply (x : FVec Ideal S32768x1024 .f32) (g : FVec Ideal S1x1024 .f32) (r : Fin 32768) (κ : Fin 1024) :
    rows x g (ix2 r κ) = normed (fun y => x (ix2 r y)) (fun y => g (ix2 0 y)) κ := by
  pointwise [rows]
  rfl

theorem out_apply (h : FVec Ideal S32768x1024 .f32) (w : FVec Ideal S1024x6528 .bf16) (r : Fin 32768) (n : Fin 6528) :
    out h w (ix2 r n) = prod (fun κ : Fin 1024 => h (ix2 r κ)) (fun κ => w (ix2 κ n)) := by
  pointwise [out]
  rfl

/-- The reference's array, entry by entry. -/
theorem out_eq (x : FVec Ideal S32768x1024 .f32) (g : FVec Ideal S1x1024 .f32) (w : FVec Ideal S1024x6528 .bf16) :
    out (rows x g) w = fun i => Cert.ProjIdeal.Product.result x g w (i 0).val (i 1).val := by
  funext i
  have e : i = ix2 (i 0) (i 1) := by
    funext a
    fin_cases a <;> rfl
  refine (congrArg (out (rows x g) w) e).trans ((out_apply _ w (i 0) (i 1)).trans ?_)
  refine Eq.trans ?_ (Cert.ProjIdeal.Product.result_eq x g w (i 0) (i 1))
  exact congr (congrArg prod (funext fun κ => rows_apply x g (i 0) κ)) rfl

end Cert.ProjRefIdeal.Read

namespace Cert.ProjClaims

open Idealize.ShloMosaic Idealize.SL.Sem

attribute [local instance] Cert.ProjIdeal.Gen.facts Cert.ProjRefIdeal.Gen.facts

/-- The kernel's result array and the reference's are one array: the normalised rows times the weights. -/
theorem algebraic : Cert.algebraic_ProjIdeal_ProjRefIdeal := by
  intro m g m' g' _ hagree
  refine ⟨_, (θ_run Cert.ProjIdeal.defs _ _).mono (fun r h c => ⟨(h c).1.trans (Cert.ProjIdeal.Product.array m c), (h c).2⟩)
      (Cert.ProjIdeal.Value.run_blocks (F := Ideal) m g), ?_⟩
  refine (θ_run Cert.ProjRefIdeal.defs _ _).mono (fun r h c => ⟨(h c).1.trans ?_, (h c).2⟩)
      (Cert.ProjRefIdeal.Value.run (F := Ideal) m' g')
  rw [(hagree c).1, (hagree c).2.1, (hagree c).2.2]
  exact Cert.ProjRefIdeal.Read.out_eq _ _ _

/-- The reference ends with its arguments as they were and every semaphore at zero. -/
theorem frame_ri : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

end Cert.ProjClaims
-- ==== Proof.MergeBody.lean ====
/- The operations of the branch merge's kernel on a block, entry by entry. -/
module

public import proofs.«01_k».proof.Proof.LayerSpec
public import proofs.«01_k».proof.Proof.Gen.MergeIdeal.Value
public import Idealize.ShloMosaic.Lib.Pipeline.ValueKit
public import Idealize.ShloMosaic.Lib.Pipeline.ReadBack

@[expose] public section

set_option maxRecDepth 16384

noncomputable section

namespace Cert.MergeIdeal.Branches

open Cert.Layer Cert.MergeIdeal Cert.MergeIdeal.Gen Idealize.ShloMosaic Idealize.ShloMosaic.TcCoe Idealize.SL.Sem

/-- The gated linear unit of a block. -/
theorem pay2_apply (y : Vec Ideal S256x512 .f32) (d : Vec Ideal S1x512 .f32) (u : Vec Ideal S256x512 .f32) (w : Vec Ideal S512x512 .bf16)
    (b : Vec Ideal S1x512 .f32) (r : Fin 256) (n : Fin 512) :
    k0_pay2 y d u w b (ix2 r n) = glu (mixed (fun κ => y (ix2 r κ)) (fun κ => u (ix2 r κ)) (fun κ => d (ix2 0 κ)))
      (fun n κ => w (ix2 κ n)) (fun n => b (ix2 0 n)) n := by
  pointwise [k0_pay2]
  rfl

/-- The first gated branch of a block. -/
theorem pay3_apply (s : Vec Ideal S256x1024 .f32) (o : Vec Ideal S256x512 .bf16) (w : Vec Ideal S1x512x1024 .bf16) (r : Fin 256) (n : Fin 1024) :
    k0_pay3 s o w (ix2 r n) = branch (s (ix2 r n)) (fun κ => o (ix2 r κ)) (fun κ => w (ix3 0 κ n)) := by
  pointwise [k0_pay3]
  rfl

/-- The rows of a block after the branches. -/
theorem pay4_apply (g : FVec Ideal S256x512 .f32) (a : FVec Ideal S256x1024 .f32) (s1 : Vec Ideal S256x1024 .f32) (w1 : Vec Ideal S1x512x1024 .bf16)
    (s2 : Vec Ideal S256x1024 .f32) (o2 : Vec Ideal S256x512 .bf16) (w2 : Vec Ideal S1x512x1024 .bf16) (x : Vec Ideal S256x1024 .f32)
    (wo : Vec Ideal S1024x1024 .bf16) (r : Fin 256) (n : Fin 1024) :
    k0_pay4 g a s1 w1 s2 o2 w2 x wo (ix2 r n)
      = summed (fun y => x (ix2 r y))
          (fun y => a (ix2 r y) + branch (s1 (ix2 r y)) (fun κ => g (ix2 r κ)) (fun κ => w1 (ix3 0 κ y))
            + branch (s2 (ix2 r y)) (fun κ => o2 (ix2 r κ)) (fun κ => w2 (ix3 0 κ y)))
          (fun n y => wo (ix2 y n)) n := by
  pointwise [k0_pay4]
  rfl

/-- The normalised rows of a block. -/
theorem pay5_apply (g : FVec Ideal S256x512 .f32) (a : FVec Ideal S256x1024 .f32) (s1 : Vec Ideal S256x1024 .f32) (w1 : Vec Ideal S1x512x1024 .bf16)
    (s2 : Vec Ideal S256x1024 .f32) (o2 : Vec Ideal S256x512 .bf16) (w2 : Vec Ideal S1x512x1024 .bf16) (x : Vec Ideal S256x1024 .f32)
    (wo : Vec Ideal S1024x1024 .bf16) (gf : Vec Ideal S1x1024 .f32) (r : Fin 256) (n : Fin 1024) :
    k0_pay5 g a s1 w1 s2 o2 w2 x wo gf (ix2 r n)
      = normed (fun y => k0_pay4 g a s1 w1 s2 o2 w2 x wo (ix2 r y)) (fun y => gf (ix2 0 y)) n := by
  unfold k0_pay5
  generalize k0_pay4 g a s1 w1 s2 o2 w2 x wo = z
  pointwise []
  rfl

/-- The query products of a block. -/
theorem pay1_apply (h : FVec Ideal S256x1024 .f32) (w : Vec Ideal S1024x1024 .bf16) (r : Fin 256) (n : Fin 1024) :
    k0_pay1 h w (ix2 r n) = prod (fun κ : Fin 1024 => h (ix2 r κ)) (fun κ => w (ix2 κ n)) := by
  pointwise [k0_pay1]
  rfl

/-- The three branches' weights. -/
def slab0 (w : Vec Ideal S3x512x1024 .bf16) : Vec Ideal S1x512x1024 .bf16 :=
  View.ld w (Rect.unit ![0, 0, 0] ![1, 512, 1024] inb_S3x512x1024_S1x512x1024_0_0_0)
def slab1 (w : Vec Ideal S3x512x1024 .bf16) : Vec Ideal S1x512x1024 .bf16 :=
  View.ld w (Rect.unit ![1, 0, 0] ![1, 512, 1024] inb_S3x512x1024_S1x512x1024_1_0_0)
def slab2 (w : Vec Ideal S3x512x1024 .bf16) : Vec Ideal S1x512x1024 .bf16 :=
  View.ld w (Rect.unit ![2, 0, 0] ![1, 512, 1024] inb_S3x512x1024_S1x512x1024_2_0_0)

theorem slab_apply (k : ℕ) (h : Fin 3) (hk : h.val = k) (w : Vec Ideal S3x512x1024 .bf16)
    (e : ∀ a, (![k, 0, 0] : Fin 3 → ℕ) a + (![1, 512, 1024] : Fin 3 → ℕ) a ≤ (![3, 512, 1024] : Fin 3 → ℕ) a) (κ : Fin 512) (n : Fin 1024) :
    View.ld (S := ⟨3, ![3, 512, 1024]⟩) w (Rect.unit ![k, 0, 0] ![1, 512, 1024] e) (ix3 0 κ n : (⟨3, ![1, 512, 1024]⟩ : Shape).Idx) = w (ix3 h κ n) := by
  refine View.ld_unit_apply_of _ _ _ _ _ _ fun a => ?_
  match a with
  | ⟨0, _⟩ => exact hk
  | ⟨1, _⟩ => exact (Nat.zero_add _).symm
  | ⟨2, _⟩ => exact (Nat.zero_add _).symm

theorem slab0_apply (w : Vec Ideal S3x512x1024 .bf16) (κ : Fin 512) (n : Fin 1024) : slab0 w (ix3 0 κ n) = w (ix3 0 κ n) := slab_apply 0 0 rfl w _ κ n
theorem slab1_apply (w : Vec Ideal S3x512x1024 .bf16) (κ : Fin 512) (n : Fin 1024) : slab1 w (ix3 0 κ n) = w (ix3 1 κ n) := slab_apply 1 1 rfl w _ κ n
theorem slab2_apply (w : Vec Ideal S3x512x1024 .bf16) (κ : Fin 512) (n : Fin 1024) : slab2 w (ix3 0 κ n) = w (ix3 2 κ n) := slab_apply 2 2 rfl w _ κ n

section
variable (c : Dev nD) (i : grid0.Coords)
  (arg1 : Memref sig .tc .vmem S256x1024 .f32) (harg1 : arg1.IsWhole)
  (arg2 : Memref sig .tc .vmem S256x512 .bf16) (harg2 : arg2.IsWhole)
  (arg3 : Memref sig .tc .vmem S256x512 .f32) (harg3 : arg3.IsWhole)
  (arg4 : Memref sig .tc .vmem S256x512 .f32) (harg4 : arg4.IsWhole)
  (arg5 : Memref sig .tc .vmem S256x512 .bf16) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S1x512 .f32) (harg9 : arg9.IsWhole)
  (arg10 : Memref sig .tc .vmem S512x512 .bf16) (harg10 : arg10.IsWhole)
  (arg11 : Memref sig .tc .vmem S1x512 .f32) (harg11 : arg11.IsWhole)
  (arg12 : Memref sig .tc .vmem S3x512x1024 .bf16) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x1024 .bf16) (harg15 : arg15.IsWhole)
  (arg16 : Memref sig .tc .vmem S256x1024 .f32) (harg16 : arg16.IsWhole)
  (arg17 : Memref sig .tc .vmem S256x1024 .f32) (harg17 : arg17.IsWhole)
  (arg18 : Memref sig .tc .vmem S256x1024 .f32) (harg18 : arg18.IsWhole)
  (x0 : Vec Ideal S256x1024 .f32) (x1 : Vec Ideal S256x512 .bf16) (x2 : Vec Ideal S256x512 .f32) (x3 : Vec Ideal S256x512 .f32) (x4 : Vec Ideal S256x512 .bf16) (x5 : Vec Ideal S256x1024 .f32) (x6 : Vec Ideal S256x1024 .f32) (x7 : Vec Ideal S256x1024 .f32) (x8 : Vec Ideal S1x512 .f32) (x9 : Vec Ideal S512x512 .bf16) (x10 : Vec Ideal S1x512 .f32) (x11 : Vec Ideal S3x512x1024 .bf16) (x12 : Vec Ideal S1024x1024 .bf16) (x13 : Vec Ideal S1x1024 .f32) (x14 : Vec Ideal S1024x1024 .bf16)

/-- A point writes the rows after the branches. -/
theorem out_15 :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14
      = k0_pay4 (k0_pay2 x2 x8 x3 x9 x10) (k0_pay3 x5 x1 (slab0 x11)) x6 (slab1 x11) x7 x4 (slab2 x11) x0 x12 := by
  unfold slab0 slab1 slab2
  frame_open
  simp (disch := decide) only [↓ View.readCov_skip, ↓ View.readCov_cons_toLoadRect, ↓ View.readCov_fill]
  frame_out

/-- A point writes the normalised rows. -/
theorem out_16 :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14
      = k0_pay5 (k0_pay2 x2 x8 x3 x9 x10) (k0_pay3 x5 x1 (slab0 x11)) x6 (slab1 x11) x7 x4 (slab2 x11) x0 x12 x13 := by
  unfold slab0 slab1 slab2
  frame_open
  simp (disch := decide) only [↓ View.readCov_skip, ↓ View.readCov_cons_toLoadRect, ↓ View.readCov_fill]
  frame_out

/-- A point writes the products of the normalised rows. -/
theorem out_17 :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14
      = k0_pay1 (k0_pay5 (k0_pay2 x2 x8 x3 x9 x10) (k0_pay3 x5 x1 (slab0 x11)) x6 (slab1 x11) x7 x4 (slab2 x11) x0 x12 x13) x14 := by
  unfold slab0 slab1 slab2
  frame_open
  simp (disch := decide) only [↓ View.readCov_skip, ↓ View.readCov_cons_toLoadRect, ↓ View.readCov_fill]
  frame_out

end

end Cert.MergeIdeal.Branches
-- ==== Proof.MergeValue.lean ====
/- The arrays the branch merge's kernel leaves, entry by entry. -/
module

public import proofs.«01_k».proof.Proof.MergeBody

@[expose] public section

set_option maxRecDepth 16384

noncomputable section

namespace Cert.MergeIdeal.Branches

open Cert.Layer Cert.MergeIdeal Cert.MergeIdeal.Gen Idealize.ShloMosaic Idealize.ShloMosaic.TcCoe Idealize.SL.Sem

/-! ## The formulas -/

section
variable (x : Vec Ideal S32768x1024 .f32) (oc : Vec Ideal S32768x512 .bf16) (ys : Vec Ideal S32768x512 .f32) (z : Vec Ideal S32768x6528 .f32)
  (oa : Vec Ideal S32768x512 .bf16) (d : Vec Ideal S1x512 .f32) (wg : Vec Ideal S512x512 .bf16) (bg : Vec Ideal S1x512 .f32)
  (wb : Vec Ideal S3x512x1024 .bf16) (wo : Vec Ideal S1024x1024 .bf16) (gf : Vec Ideal S1x1024 .f32) (wp : Vec Ideal S1024x1024 .bf16)

/-- The gates of branch `k`, of a row. -/
def gates (k : Fin 3) (r : Fin 32768) (n : Fin 1024) : EReal := z (ix2 r ⟨3072 + 1024 * k.val + n.val, by omega⟩)

/-- The scan's input, of a row. -/
def input (r : Fin 32768) (κ : Fin 512) : EReal := z (ix2 r ⟨1536 + κ.val, by omega⟩)

/-- The scan's branch, of a row. -/
def scanned (r : Fin 32768) : Fin 512 → EReal :=
  glu (mixed (fun κ => ys (ix2 r κ)) (input z r) (fun κ => d (ix2 0 κ))) (fun n κ => wg (ix2 κ n)) (fun n => bg (ix2 0 n))

/-- The layer's row after the branches. -/
def after (r : Fin 32768) : Fin 1024 → EReal :=
  summed (fun y => x (ix2 r y))
    (joined (gates z 0 r) (gates z 1 r) (gates z 2 r) (fun κ => oc (ix2 r κ)) (scanned ys z d wg bg r) (fun κ => oa (ix2 r κ))
      (fun n κ => wb (ix3 0 κ n)) (fun n κ => wb (ix3 1 κ n)) (fun n κ => wb (ix3 2 κ n)))
    (fun n y => wo (ix2 y n))

/-- The same row, normalised. -/
def settled (r : Fin 32768) : Fin 1024 → EReal := normed (after x oc ys z oa d wg bg wb wo r) (fun y => gf (ix2 0 y))

/-- The products of the normalised row. -/
def queries (r : Fin 32768) (n : Fin 1024) : EReal := prod (settled x oc ys z oa d wg bg wb wo gf r) (fun κ => wp (ix2 κ n))

end

/-- A family of rows at a row and a column given as numbers. -/
def entryAt (f : Fin 32768 → Fin 1024 → EReal) (a b : ℕ) : EReal := f ⟨a % 32768, Nat.mod_lt _ (by decide)⟩ ⟨b % 1024, Nat.mod_lt _ (by decide)⟩

theorem entryAt_eq (f : Fin 32768 → Fin 1024 → EReal) (r : Fin 32768) (n : Fin 1024) : f r n = entryAt f r.val n.val := by
  have er : r = ⟨r.val % 32768, Nat.mod_lt _ (by decide)⟩ := Fin.ext (Nat.mod_eq_of_lt r.isLt).symm
  have en : n = ⟨n.val % 1024, Nat.mod_lt _ (by decide)⟩ := Fin.ext (Nat.mod_eq_of_lt n.isLt).symm
  unfold entryAt
  rw [← er, ← en]

/-! ## What a point reads -/

/-- The block indices of a point. -/
theorem place : ∀ t : Fin grid0.N,
    ((cfg0.win 0).index t 0 = t.val ∧ (cfg0.win 0).index t 1 = 0) ∧ ((cfg0.win 1).index t 0 = t.val ∧ (cfg0.win 1).index t 1 = 0)
    ∧ ((cfg0.win 2).index t 0 = t.val ∧ (cfg0.win 2).index t 1 = 0) ∧ ((cfg0.win 4).index t 0 = t.val ∧ (cfg0.win 4).index t 1 = 0)
    ∧ ((cfg0.win 8).index t 0 = 0 ∧ (cfg0.win 8).index t 1 = 0) ∧ ((cfg0.win 9).index t 0 = 0 ∧ (cfg0.win 9).index t 1 = 0)
    ∧ ((cfg0.win 10).index t 0 = 0 ∧ (cfg0.win 10).index t 1 = 0)
    ∧ ((cfg0.win 11).index t 0 = 0 ∧ (cfg0.win 11).index t 1 = 0 ∧ (cfg0.win 11).index t 2 = 0)
    ∧ ((cfg0.win 12).index t 0 = 0 ∧ (cfg0.win 12).index t 1 = 0) ∧ ((cfg0.win 13).index t 0 = 0 ∧ (cfg0.win 13).index t 1 = 0)
    ∧ ((cfg0.win 14).index t 0 = 0 ∧ (cfg0.win 14).index t 1 = 0) := by decide +kernel

/-- The block indices of the columns a point reads of the projected input. -/
theorem place_z : ∀ t : Fin grid0.N,
    ((cfg0.win 3).index t 0 = t.val ∧ (cfg0.win 3).index t 1 = 3) ∧ ((cfg0.win 5).index t 0 = t.val ∧ (cfg0.win 5).index t 1 = 3)
    ∧ ((cfg0.win 6).index t 0 = t.val ∧ (cfg0.win 6).index t 1 = 4) ∧ ((cfg0.win 7).index t 0 = t.val ∧ (cfg0.win 7).index t 1 = 5) := by decide +kernel

/-- The block indices a point writes. -/
theorem place_o : ∀ t : Fin grid0.N,
    ((cfg0.win 15).index t 0 = t.val ∧ (cfg0.win 15).index t 1 = 0) ∧ ((cfg0.win 16).index t 0 = t.val ∧ (cfg0.win 16).index t 1 = 0)
    ∧ ((cfg0.win 17).index t 0 = t.val ∧ (cfg0.win 17).index t 1 = 0) := by decide +kernel

variable (m : (ℓ : Loc nD τ sig) → Buf (Elt Ideal) ℓ) (c : Dev nD)

/-- The arguments. -/
abbrev X : Vec Ideal S32768x1024 .f32 := m ((c.tc : Thread nD τ).loc main_arg0)
abbrev OC : Vec Ideal S32768x512 .bf16 := m ((c.tc : Thread nD τ).loc main_arg1)
abbrev YS : Vec Ideal S32768x512 .f32 := m ((c.tc : Thread nD τ).loc main_arg2)
abbrev Z : Vec Ideal S32768x6528 .f32 := m ((c.tc : Thread nD τ).loc main_arg3)
abbrev OA : Vec Ideal S32768x512 .bf16 := m ((c.tc : Thread nD τ).loc main_arg4)
abbrev D : Vec Ideal S1x512 .f32 := m ((c.tc : Thread nD τ).loc main_arg5)
abbrev WG : Vec Ideal S512x512 .bf16 := m ((c.tc : Thread nD τ).loc main_arg6)
abbrev BG : Vec Ideal S1x512 .f32 := m ((c.tc : Thread nD τ).loc main_arg7)
abbrev WB : Vec Ideal S3x512x1024 .bf16 := m ((c.tc : Thread nD τ).loc main_arg8)
abbrev WO : Vec Ideal S1024x1024 .bf16 := m ((c.tc : Thread nD τ).loc main_arg9)
abbrev GF : Vec Ideal S1x1024 .f32 := m ((c.tc : Thread nD τ).loc main_arg10)
abbrev WP : Vec Ideal S1024x1024 .bf16 := m ((c.tc : Thread nD τ).loc main_arg11)

/-- Row `r` of the block of rows that a point works on. -/
def row (t : Fin cfg0.N) (r : Fin 256) : Fin 32768 :=
  ⟨t.val * 256 + r.val, by have : t.val < 128 := lt_of_lt_of_eq t.isLt N_0; omega⟩

theorem read0 (t : Fin cfg0.N) (r : Fin 256) (κ : Fin 1024) : iblk m c 0 t (ix2 r κ) = X m c (ix2 (row t r) κ) := by
  obtain ⟨⟨e0, e1⟩, -⟩ := place t
  unfold row
  blk_ext [iblk, V, e0, e1]

theorem read1 (t : Fin cfg0.N) (r : Fin 256) (κ : Fin 512) : iblk m c 1 t (ix2 r κ) = OC m c (ix2 (row t r) κ) := by
  obtain ⟨-, ⟨e0, e1⟩, -⟩ := place t
  unfold row
  blk_ext [iblk, V, e0, e1]

theorem read2 (t : Fin cfg0.N) (r : Fin 256) (κ : Fin 512) : iblk m c 2 t (ix2 r κ) = YS m c (ix2 (row t r) κ) := by
  obtain ⟨-, -, ⟨e0, e1⟩, -⟩ := place t
  unfold row
  blk_ext [iblk, V, e0, e1]

theorem read4 (t : Fin cfg0.N) (r : Fin 256) (κ : Fin 512) : iblk m c 4 t (ix2 r κ) = OA m c (ix2 (row t r) κ) := by
  obtain ⟨-, -, -, ⟨e0, e1⟩, -⟩ := place t
  unfold row
  blk_ext [iblk, V, e0, e1]

theorem read8 (t : Fin cfg0.N) (κ : Fin 512) : iblk m c 8 t (ix2 0 κ) = D m c (ix2 0 κ) := by
  obtain ⟨-, -, -, -, ⟨e0, e1⟩, -⟩ := place t
  blk_ext [iblk, V, e0, e1]

theorem read10 (t : Fin cfg0.N) (κ : Fin 512) : iblk m c 10 t (ix2 0 κ) = BG m c (ix2 0 κ) := by
  obtain ⟨-, -, -, -, -, -, ⟨e0, e1⟩, -⟩ := place t
  blk_ext [iblk, V, e0, e1]

theorem read13 (t : Fin cfg0.N) (κ : Fin 1024) : iblk m c 13 t (ix2 0 κ) = GF m c (ix2 0 κ) := by
  obtain ⟨-, -, -, -, -, -, -, -, -, ⟨e0, e1⟩, -⟩ := place t
  blk_ext [iblk, V, e0, e1]

theorem read9 (t : Fin cfg0.N) (κ n : Fin 512) : iblk m c 9 t (ix2 κ n) = WG m c (ix2 κ n) := by
  obtain ⟨-, -, -, -, -, ⟨e0, e1⟩, -⟩ := place t
  blk_ext [iblk, V, e0, e1]

theorem read12 (t : Fin cfg0.N) (κ n : Fin 1024) : iblk m c 12 t (ix2 κ n) = WO m c (ix2 κ n) := by
  obtain ⟨-, -, -, -, -, -, -, -, ⟨e0, e1⟩, -⟩ := place t
  blk_ext [iblk, V, e0, e1]

theorem read14 (t : Fin cfg0.N) (κ n : Fin 1024) : iblk m c 14 t (ix2 κ n) = WP m c (ix2 κ n) := by
  obtain ⟨-, -, -, -, -, -, -, -, -, -, ⟨e0, e1⟩⟩ := place t
  blk_ext [iblk, V, e0, e1]

theorem read11 (t : Fin cfg0.N) (h : Fin 3) (κ : Fin 512) (n : Fin 1024) : iblk m c 11 t (ix3 h κ n) = WB m c (ix3 h κ n) := by
  obtain ⟨-, -, -, -, -, -, -, ⟨e0, e1, e2⟩, -⟩ := place t
  blk_ext [iblk, V, e0, e1, e2]

theorem read3 (t : Fin cfg0.N) (r : Fin 256) (κ : Fin 512) : X0_3 m c t (ix2 r κ) = input (Z m c) (row t r) κ := by
  obtain ⟨⟨e0, e1⟩, -⟩ := place_z t
  unfold X0_3 Pipeline.Window.fill input row
  rw [dif_pos (moved0_3 t _)]
  blk_ext [iblk, V, e0, e1]

theorem read5 (t : Fin cfg0.N) (r : Fin 256) (n : Fin 1024) : X0_5 m c t (ix2 r n) = gates (Z m c) 0 (row t r) n := by
  obtain ⟨-, ⟨e0, e1⟩, -⟩ := place_z t
  unfold X0_5 Pipeline.Window.fill gates row
  rw [dif_pos (moved0_5 t _)]
  blk_ext [iblk, V, e0, e1]

theorem read6 (t : Fin cfg0.N) (r : Fin 256) (n : Fin 1024) : X0_6 m c t (ix2 r n) = gates (Z m c) 1 (row t r) n := by
  obtain ⟨-, -, ⟨e0, e1⟩, -⟩ := place_z t
  unfold X0_6 Pipeline.Window.fill gates row
  rw [dif_pos (moved0_6 t _)]
  blk_ext [iblk, V, e0, e1]

theorem read7 (t : Fin cfg0.N) (r : Fin 256) (n : Fin 1024) : X0_7 m c t (ix2 r n) = gates (Z m c) 2 (row t r) n := by
  obtain ⟨-, -, -, ⟨e0, e1⟩⟩ := place_z t
  unfold X0_7 Pipeline.Window.fill gates row
  rw [dif_pos (moved0_7 t _)]
  blk_ext [iblk, V, e0, e1]

/-! ## What a point writes -/

theorem rows_after (t : Fin cfg0.N) (r : Fin 256) (n : Fin 1024) :
    k0_pay4 (k0_pay2 (iblk m c 2 t) (iblk m c 8 t) (X0_3 m c t) (iblk m c 9 t) (iblk m c 10 t)) (k0_pay3 (X0_5 m c t) (iblk m c 1 t) (slab0 (iblk m c 11 t))) (X0_6 m c t) (slab1 (iblk m c 11 t)) (X0_7 m c t) (iblk m c 4 t) (slab2 (iblk m c 11 t)) (iblk m c 0 t) (iblk m c 12 t) (ix2 r n)
      = after (X m c) (OC m c) (YS m c) (Z m c) (OA m c) (D m c) (WG m c) (BG m c) (WB m c) (WO m c) (row t r) n := by
  refine (pay4_apply _ _ _ _ _ _ _ _ _ r n).trans ?_
  simp only [pay3_apply, pay2_apply, slab0_apply, slab1_apply, slab2_apply, read0, read1, read2, read3, read4, read5, read6, read7, read8,
    read9, read10, read11, read12]
  rfl

theorem rows_settled (t : Fin cfg0.N) (r : Fin 256) (n : Fin 1024) :
    k0_pay5 (k0_pay2 (iblk m c 2 t) (iblk m c 8 t) (X0_3 m c t) (iblk m c 9 t) (iblk m c 10 t)) (k0_pay3 (X0_5 m c t) (iblk m c 1 t) (slab0 (iblk m c 11 t))) (X0_6 m c t) (slab1 (iblk m c 11 t)) (X0_7 m c t) (iblk m c 4 t) (slab2 (iblk m c 11 t)) (iblk m c 0 t) (iblk m c 12 t) (iblk m c 13 t) (ix2 r n)
      = settled (X m c) (OC m c) (YS m c) (Z m c) (OA m c) (D m c) (WG m c) (BG m c) (WB m c) (WO m c) (GF m c) (row t r) n := by
  refine (pay5_apply _ _ _ _ _ _ _ _ _ _ r n).trans ?_
  unfold settled
  exact congr (congr (congrArg normed (funext fun y => rows_after m c t r y)) (funext fun y => read13 m c t y)) rfl

theorem rows_queries (t : Fin cfg0.N) (r : Fin 256) (n : Fin 1024) :
    k0_pay1 (k0_pay5 (k0_pay2 (iblk m c 2 t) (iblk m c 8 t) (X0_3 m c t) (iblk m c 9 t) (iblk m c 10 t)) (k0_pay3 (X0_5 m c t) (iblk m c 1 t) (slab0 (iblk m c 11 t))) (X0_6 m c t) (slab1 (iblk m c 11 t)) (X0_7 m c t) (iblk m c 4 t) (slab2 (iblk m c 11 t)) (iblk m c 0 t) (iblk m c 12 t) (iblk m c 13 t)) (iblk m c 14 t) (ix2 r n)
      = queries (X m c) (OC m c) (YS m c) (Z m c) (OA m c) (D m c) (WG m c) (BG m c) (WB m c) (WO m c) (GF m c) (WP m c) (row t r) n := by
  refine (pay1_apply _ _ r n).trans ?_
  unfold queries
  exact congr (congrArg prod (funext fun y => rows_settled m c t r y)) (funext fun y => read14 m c t y n)

theorem block15 (t : Fin cfg0.N) (r : Fin 256) (n : Fin 1024) :
    (outsAt0 m c t).1 (ix2 r n) = after (X m c) (OC m c) (YS m c) (Z m c) (OA m c) (D m c) (WG m c) (BG m c) (WB m c) (WO m c) (row t r) n := by
  unfold outsAt0
  dsimp only
  rw [out_15]
  exact rows_after m c t r n

theorem block16 (t : Fin cfg0.N) (r : Fin 256) (n : Fin 1024) :
    (outsAt0 m c t).2.1 (ix2 r n) = settled (X m c) (OC m c) (YS m c) (Z m c) (OA m c) (D m c) (WG m c) (BG m c) (WB m c) (WO m c) (GF m c) (row t r) n := by
  unfold outsAt0
  dsimp only
  rw [out_16]
  exact rows_settled m c t r n

theorem block17 (t : Fin cfg0.N) (r : Fin 256) (n : Fin 1024) :
    (outsAt0 m c t).2.2 (ix2 r n) = queries (X m c) (OC m c) (YS m c) (Z m c) (OA m c) (D m c) (WG m c) (BG m c) (WB m c) (WO m c) (GF m c) (WP m c) (row t r) n := by
  unfold outsAt0
  dsimp only
  rw [out_17]
  exact rows_queries m c t r n

/-- The array of the rows after the branches. -/
theorem array15 : (dats m 0 c).arrAt 15 cfg0.N = fun i => entryAt (after (X m c) (OC m c) (YS m c) (Z m c) (OA m c) (D m c) (WG m c) (BG m c) (WB m c) (WO m c)) (i 0).val (i 1).val := by
  refine (dats m 0 c).arrAt_eq_of_covers 15 _ (by decide +kernel) fun t hf y => ?_
  obtain ⟨⟨e0, e1⟩, -⟩ := place_o t
  rw [after0_15]
  blk_simp [e0, e1]
  have h0 : (y 0).val < 256 := (y 0).isLt
  have h1 : (y 1).val < 1024 := (y 1).isLt
  have hy : y = ix2 (⟨(y 0).val, h0⟩ : Fin 256) (⟨(y 1).val, h1⟩ : Fin 1024) := by
    funext a
    apply Fin.ext
    match a with
    | ⟨0, _⟩ => rfl
    | ⟨1, _⟩ => rfl
  refine (congrArg _ hy).trans ((block15 m c t _ _).trans ((entryAt_eq _ _ _).trans ?_))
  unfold row
  congr 1 <;> omega

/-- The array of the normalised rows. -/
theorem array16 : (dats m 0 c).arrAt 16 cfg0.N = fun i => entryAt (settled (X m c) (OC m c) (YS m c) (Z m c) (OA m c) (D m c) (WG m c) (BG m c) (WB m c) (WO m c) (GF m c)) (i 0).val (i 1).val := by
  refine (dats m 0 c).arrAt_eq_of_covers 16 _ (by decide +kernel) fun t hf y => ?_
  obtain ⟨-, ⟨e0, e1⟩, -⟩ := place_o t
  rw [after0_16]
  blk_simp [e0, e1]
  have h0 : (y 0).val < 256 := (y 0).isLt
  have h1 : (y 1).val < 1024 := (y 1).isLt
  have hy : y = ix2 (⟨(y 0).val, h0⟩ : Fin 256) (⟨(y 1).val, h1⟩ : Fin 1024) := by
    funext a
    apply Fin.ext
    match a with
    | ⟨0, _⟩ => rfl
    | ⟨1, _⟩ => rfl
  refine (congrArg _ hy).trans ((block16 m c t _ _).trans ((entryAt_eq _ _ _).trans ?_))
  unfold row
  congr 1 <;> omega

/-- The array of the products of the normalised rows. -/
theorem array17 : (dats m 0 c).arrAt 17 cfg0.N = fun i => entryAt (queries (X m c) (OC m c) (YS m c) (Z m c) (OA m c) (D m c) (WG m c) (BG m c) (WB m c) (WO m c) (GF m c) (WP m c)) (i 0).val (i 1).val := by
  refine (dats m 0 c).arrAt_eq_of_covers 17 _ (by decide +kernel) fun t hf y => ?_
  obtain ⟨-, -, ⟨e0, e1⟩⟩ := place_o t
  rw [after0_17]
  blk_simp [e0, e1]
  have h0 : (y 0).val < 256 := (y 0).isLt
  have h1 : (y 1).val < 1024 := (y 1).isLt
  have hy : y = ix2 (⟨(y 0).val, h0⟩ : Fin 256) (⟨(y 1).val, h1⟩ : Fin 1024) := by
    funext a
    apply Fin.ext
    match a with
    | ⟨0, _⟩ => rfl
    | ⟨1, _⟩ => rfl
  refine (congrArg _ hy).trans ((block17 m c t _ _).trans ((entryAt_eq _ _ _).trans ?_))
  unfold row
  congr 1 <;> omega

end Cert.MergeIdeal.Branches
-- ==== Proof.MergeRefRead.lean ====
/- The branch merge's reference, read entry by entry. -/
module

public import proofs.«01_k».proof.Proof.MergeValue
public import proofs.«01_k».proof.Proof.Gen.MergeRefIdeal.Run

@[expose] public section

set_option maxRecDepth 16384

noncomputable section

namespace Cert.MergeRefIdeal.Read

open Cert.Layer Cert.MergeRefIdeal Cert.MergeRefIdeal.Gen Idealize.ShloMosaic Idealize.ShloMosaic.TcCoe Idealize.SL.Sem
open Cert.MergeIdeal.Branches (gates input scanned after settled queries entryAt entryAt_eq)

/-! ## The operations, in stages -/

/-- The gelu. -/
def gelu (v : FVec Ideal S32768x512 .f32) : FVec Ideal S32768x512 .f32 :=
  mulf v (mulf (broadcastInDim S32768x512 ![] bcast_S_S32768x512 (constant S_ .f32 0x3F000000#32)) (addf (broadcastInDim S32768x512 ![] bcast_S_S32768x512 (constant S_ .f32 0x3F800000#32)) (Host.tanh (mulf (broadcastInDim S32768x512 ![] bcast_S_S32768x512 (constant S_ .f32 0x3F4C422A#32)) (addf v (mulf (broadcastInDim S32768x512 ![] bcast_S_S32768x512 (constant S_ .f32 0x3D372713#32)) (mulf (mulf v v) v)))))))

/-- The scan's result plus its gain times its input. -/
def skip (ys : FVec Ideal S32768x512 .f32) (z : FVec Ideal S32768x6528 .f32) (d : FVec Ideal S1x512 .f32) : FVec Ideal S32768x512 .f32 :=
  addf ys (mulf (broadcastInDim S32768x512 ![0, 1] bcast_S1x512_S32768x512_0_1 d) (extractStridedSlice S32768x512 ![0, 1536] z slices_S32768x6528_S32768x512_0_1536))

/-- The gated linear unit. -/
def unit (v : FVec Ideal S32768x512 .f32) (wg : FVec Ideal S512x512 .bf16) (bg : FVec Ideal S1x512 .f32) : FVec Ideal S32768x512 .f32 :=
  mulf v (Host.divf (broadcastInDim S32768x512 ![] bcast_S_S32768x512 (constant S_ .f32 0x3F800000#32)) (addf (broadcastInDim S32768x512 ![] bcast_S_S32768x512 (constant S_ .f32 0x3F800000#32)) (Host.exp (Host.negf (addf (Host.dotGeneral dot_S32768x512_S512x512_S32768x512_1_0_0_1_n_n none v (extf .f32 wg bitsLt_bf16_f32)) (broadcastInDim S32768x512 ![0, 1] bcast_S1x512_S32768x512_0_1 bg))))))

/-- A gate. -/
def sigmoid (s : FVec Ideal S32768x1024 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf s)))

/-- A branch's product with its weights. -/
def times (o : FVec Ideal S32768x512 .f32) (w : FVec Ideal S1x512x1024 .bf16) : FVec Ideal S32768x1024 .f32 :=
  Host.dotGeneral dot_S32768x512_S512x1024_S32768x1024_1_0_0_1_n_n none o (extf .f32 (shapeCast _ w shapeCasts_S1x512x1024_S512x1024) bitsLt_bf16_f32)

/-- The product of rows with a square of weights. -/
def square (h : FVec Ideal S32768x1024 .f32) (w : FVec Ideal S1024x1024 .bf16) : FVec Ideal S32768x1024 .f32 :=
  Host.dotGeneral dot_S32768x1024_S1024x1024_S32768x1024_1_0_0_1_n_n none h (extf .f32 w bitsLt_bf16_f32)

/-- The normalisation. -/
def norm (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 g)

/-- The three gated branches' sum. -/
def join (oc : FVec Ideal S32768x512 .bf16) (os : FVec Ideal S32768x512 .f32) (z : FVec Ideal S32768x6528 .f32) (oa : FVec Ideal S32768x512 .bf16)
    (wb : FVec Ideal S3x512x1024 .bf16) : FVec Ideal S32768x1024 .f32 :=
  addf (addf
    (mulf (sigmoid (extractStridedSlice S32768x1024 ![0, 3072] z slices_S32768x6528_S32768x1024_0_3072))
      (times (extf .f32 oc bitsLt_bf16_f32) (extractStridedSlice S1x512x1024 ![0, 0, 0] wb slices_S3x512x1024_S1x512x1024_0_0_0)))
    (mulf (sigmoid (extractStridedSlice S32768x1024 ![0, 4096] z slices_S32768x6528_S32768x1024_0_4096))
      (times os (extractStridedSlice S1x512x1024 ![1, 0, 0] wb slices_S3x512x1024_S1x512x1024_1_0_0))))
    (mulf (sigmoid (extractStridedSlice S32768x1024 ![0, 5120] z slices_S32768x6528_S32768x1024_0_5120))
      (times (extf .f32 oa bitsLt_bf16_f32) (extractStridedSlice S1x512x1024 ![2, 0, 0] wb slices_S3x512x1024_S1x512x1024_2_0_0)))

/-! ## Each stage at an entry -/

theorem gelu_apply (v : FVec Ideal S32768x512 .f32) (r : Fin 32768) (n : Fin 512) : gelu v (ix2 r n) = act (v (ix2 r n)) := by
  pointwise [gelu]
  unfold act
  rw [mul_comm (v (ix2 r n) * v (ix2 r n)) (v (ix2 r n))]

theorem skip_apply (ys : FVec Ideal S32768x512 .f32) (z : FVec Ideal S32768x6528 .f32) (d : FVec Ideal S1x512 .f32) (r : Fin 32768) (n : Fin 512) :
    skip ys z d (ix2 r n) = ys (ix2 r n) + d (ix2 0 n) * input z r n := by
  pointwise [skip]
  rfl

theorem unit_apply (v : FVec Ideal S32768x512 .f32) (wg : FVec Ideal S512x512 .bf16) (bg : FVec Ideal S1x512 .f32) (r : Fin 32768) (n : Fin 512) :
    unit v wg bg (ix2 r n) = glu (fun κ => v (ix2 r κ)) (fun n κ => wg (ix2 κ n)) (fun n => bg (ix2 0 n)) n := by
  pointwise [unit]
  rfl

theorem sigmoid_apply (s : FVec Ideal S32768x1024 .f32) (r : Fin 32768) (n : Fin 1024) : sigmoid s (ix2 r n) = Ideal.logistic (s (ix2 r n)) := by
  pointwise [sigmoid]
  rfl

theorem times_apply (o : FVec Ideal S32768x512 .f32) (w : FVec Ideal S1x512x1024 .bf16) (r : Fin 32768) (n : Fin 1024) :
    times o w (ix2 r n) = prod (fun κ : Fin 512 => o (ix2 r κ)) (fun κ => w (ix3 0 κ n)) := by
  pointwise [times]
  rfl

theorem square_apply (h : FVec Ideal S32768x1024 .f32) (w : FVec Ideal S1024x1024 .bf16) (r : Fin 32768) (n : Fin 1024) :
    square h w (ix2 r n) = prod (fun κ : Fin 1024 => h (ix2 r κ)) (fun κ => w (ix2 κ n)) := by
  pointwise [square]
  rfl

theorem norm_apply (x : FVec Ideal S32768x1024 .f32) (g : FVec Ideal S1x1024 .f32) (r : Fin 32768) (n : Fin 1024) :
    norm x g (ix2 r n) = normed (fun y => x (ix2 r y)) (fun y => g (ix2 0 y)) n := by
  pointwise [norm]
  rfl

theorem cut_z0 (z : FVec Ideal S32768x6528 .f32) (r : Fin 32768) (n : Fin 1024) :
    (extractStridedSlice S32768x1024 ![0, 3072] z slices_S32768x6528_S32768x1024_0_3072 : FVec Ideal S32768x1024 .f32) (ix2 r n) = gates z 0 r n := by
  pointwise []
  rfl

theorem cut_z1 (z : FVec Ideal S32768x6528 .f32) (r : Fin 32768) (n : Fin 1024) :
    (extractStridedSlice S32768x1024 ![0, 4096] z slices_S32768x6528_S32768x1024_0_4096 : FVec Ideal S32768x1024 .f32) (ix2 r n) = gates z 1 r n := by
  pointwise []
  rfl

theorem cut_z2 (z : FVec Ideal S32768x6528 .f32) (r : Fin 32768) (n : Fin 1024) :
    (extractStridedSlice S32768x1024 ![0, 5120] z slices_S32768x6528_S32768x1024_0_5120 : FVec Ideal S32768x1024 .f32) (ix2 r n) = gates z 2 r n := by
  pointwise []
  rfl

theorem cut_w0 (w : FVec Ideal S3x512x1024 .bf16) (κ : Fin 512) (n : Fin 1024) :
    (extractStridedSlice S1x512x1024 ![0, 0, 0] w slices_S3x512x1024_S1x512x1024_0_0_0 : FVec Ideal S1x512x1024 .bf16) (ix3 0 κ n) = w (ix3 0 κ n) := by
  pointwise []
  try rfl

theorem cut_w1 (w : FVec Ideal S3x512x1024 .bf16) (κ : Fin 512) (n : Fin 1024) :
    (extractStridedSlice S1x512x1024 ![1, 0, 0] w slices_S3x512x1024_S1x512x1024_1_0_0 : FVec Ideal S1x512x1024 .bf16) (ix3 0 κ n) = w (ix3 1 κ n) := by
  pointwise []
  try rfl

theorem cut_w2 (w : FVec Ideal S3x512x1024 .bf16) (κ : Fin 512) (n : Fin 1024) :
    (extractStridedSlice S1x512x1024 ![2, 0, 0] w slices_S3x512x1024_S1x512x1024_2_0_0 : FVec Ideal S1x512x1024 .bf16) (ix3 0 κ n) = w (ix3 2 κ n) := by
  pointwise []
  try rfl

theorem extf_apply' {S : Shape} (v : FVec Ideal S .bf16) (i : S.Idx) : (extf .f32 v bitsLt_bf16_f32 : FVec Ideal S .f32) i = v i := rfl

/-! ## The results -/

section
variable (x : FVec Ideal S32768x1024 .f32) (oc : FVec Ideal S32768x512 .bf16) (ys : FVec Ideal S32768x512 .f32) (z : FVec Ideal S32768x6528 .f32)
  (oa : FVec Ideal S32768x512 .bf16) (d : FVec Ideal S1x512 .f32) (wg : FVec Ideal S512x512 .bf16) (bg : FVec Ideal S1x512 .f32)
  (wb : FVec Ideal S3x512x1024 .bf16) (wo : FVec Ideal S1024x1024 .bf16) (gf : FVec Ideal S1x1024 .f32) (wp : FVec Ideal S1024x1024 .bf16)

/-- The rows after the branches. -/
def out0 : FVec Ideal S32768x1024 .f32 := addf x (square (join oc (unit (gelu (skip ys z d)) wg bg) z oa wb) wo)

/-- The normalised rows. -/
def out1 : FVec Ideal S32768x1024 .f32 := norm (out0 x oc ys z oa d wg bg wb wo) gf

/-- Their products. -/
def out2 : FVec Ideal S32768x1024 .f32 := square (out1 x oc ys z oa d wg bg wb wo gf) wp

theorem join_apply (os : FVec Ideal S32768x512 .f32) (r : Fin 32768) (n : Fin 1024) :
    join oc os z oa wb (ix2 r n)
      = joined (gates z 0 r) (gates z 1 r) (gates z 2 r) (fun κ => oc (ix2 r κ)) (fun κ => os (ix2 r κ)) (fun κ => oa (ix2 r κ))
          (fun n κ => wb (ix3 0 κ n)) (fun n κ => wb (ix3 1 κ n)) (fun n κ => wb (ix3 2 κ n)) n := by
  unfold join
  simp only [addf_apply, mulf_apply, sigmoid_apply, times_apply, cut_z0, cut_z1, cut_z2, cut_w0, cut_w1, cut_w2, extf_apply']
  rfl

theorem out0_apply (r : Fin 32768) (n : Fin 1024) :
    out0 x oc ys z oa d wg bg wb wo (ix2 r n) = after x oc ys z oa d wg bg wb wo r n := by
  unfold out0
  simp only [addf_apply, square_apply, join_apply, unit_apply, gelu_apply, skip_apply]
  rfl

theorem out1_apply (r : Fin 32768) (n : Fin 1024) :
    out1 x oc ys z oa d wg bg wb wo gf (ix2 r n) = settled x oc ys z oa d wg bg wb wo gf r n := by
  unfold out1
  simp only [norm_apply, out0_apply]
  rfl

theorem out2_apply (r : Fin 32768) (n : Fin 1024) :
    out2 x oc ys z oa d wg bg wb wo gf wp (ix2 r n) = queries x oc ys z oa d wg bg wb wo gf wp r n := by
  unfold out2
  simp only [square_apply, out1_apply]
  rfl

end

/-- An array given entry by entry. -/
theorem of_entries (a : FVec Ideal S32768x1024 .f32) (f : Fin 32768 → Fin 1024 → EReal) (h : ∀ r n, a (ix2 r n) = f r n) :
    a = fun i => entryAt f (i 0).val (i 1).val := by
  funext i
  have e : i = ix2 (i 0) (i 1) := by
    funext b
    fin_cases b <;> rfl
  exact (congrArg a e).trans ((h (i 0) (i 1)).trans (entryAt_eq f (i 0) (i 1)))

end Cert.MergeRefIdeal.Read
-- ==== Proof.MergeClaims.lean ====
/- The value claim of the branch merge: kernel and reference leave the same three arrays. -/
module

public import proofs.«01_k».proof.Defs
public import proofs.«01_k».proof.Proof.MergeRefRead
public import Idealize.ShloMosaic.Adequacy
public import Idealize.ShloMosaic.Init

@[expose] public section

set_option maxRecDepth 16384

noncomputable section

namespace Cert.MergeRefIdeal.Read

open Cert.Layer Cert.MergeRefIdeal Cert.MergeRefIdeal.Gen Idealize.ShloMosaic Idealize.ShloMosaic.TcCoe Idealize.SL.Sem
open Cert.MergeIdeal.Branches (after settled queries entryAt)

variable (m : (ℓ : Loc nD τ sig) → Buf (Elt Ideal) ℓ) (c : Dev nD)

theorem res0_eq : Value.res_out0 (F := Ideal) m c = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

theorem res1_eq : Value.res_out1 (F := Ideal) m c = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := rfl

theorem res2_eq : Value.res_out2 (F := Ideal) m c = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

end Cert.MergeRefIdeal.Read

namespace Cert.MergeClaims

open Idealize.ShloMosaic Idealize.SL.Sem

attribute [local instance] Cert.MergeIdeal.Gen.facts Cert.MergeRefIdeal.Gen.facts

/-- The kernel's three result arrays and the reference's are the same. -/
theorem algebraic : Cert.algebraic_MergeIdeal_MergeRefIdeal := by
  intro m g m' g' _ hagree
  refine ⟨_, _, _, (θ_run Cert.MergeIdeal.defs _ _).mono (fun r h c => ⟨(h c).1.trans (Cert.MergeIdeal.Branches.array15 m c),
        (h c).2.1.trans (Cert.MergeIdeal.Branches.array16 m c), (h c).2.2.1.trans (Cert.MergeIdeal.Branches.array17 m c), (h c).2.2.2⟩)
      (Cert.MergeIdeal.Value.run_blocks (F := Ideal) m g), ?_⟩
  refine (θ_run Cert.MergeRefIdeal.defs _ _).mono (fun r h c => ⟨(h c).1.trans ?_, (h c).2.1.trans ?_, (h c).2.2.1.trans ?_, (h c).2.2.2⟩)
      (Cert.MergeRefIdeal.Value.run (F := Ideal) m' g')
  all_goals obtain ⟨a0, a1, a2, a3, a4, a5, a6, a7, a8, a9, a10, a11⟩ := hagree c
  · refine (Cert.MergeRefIdeal.Read.res0_eq m' c).trans ?_
    rw [a0, a1, a2, a3, a4, a5, a6, a7, a8, a9]
    exact Cert.MergeRefIdeal.Read.of_entries _ _ (Cert.MergeRefIdeal.Read.out0_apply _ _ _ _ _ _ _ _ _ _)
  · refine (Cert.MergeRefIdeal.Read.res1_eq m' c).trans ?_
    rw [a0, a1, a2, a3, a4, a5, a6, a7, a8, a9, a10]
    exact Cert.MergeRefIdeal.Read.of_entries _ _ (Cert.MergeRefIdeal.Read.out1_apply _ _ _ _ _ _ _ _ _ _ _)
  · refine (Cert.MergeRefIdeal.Read.res2_eq m' c).trans ?_
    rw [a0, a1, a2, a3, a4, a5, a6, a7, a8, a9, a10, a11]
    exact Cert.MergeRefIdeal.Read.of_entries _ _ (Cert.MergeRefIdeal.Read.out2_apply _ _ _ _ _ _ _ _ _ _ _ _)

/-- The reference ends with its arguments as they were and every semaphore at zero. -/
theorem frame_ri : Cert.quiescent_MergeRefIdeal := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

end Cert.MergeClaims
-- ==== Proof.KeysSpec.lean ====
/- The formulas of the keys and values, head by head, and the keys of padded rows. -/
module

public import proofs.«01_k».proof.Proof.LayerSpec

@[expose] public section

noncomputable section

namespace Cert.Heads

open Cert.Layer Idealize.ShloMosaic

/-- A head's 128 columns, divided by the root of a 64th of the sum of their squares (plus a small constant), times a gain, plus a row. -/
def keyed (k g e : Fin 128 → EReal) (n : Fin 128) : EReal :=
  k n * Ideal.rsqrt (Ideal.div (∑ y, k y * k y) (Ideal.ofBits .f32 0x42800000#32) + Ideal.ofBits .f32 0x358637BD#32) * g n + e n

/-- A row of 64 divided by the root of its mean square (plus a small constant), times a gain. -/
def normed64 (k g : Fin 64 → EReal) (n : Fin 64) : EReal :=
  k n * Ideal.rsqrt (Ideal.div (∑ y, k y * k y) (Ideal.ofBits .f32 0x42800000#32) + Ideal.ofBits .f32 0x358637BD#32) * g n

/-- A head's key: the normalised row, then the rotated part that all heads share, then zeros. -/
def key (k g : Fin 64 → EReal) (e : Fin 32 → EReal) (n : Fin 128) : EReal :=
  if h : n.val < 64 then normed64 k g ⟨n.val, h⟩ else if h' : n.val < 96 then e ⟨n.val - 64, by omega⟩ else 0

/-- A row of 64 with 64 zeros behind it. -/
def padded (k : Fin 64 → EReal) (n : Fin 128) : EReal := if h : n.val < 64 then k ⟨n.val, h⟩ else 0

/-- A row of 32 with 64 zeros before it and 32 behind it. -/
def shifted (e : Fin 32 → EReal) (n : Fin 128) : EReal := if h : 64 ≤ n.val ∧ n.val < 96 then e ⟨n.val - 64, by omega⟩ else 0

theorem sum_padded (k : Fin 64 → EReal) : ∑ y, padded k y * padded k y = ∑ y, k y * k y := by
  refine (Fin.sum_univ_add (a := 64) (b := 64) (fun y : Fin (64 + 64) => padded k y * padded k y)).trans ?_
  rw [Finset.sum_eq_zero (s := (Finset.univ : Finset (Fin 64))) (f := fun i => padded k (Fin.natAdd 64 i) * padded k (Fin.natAdd 64 i)) (fun i _ => ?_), add_zero]
  · refine Finset.sum_congr rfl fun i _ => ?_
    have e : padded k (Fin.castAdd 64 i) = k i := dif_pos i.isLt
    rw [e]
  · have e : padded k (Fin.natAdd 64 i) = 0 := dif_neg (by show ¬(64 + i.val < 64); omega)
    rw [e, zero_mul]

theorem prod_padded {m : ℕ} (x : Fin m → EReal) (w : Fin 64 → Fin m → EReal) (n : Fin 128) :
    prod x (fun κ => padded (fun y => w y κ) n) = padded (fun y => prod x (w y)) n := by
  unfold padded prod
  by_cases h : n.val < 64
  · simp only [dif_pos h]
  · simp only [dif_neg h, mul_zero, Finset.sum_const_zero]

/-- The keys of padded rows are the heads' keys. -/
theorem keyed_padded (k g : Fin 64 → EReal) (e : Fin 32 → EReal) (n : Fin 128) : keyed (padded k) (padded g) (shifted e) n = key k g e n := by
  unfold keyed key normed64
  rw [sum_padded]
  by_cases h : n.val < 64
  · have h' : ¬(64 ≤ n.val ∧ n.val < 96) := by omega
    simp only [padded, shifted, dif_pos h, dif_neg h', add_zero]
  · by_cases h' : n.val < 96
    · have h'' : 64 ≤ n.val ∧ n.val < 96 := by omega
      simp only [padded, shifted, dif_neg h, dif_pos h', dif_pos h'', mul_zero, zero_add]
    · have h'' : ¬(64 ≤ n.val ∧ n.val < 96) := by omega
      simp only [padded, shifted, dif_neg h, dif_neg h', dif_neg h'', mul_zero, add_zero]

/-- A family of heads' rows at a row and a column given as numbers, the heads side by side, `w` columns each. -/
def headAt {w : ℕ} (hw : 0 < w) (f : Fin 32768 → Fin 8 → Fin w → EReal) (a b : ℕ) : EReal :=
  f ⟨a % 32768, Nat.mod_lt _ (by decide)⟩ ⟨b / w % 8, Nat.mod_lt _ (by decide)⟩ ⟨b % w, Nat.mod_lt _ hw⟩

theorem headAt_eq {w : ℕ} (hw : 0 < w) (f : Fin 32768 → Fin 8 → Fin w → EReal) (r : Fin 32768) (h : Fin 8) (n : Fin w) :
    headAt hw f r.val (h.val * w + n.val) = f r h n := by
  have er : (⟨r.val % 32768, Nat.mod_lt _ (by decide)⟩ : Fin 32768) = r := Fin.ext (Nat.mod_eq_of_lt r.isLt)
  have eh : (⟨(h.val * w + n.val) / w % 8, Nat.mod_lt _ (by decide)⟩ : Fin 8) = h := Fin.ext (by
    show (h.val * w + n.val) / w % 8 = h.val
    rw [Nat.add_comm, Nat.add_mul_div_right _ _ hw, Nat.div_eq_of_lt n.isLt, Nat.zero_add, Nat.mod_eq_of_lt h.isLt])
  have en : (⟨(h.val * w + n.val) % w, Nat.mod_lt _ hw⟩ : Fin w) = n := Fin.ext (by
    show (h.val * w + n.val) % w = n.val
    rw [Nat.add_comm, Nat.add_mul_mod_self_right, Nat.mod_eq_of_lt n.isLt])
  unfold headAt
  rw [er, eh, en]

end Cert.Heads
-- ==== Proof.KeysBody.lean ====
/- The operations of the keys' kernel on a block, entry by entry. -/
module

public import proofs.«01_k».proof.Proof.KeysSpec
public import proofs.«01_k».proof.Proof.Gen.KeysIdeal.Value
public import Idealize.ShloMosaic.Lib.Pipeline.ValueKit
public import Idealize.ShloMosaic.Lib.Pipeline.ReadBack

@[expose] public section

set_option maxRecDepth 16384

noncomputable section

namespace Cert.KeysIdeal.Heads

open Cert.Layer Cert.Heads Cert.KeysIdeal Cert.KeysIdeal.Gen Idealize.ShloMosaic Idealize.ShloMosaic.TcCoe Idealize.SL.Sem

/-- The columns of head `b`, of a row. -/
def head (x : FVec Ideal S512x1024 .f32) (r : Fin 512) (b : Fin 8) (y : Fin 128) : EReal := x (ix2 r ⟨b.val * 128 + y.val, by omega⟩)

/-- The keys of a block at a row and a column given as numbers. -/
def keysAt (x : FVec Ideal S512x1024 .f32) (e : FVec Ideal S512x128 .f32) (g : FVec Ideal S1x128 .f32) (r : Fin 512) (n : ℕ) : EReal :=
  keyed (head x r ⟨n / 128 % 8, Nat.mod_lt _ (by decide)⟩) (fun y => g (ix2 0 y)) (fun y => e (ix2 r y)) ⟨n % 128, Nat.mod_lt _ (by decide)⟩

theorem keysAt_head (x : FVec Ideal S512x1024 .f32) (e : FVec Ideal S512x128 .f32) (g : FVec Ideal S1x128 .f32) (r : Fin 512) (b : Fin 8)
    (y : Fin 128) (n : ℕ) (hn : n = b.val * 128 + y.val) :
    keysAt x e g r n = keyed (head x r b) (fun y => g (ix2 0 y)) (fun y => e (ix2 r y)) y := by
  have eb : (⟨n / 128 % 8, Nat.mod_lt _ (by decide)⟩ : Fin 8) = b := Fin.ext (by show n / 128 % 8 = b.val; omega)
  have ey : (⟨n % 128, Nat.mod_lt _ (by decide)⟩ : Fin 128) = y := Fin.ext (by show n % 128 = y.val; omega)
  unfold keysAt
  rw [eb, ey]

/-! ## The eight stores of the keys -/

section
variable (x : FVec Ideal S512x1024 .f32) (e : FVec Ideal S512x128 .f32) (g : FVec Ideal S1x128 .f32) (r : Fin 512) (n : Fin 128)

theorem head_2 : (k0_pay9 x e g) (ix2 r n) = keyed (head x r 2) (fun y => g (ix2 0 y)) (fun y => e (ix2 r y)) n := by
  pointwise [k0_pay9]
  rfl

theorem head_3 : (k0_pay10 x e g) (ix2 r n) = keyed (head x r 3) (fun y => g (ix2 0 y)) (fun y => e (ix2 r y)) n := by
  pointwise [k0_pay10]
  rfl

theorem head_4 : (k0_pay13 e g (k0_pay11 x) (k0_pay12 x)) (ix2 r n) = keyed (head x r 4) (fun y => g (ix2 0 y)) (fun y => e (ix2 r y)) n := by
  pointwise [k0_pay13, k0_pay11, k0_pay12]
  rfl

theorem head_5 : (k0_pay14 x e g) (ix2 r n) = keyed (head x r 5) (fun y => g (ix2 0 y)) (fun y => e (ix2 r y)) n := by
  pointwise [k0_pay14]
  rfl

theorem head_6 : (k0_pay15 x e g) (ix2 r n) = keyed (head x r 6) (fun y => g (ix2 0 y)) (fun y => e (ix2 r y)) n := by
  pointwise [k0_pay15]
  rfl

theorem head_7 : (k0_pay1 e g (k0_pay16 x) (k0_pay17 x) (k0_pay18 (F := Ideal))) (ix2 r n) = keyed (head x r 7) (fun y => g (ix2 0 y)) (fun y => e (ix2 r y)) n := by
  pointwise [k0_pay1, k0_pay16, k0_pay17, k0_pay18]
  rfl

end

section
variable (x0 : Vec Ideal S512x256 .f32) (x1 : Vec Ideal S512x128 .f32) (x2 : Vec Ideal S256x1024 .bf16) (x3 : Vec Ideal S256x512 .bf16)
  (x4 : Vec Ideal S1x128 .f32) (r : Fin 512)

theorem head_0 (n : Fin 128) : k0_pay7 x0 x2 x1 x4 (ix2 r n)
    = keyed (head (k0_pay4 x0 x2) r 0) (fun y => x4 (ix2 0 y)) (fun y => x1 (ix2 r y)) n := by
  have e : ∀ x : FVec Ideal S512x1024 .f32, head x r 0 = fun y => x (ix2 r ⟨y.val, by omega⟩) := fun x => funext fun y => by
    unfold head
    congr 2
    exact Fin.ext (by show (0 : Fin 8).val * 128 + y.val = y.val; simp)
  rw [e]
  unfold k0_pay7
  generalize k0_pay4 x0 x2 = x
  pointwise [k0_pay6, k0_pay5]
  rfl

theorem head_1 (n : Fin 128) : k0_pay8 x0 x2 x1 x4 (ix2 r n)
    = keyed (head (k0_pay4 x0 x2) r 1) (fun y => x4 (ix2 0 y)) (fun y => x1 (ix2 r y)) n := by
  unfold k0_pay8
  generalize k0_pay4 x0 x2 = x
  pointwise [k0_pay6, k0_pay5]
  rfl

/-- The products of a block with the keys' weights. -/
theorem pay4_apply (n : Fin 1024) : k0_pay4 x0 x2 (ix2 r n) = prod (fun κ : Fin 256 => x0 (ix2 r κ)) (fun κ => x2 (ix2 κ n)) := by
  pointwise [k0_pay4, k0_pay3]
  rfl

/-- The products of a block with the values' weights. -/
theorem pay2_apply (n : Fin 512) : k0_pay2 (k0_pay3 x0) x3 (ix2 r n) = prod (fun κ : Fin 256 => x0 (ix2 r κ)) (fun κ => x3 (ix2 κ n)) := by
  pointwise [k0_pay2, k0_pay3]
  rfl

theorem pay5_eq : k0_pay5 x1 = x1 := by
  funext i
  pointwise [k0_pay5]
  try rfl

theorem pay6_eq : k0_pay6 x4 = x4 := by
  funext i
  pointwise [k0_pay6]
  try rfl

end

/-! ## What a point writes -/

/-- A store of one head's columns agrees with the keys of the block. -/
theorem stored (x : FVec Ideal S512x1024 .f32) (e : FVec Ideal S512x128 .f32) (g : FVec Ideal S1x128 .f32) (b : Fin 8) (o : ℕ) (ho : o = b.val * 128)
    (inb : ∀ a, (![0, o] : Fin 2 → ℕ) a + S512x128.size a ≤ S512x1024.size a) (p : Vec Ideal S512x128 .bf16)
    (h : ∀ (r : Fin 512) (n : Fin 128), p (ix2 r n) = keyed (head x r b) (fun y => g (ix2 0 y)) (fun y => e (ix2 r y)) n)
    (y : (Rect.unit (s := S512x1024) ![0, o] S512x128.size inb).shape.Idx) :
    p y = keysAt x e g ((Rect.unit (s := S512x1024) ![0, o] S512x128.size inb).emb y 0) ((Rect.unit (s := S512x1024) ![0, o] S512x128.size inb).emb y 1).val := by
  have h0 : (y 0).val < 512 := (y 0).isLt
  have h1 : (y 1).val < 128 := (y 1).isLt
  have hy : y = (ix2 (⟨(y 0).val, h0⟩ : Fin 512) (⟨(y 1).val, h1⟩ : Fin 128) : S512x128.Idx) := by
    funext a
    apply Fin.ext
    match a with
    | ⟨0, _⟩ => rfl
    | ⟨1, _⟩ => rfl
  have e0 : (Rect.unit (s := S512x1024) ![0, o] S512x128.size inb).emb y 0 = (⟨(y 0).val, h0⟩ : Fin 512) := Fin.ext (by
    show 0 + 1 * (y 0).val = (y 0).val
    omega)
  have e1 : ((Rect.unit (s := S512x1024) ![0, o] S512x128.size inb).emb y 1).val = o + 1 * (y 1).val := rfl
  rw [e0, keysAt_head x e g ⟨(y 0).val, h0⟩ b ⟨(y 1).val, h1⟩ _ (e1.trans (by show o + 1 * (y 1).val = b.val * 128 + (y 1).val; omega))]
  exact (congrArg p hy).trans (h _ _)

section
variable (x0 : Vec Ideal S512x256 .f32) (x1 : Vec Ideal S512x128 .f32) (x2 : Vec Ideal S256x1024 .bf16) (x3 : Vec Ideal S256x512 .bf16)
  (x4 : Vec Ideal S1x128 .f32)

theorem whole {S : Shape} {t : EltTy} (v : Vec Ideal S t) {off : Fin S.rank → ℕ} (h : off = fun _ => 0) (inb : ∀ a, off a + S.size a ≤ S.size a) :
    View.ld v (Rect.unit (s := S) off S.size inb) = v := View.ld_unit_zero h inb v

theorem zeros : (![0, 0] : Fin 2 → ℕ) = fun _ => 0 := by decide

/-- A point writes the keys of its block. -/
theorem out_5 (r : Fin 512) (n : Fin 1024) : out0_5 x0 x1 x2 x3 x4 (ix2 r n) = keysAt (k0_pay4 x0 x2) x1 x4 r n.val := by
  unfold out0_5 k0_pay21 k0_pay20 k0_pay19
  rw [show View.ld x0 r0_0 = x0 from whole x0 zeros _, show View.ld x1 r0_2 = x1 from whole x1 zeros _,
    show View.ld x2 r0_1 = x2 from whole x2 zeros _, show View.ld x4 r0_3 = x4 from whole x4 zeros _, pay5_eq, pay6_eq]
  refine View.canon_apply_of_pieces (Val := Elt Ideal) (e := .bf16) (fun i : S512x1024.Idx => keysAt (k0_pay4 x0 x2) x1 x4 (i 0) (i 1).val) _ (fun p hp => ?_) (ix2 r n) (cover0_5 _ _ _ _ _ _ _ _ _)
  simp only [List.mem_cons, List.not_mem_nil, or_false] at hp
  rcases hp with rfl | rfl | rfl | rfl | rfl | rfl | rfl | rfl
  · exact stored _ x1 x4 7 896 rfl inb_S512x1024_S512x128_0_896 _ (head_7 _ x1 x4)
  · exact stored _ x1 x4 6 768 rfl inb_S512x1024_S512x128_0_768 _ (head_6 _ x1 x4)
  · exact stored _ x1 x4 5 640 rfl inb_S512x1024_S512x128_0_640 _ (head_5 _ x1 x4)
  · exact stored _ x1 x4 4 512 rfl inb_S512x1024_S512x128_0_512 _ (head_4 _ x1 x4)
  · exact stored _ x1 x4 3 384 rfl inb_S512x1024_S512x128_0_384 _ (head_3 _ x1 x4)
  · exact stored _ x1 x4 2 256 rfl inb_S512x1024_S512x128_0_256 _ (head_2 _ x1 x4)
  · exact stored _ x1 x4 1 128 rfl inb_S512x1024_S512x128_0_128 _ (head_1 x0 x1 x2 x4)
  · exact stored _ x1 x4 0 0 rfl inb_S512x1024_S512x128_0_0 _ (head_0 x0 x1 x2 x4)

/-- A point writes the products of its block with the values' weights. -/
theorem out_6 : out0_6 x0 x1 x2 x3 x4 = k0_pay2 (k0_pay3 x0) x3 := by
  unfold out0_6
  rw [show View.ld x0 r0_0 = x0 from whole x0 zeros _, show View.ld x3 r0_12 = x3 from whole x3 zeros _]
  exact View.canon_unit_zero zeros _ _

end

end Cert.KeysIdeal.Heads
-- ==== Proof.KeysValue.lean ====
/- The arrays the keys' kernel leaves, entry by entry. -/
module

public import proofs.«01_k».proof.Proof.KeysBody
public import Idealize.ShloMosaic.Lib.KernelVsHost

@[expose] public section

set_option maxRecDepth 16384

noncomputable section

namespace Cert.KeysIdeal.Heads

open Cert.Layer Cert.Heads Cert.KeysIdeal Cert.KeysIdeal.Gen Idealize.ShloMosaic Idealize.ShloMosaic.TcCoe Idealize.SL.Sem

/-! ## The padded operands -/

/-- The number a pad fills with. -/
def fill : FVec Ideal S_ .f32 := sitofp .f32 (constantI S_ 32 0#32)

theorem fill_eq (i : S_.Idx) : fill i = 0 := sitofp_zero

theorem pad_e (e : FVec Ideal S32768x32 .f32) (r : Fin 32768) (n : Fin 128) :
    (pad S32768x128 ![0, 64] ![0, 32] ![0, 0] e fill pads_S32768x32_S32768x128_000_64320 h_S_ : FVec Ideal S32768x128 .f32) (ix2 r n)
      = shifted (fun y => e (ix2 r y)) n := by
  unfold shifted
  by_cases h : 64 ≤ n.val ∧ n.val < 96
  · rw [dif_pos h]
    refine pad_apply_of_inside _ _ _ e fill _ _ _ (ix2 r ⟨n.val - 64, by omega⟩) fun a => ?_
    match a with
    | ⟨0, _⟩ => show r.val = 0 + r.val * 1; omega
    | ⟨1, _⟩ => show n.val = 64 + (n.val - 64) * 1; omega
  · rw [dif_neg h]
    refine (pad_apply_of_not_inside _ _ _ e fill _ _ _ 1 ?_).trans (fill_eq _)
    show ¬(64 ≤ n.val ∧ (n.val - 64) % 1 = 0 ∧ (n.val - 64) / 1 < 32)
    omega

theorem pad_k (w : FVec Ideal S256x8x64 .f32) (κ : Fin 256) (b : Fin 8) (n : Fin 128) :
    (pad S256x8x128 ![0, 0, 0] ![0, 0, 64] ![0, 0, 0] w fill pads_S256x8x64_S256x8x128_000_000_0640 h_S_ : FVec Ideal S256x8x128 .f32) (ix3 κ b n)
      = padded (fun y => w (ix3 κ b y)) n := by
  unfold padded
  by_cases h : n.val < 64
  · rw [dif_pos h]
    refine pad_apply_of_inside _ _ _ w fill _ _ _ (ix3 κ b ⟨n.val, h⟩) fun a => ?_
    match a with
    | ⟨0, _⟩ => show κ.val = 0 + κ.val * 1; omega
    | ⟨1, _⟩ => show b.val = 0 + b.val * 1; omega
    | ⟨2, _⟩ => show n.val = 0 + n.val * 1; omega
  · rw [dif_neg h]
    refine (pad_apply_of_not_inside _ _ _ w fill _ _ _ 2 ?_).trans (fill_eq _)
    show ¬(0 ≤ n.val ∧ (n.val - 0) % 1 = 0 ∧ (n.val - 0) / 1 < 64)
    omega

theorem pad_g (g : FVec Ideal S64 .f32) (n : Fin 128) :
    (pad S128 ![0] ![64] ![0] g fill pads_S64_S128_0640 h_S_ : FVec Ideal S128 .f32) (ix1 n) = padded (fun y => g (ix1 y)) n := by
  unfold padded
  by_cases h : n.val < 64
  · rw [dif_pos h]
    refine pad_apply_of_inside _ _ _ g fill _ _ _ (ix1 ⟨n.val, h⟩) fun a => ?_
    match a with
    | ⟨0, _⟩ => show n.val = 0 + n.val * 1; omega
  · rw [dif_neg h]
    refine (pad_apply_of_not_inside _ _ _ g fill _ _ _ 0 ?_).trans (fill_eq _)
    show ¬(0 ≤ n.val ∧ (n.val - 0) % 1 = 0 ∧ (n.val - 0) / 1 < 64)
    omega

/-! ## What a point reads -/

/-- The block indices of a point. -/
theorem place : ∀ t : Fin grid0.N,
    ((cfg0.win 0).index t 0 = t.val ∧ (cfg0.win 0).index t 1 = 0) ∧ ((cfg0.win 1).index t 0 = t.val ∧ (cfg0.win 1).index t 1 = 0)
    ∧ ((cfg0.win 2).index t 0 = 0 ∧ (cfg0.win 2).index t 1 = 0) ∧ ((cfg0.win 3).index t 0 = 0 ∧ (cfg0.win 3).index t 1 = 0)
    ∧ ((cfg0.win 4).index t 0 = 0 ∧ (cfg0.win 4).index t 1 = 0) := by decide +kernel

/-- The block indices a point writes. -/
theorem place_o : ∀ t : Fin grid0.N,
    ((cfg0.win 5).index t 0 = t.val ∧ (cfg0.win 5).index t 1 = 0) ∧ ((cfg0.win 6).index t 0 = t.val ∧ (cfg0.win 6).index t 1 = 0) := by decide +kernel

variable (m : (ℓ : Loc nD τ sig) → Buf (Elt Ideal) ℓ) (c : Dev nD)

/-- The arguments. -/
abbrev L : Vec Ideal S32768x256 .f32 := m ((c.tc : Thread nD τ).loc main_arg0)
abbrev E : Vec Ideal S32768x32 .f32 := m ((c.tc : Thread nD τ).loc main_arg1)
abbrev WK : Vec Ideal S256x8x64 .f32 := m ((c.tc : Thread nD τ).loc main_arg2)
abbrev WV : Vec Ideal S256x8x64 .f32 := m ((c.tc : Thread nD τ).loc main_arg3)
abbrev G : Vec Ideal S64 .f32 := m ((c.tc : Thread nD τ).loc main_arg4)

theorem V_e : V m c main_v0 = pad S32768x128 ![0, 64] ![0, 32] ![0, 0] (E m c) fill pads_S32768x32_S32768x128_000_64320 h_S_ := by
  simp only [V, hostOps0, hostOps0_1, hostOps0_2, hostOps0_3, hostOps0_4, hostOps0_5, hostOps0_6, List.flatten_cons, List.flatten_nil, List.append_nil, List.cons_append, List.nil_append]
  after_results
  try rfl

theorem V_k : V m c main_v3 = truncf .bf16 (shapeCast S256x1024 (pad S256x8x128 ![0, 0, 0] ![0, 0, 64] ![0, 0, 0] (WK m c) fill pads_S256x8x64_S256x8x128_000_000_0640 h_S_ : FVec Ideal S256x8x128 .f32) shapeCasts_S256x8x128_S256x1024) bitsLt_bf16_f32 := by
  simp only [V, hostOps0, hostOps0_1, hostOps0_2, hostOps0_3, hostOps0_4, hostOps0_5, hostOps0_6, List.flatten_cons, List.flatten_nil, List.append_nil, List.cons_append, List.nil_append]
  after_results
  try rfl

theorem V_v : V m c main_v5 = (truncf .bf16 (shapeCast S256x512 (WV m c : FVec Ideal S256x8x64 .f32) shapeCasts_S256x8x64_S256x512) bitsLt_bf16_f32 : FVec Ideal S256x512 .bf16) := by
  simp only [V, hostOps0, hostOps0_1, hostOps0_2, hostOps0_3, hostOps0_4, hostOps0_5, hostOps0_6, List.flatten_cons, List.flatten_nil, List.append_nil, List.cons_append, List.nil_append]
  after_results
  try rfl

theorem V_g : V m c main_v7 = shapeCast S1x128 (pad S128 ![0] ![64] ![0] (G m c) fill pads_S64_S128_0640 h_S_ : FVec Ideal S128 .f32) shapeCasts_S128_S1x128 := by
  simp only [V, hostOps0, hostOps0_1, hostOps0_2, hostOps0_3, hostOps0_4, hostOps0_5, hostOps0_6, List.flatten_cons, List.flatten_nil, List.append_nil, List.cons_append, List.nil_append]
  after_results
  try rfl

/-- At the ideal values a narrower format holds the same number. -/
theorem truncf_at {S : Shape} (v : FVec Ideal S .f32) (i : S.Idx) : (truncf .bf16 v bitsLt_bf16_f32 : FVec Ideal S .bf16) i = v i := rfl

/-- Row `r` of the block of rows that a point works on. -/
def row (t : Fin cfg0.N) (r : Fin 512) : Fin 32768 :=
  ⟨t.val * 512 + r.val, by have : t.val < 64 := lt_of_lt_of_eq t.isLt N_0; omega⟩

theorem block0 (t : Fin cfg0.N) (r : Fin 512) (κ : Fin 256) : iblk m c 0 t (ix2 r κ) = L m c (ix2 (row t r) κ) := by
  obtain ⟨⟨e0, e1⟩, -⟩ := place t
  refine Eq.trans ?_ (congrFun (V_main_arg0 m c) _)
  unfold row
  blk_ext [iblk, e0, e1]

theorem block1 (t : Fin cfg0.N) (r : Fin 512) (n : Fin 128) : iblk m c 1 t (ix2 r n) = (V m c main_v0 : Vec Ideal S32768x128 .f32) (ix2 (row t r) n) := by
  obtain ⟨-, ⟨e0, e1⟩, -⟩ := place t
  unfold row
  blk_ext [iblk, e0, e1]

theorem block2 (t : Fin cfg0.N) (κ : Fin 256) (n : Fin 1024) : iblk m c 2 t (ix2 κ n) = (V m c main_v3 : Vec Ideal S256x1024 .bf16) (ix2 κ n) := by
  obtain ⟨-, -, ⟨e0, e1⟩, -⟩ := place t
  blk_ext [iblk, e0, e1]

theorem block3 (t : Fin cfg0.N) (κ : Fin 256) (n : Fin 512) : iblk m c 3 t (ix2 κ n) = (V m c main_v5 : Vec Ideal S256x512 .bf16) (ix2 κ n) := by
  obtain ⟨-, -, -, ⟨e0, e1⟩, -⟩ := place t
  blk_ext [iblk, e0, e1]

theorem block4 (t : Fin cfg0.N) (n : Fin 128) : iblk m c 4 t (ix2 0 n) = (V m c main_v7 : Vec Ideal S1x128 .f32) (ix2 0 n) := by
  obtain ⟨-, -, -, -, ⟨e0, e1⟩⟩ := place t
  blk_ext [iblk, e0, e1]

theorem read1 (t : Fin cfg0.N) (r : Fin 512) (n : Fin 128) : iblk m c 1 t (ix2 r n) = shifted (fun y => E m c (ix2 (row t r) y)) n :=
  (block1 m c t r n).trans ((congrFun (V_e m c) _).trans (pad_e _ _ _))

theorem read2 (t : Fin cfg0.N) (κ : Fin 256) (b : Fin 8) (n : Fin 128) :
    iblk m c 2 t (ix2 κ ⟨b.val * 128 + n.val, by omega⟩) = padded (fun y => WK m c (ix3 κ b y)) n := by
  refine (block2 m c t κ _).trans ((congrFun (V_k m c) _).trans (Eq.trans ?_ (pad_k _ κ b n)))
  refine (truncf_at _ _).trans (shapeCast_apply _ shapeCasts_S256x8x128_S256x1024 _ _ ?_)
  rw [Shape.rowMajor_val_two, Shape.rowMajor_val_three]
  show (κ.val * 8 + b.val) * 128 + n.val = κ.val * 1024 + (b.val * 128 + n.val)
  omega

theorem read3 (t : Fin cfg0.N) (κ : Fin 256) (b : Fin 8) (n : Fin 64) :
    iblk m c 3 t (ix2 κ ⟨b.val * 64 + n.val, by omega⟩) = WV m c (ix3 κ b n) := by
  refine (block3 m c t κ _).trans ((congrFun (V_v m c) _).trans ?_)
  refine (truncf_at _ _).trans (shapeCast_apply _ shapeCasts_S256x8x64_S256x512 _ _ ?_)
  rw [Shape.rowMajor_val_two, Shape.rowMajor_val_three]
  show (κ.val * 8 + b.val) * 64 + n.val = κ.val * 512 + (b.val * 64 + n.val)
  omega

theorem read4 (t : Fin cfg0.N) (n : Fin 128) : iblk m c 4 t (ix2 0 n) = padded (fun y => G m c (ix1 y)) n := by
  refine (block4 m c t n).trans ((congrFun (V_g m c) _).trans (Eq.trans ?_ (pad_g _ n)))
  refine shapeCast_apply _ shapeCasts_S128_S1x128 _ _ ?_
  rw [Shape.rowMajor_val_two, Shape.rowMajor_val_one]
  show n.val = 0 * 128 + n.val
  omega

/-! ## What a point writes -/

section
variable (l : Vec Ideal S32768x256 .f32) (e : Vec Ideal S32768x32 .f32) (w : Vec Ideal S256x8x64 .f32) (g : Vec Ideal S64 .f32)

/-- A head's product of a row of the latent with its weights. -/
def lifted (r : Fin 32768) (b : Fin 8) (n : Fin 64) : EReal := prod (fun κ : Fin 256 => l (ix2 r κ)) (fun κ => w (ix3 κ b n))

/-- The keys of a row. -/
def keys (r : Fin 32768) (b : Fin 8) : Fin 128 → EReal := key (lifted l w r b) (fun y => g (ix1 y)) (fun y => e (ix2 r y))

end

theorem head_pay4 (t : Fin cfg0.N) (r : Fin 512) (b : Fin 8) :
    head (k0_pay4 (iblk m c 0 t) (iblk m c 2 t)) r b = padded (lifted (L m c) (WK m c) (row t r) b) := by
  funext n
  unfold head
  refine (pay4_apply _ _ r _).trans ?_
  simp only [block0, read2]
  exact prod_padded _ (fun y κ => WK m c (ix3 κ b y)) n

theorem block5 (t : Fin cfg0.N) (r : Fin 512) (b : Fin 8) (n : Fin 128) :
    out0_5 (iblk m c 0 t) (iblk m c 1 t) (iblk m c 2 t) (iblk m c 3 t) (iblk m c 4 t) (ix2 r ⟨b.val * 128 + n.val, by omega⟩)
      = keys (L m c) (E m c) (WK m c) (G m c) (row t r) b n := by
  refine (out_5 _ _ _ _ _ r _).trans ((keysAt_head _ _ _ r b n _ rfl).trans ?_)
  rw [head_pay4]
  simp only [read1, read4]
  exact keyed_padded _ _ _ n

theorem block6 (t : Fin cfg0.N) (r : Fin 512) (b : Fin 8) (n : Fin 64) :
    out0_6 (iblk m c 0 t) (iblk m c 1 t) (iblk m c 2 t) (iblk m c 3 t) (iblk m c 4 t) (ix2 r ⟨b.val * 64 + n.val, by omega⟩)
      = lifted (L m c) (WV m c) (row t r) b n := by
  rw [out_6]
  refine (pay2_apply _ _ r _).trans ?_
  simp only [block0, read3]
  rfl

/-- The array of the keys. -/
theorem array5 : (dats m 0 c).arrAt 5 cfg0.N = fun i => headAt (w := 128) (by decide) (keys (L m c) (E m c) (WK m c) (G m c)) (i 0).val (i 1).val := by
  refine (dats m 0 c).arrAt_eq_of_covers 5 _ (by decide +kernel) fun t hf y => ?_
  obtain ⟨⟨e0, e1⟩, -⟩ := place_o t
  rw [after0_5]
  blk_simp [e0, e1]
  have h0 : (y 0).val < 512 := (y 0).isLt
  have h1 : (y 1).val < 1024 := (y 1).isLt
  have hy : y = ix2 (⟨(y 0).val, h0⟩ : Fin 512) (⟨(⟨(y 1).val / 128, by omega⟩ : Fin 8).val * 128 + (⟨(y 1).val % 128, by omega⟩ : Fin 128).val, by dsimp only; omega⟩ : Fin 1024) := by
    funext a
    apply Fin.ext
    match a with
    | ⟨0, _⟩ => rfl
    | ⟨1, _⟩ => show (y 1).val = (y 1).val / 128 * 128 + (y 1).val % 128; omega
  refine (congrArg _ hy).trans ((block5 m c t _ _ _).trans ((headAt_eq (by decide) _ _ _ _).symm.trans ?_))
  unfold row
  congr 1 <;> dsimp only <;> omega

/-- The array of the values. -/
theorem array6 : (dats m 0 c).arrAt 6 cfg0.N = fun i => headAt (w := 64) (by decide) (lifted (L m c) (WV m c)) (i 0).val (i 1).val := by
  refine (dats m 0 c).arrAt_eq_of_covers 6 _ (by decide +kernel) fun t hf y => ?_
  obtain ⟨-, ⟨e0, e1⟩⟩ := place_o t
  rw [after0_6]
  blk_simp [e0, e1]
  have h0 : (y 0).val < 512 := (y 0).isLt
  have h1 : (y 1).val < 512 := (y 1).isLt
  have hy : y = ix2 (⟨(y 0).val, h0⟩ : Fin 512) (⟨(⟨(y 1).val / 64, by omega⟩ : Fin 8).val * 64 + (⟨(y 1).val % 64, by omega⟩ : Fin 64).val, by dsimp only; omega⟩ : Fin 512) := by
    funext a
    apply Fin.ext
    match a with
    | ⟨0, _⟩ => rfl
    | ⟨1, _⟩ => show (y 1).val = (y 1).val / 64 * 64 + (y 1).val % 64; omega
  refine (congrArg _ hy).trans ((block6 m c t _ _ _).trans ((headAt_eq (by decide) _ _ _ _).symm.trans ?_))
  unfold row
  congr 1 <;> dsimp only <;> omega

end Cert.KeysIdeal.Heads
-- ==== Proof.KeysRefRead.lean ====
/- The keys' reference, read entry by entry. -/
module

public import proofs.«01_k».proof.Proof.KeysValue
public import proofs.«01_k».proof.Proof.Gen.KeysRefIdeal.Run

@[expose] public section

set_option maxRecDepth 16384

noncomputable section

namespace Cert.KeysRefIdeal.Read

open Cert.Layer Cert.Heads Cert.KeysRefIdeal Cert.KeysRefIdeal.Gen Idealize.ShloMosaic Idealize.ShloMosaic.TcCoe Idealize.SL.Sem
open Cert.KeysIdeal.Heads (lifted keys truncf_at)

/-! ## The operations, in stages -/

/-- The heads' products of the latent with their weights. -/
def lift (l : FVec Ideal S32768x256 .f32) (w : FVec Ideal S256x8x64 .f32) : FVec Ideal S32768x8x64 .f32 :=
  Host.dotGeneral dot_S32768x256_S256x8x64_S32768x8x64_1_0_0_12_n_n none l w

/-- The normalisation of each head. -/
def norm (x : FVec Ideal S32768x8x64 .f32) (g : FVec Ideal S64 .f32) : FVec Ideal S32768x8x64 .f32 :=
  mulf (mulf x (broadcastInDim S32768x8x64 ![0, 1, 2] bcast_S32768x8x1_S32768x8x64_0_1_2 (Host.rsqrt (addf (Host.divf (broadcastInDim S32768x8x1 ![0, 1] bcast_S32768x8_S32768x8x1_0_1 (Host.reduceAdd (mulf x x) (constant S_ .f32 0x00000000#32) reducesTo_S32768x8x64_S32768x8_d2 h_S_)) (broadcastInDim S32768x8x1 ![] bcast_S_S32768x8x1 (constant S_ .f32 0x42800000#32))) (broadcastInDim S32768x8x1 ![] bcast_S_S32768x8x1 (constant S_ .f32 0x358637BD#32)))))) (broadcastInDim S32768x8x64 ![0, 1, 2] bcast_S1x1x64_S32768x8x64_0_1_2 (broadcastInDim S1x1x64 ![2] bcast_S64_S1x1x64_2 g))

/-- The rotated part, given to each head. -/
def spread (e : FVec Ideal S32768x32 .f32) : FVec Ideal S32768x8x32 .f32 :=
  broadcastInDim S32768x8x32 ![0, 1, 2] bcast_S32768x1x32_S32768x8x32_0_1_2 (broadcastInDim S32768x1x32 ![0, 2] bcast_S32768x32_S32768x1x32_0_2 e)

/-- The zeros behind each head. -/
def zeros : FVec Ideal S32768x8x32 .f32 := broadcastInDim S32768x8x32 ![] bcast_S_S32768x8x32 (constant S_ .f32 0x00000000#32)

/-- The three parts of each head. -/
def join (x : FVec Ideal S32768x8x64 .f32) (e z : FVec Ideal S32768x8x32 .f32) : FVec Ideal S32768x8x128 .f32 :=
  concatenate S32768x8x128 2 [⟨S32768x8x64, x⟩, ⟨S32768x8x32, e⟩, ⟨S32768x8x32, z⟩] concatenates_S32768x8x64_S32768x8x32_S32768x8x32_S32768x8x128_d2

/-- The keys, the heads side by side. -/
def out0 (l : FVec Ideal S32768x256 .f32) (e : FVec Ideal S32768x32 .f32) (w : FVec Ideal S256x8x64 .f32) (g : FVec Ideal S64 .f32) :
    FVec Ideal S32768x1024 .bf16 :=
  truncf .bf16 (shapeCast _ (join (norm (lift l w) g) (spread e) zeros) shapeCasts_S32768x8x128_S32768x1024) bitsLt_bf16_f32

/-- The values, the heads side by side. -/
def out1 (l : FVec Ideal S32768x256 .f32) (w : FVec Ideal S256x8x64 .f32) : FVec Ideal S32768x512 .bf16 :=
  truncf .bf16 (shapeCast _ (lift l w) shapeCasts_S32768x8x64_S32768x512) bitsLt_bf16_f32

/-! ## Each stage at an entry -/

theorem lift_apply (l : FVec Ideal S32768x256 .f32) (w : FVec Ideal S256x8x64 .f32) (r : Fin 32768) (b : Fin 8) (n : Fin 64) :
    lift l w (ix3 r b n) = lifted l w r b n := by
  pointwise [lift]
  rfl

theorem norm_apply (x : FVec Ideal S32768x8x64 .f32) (g : FVec Ideal S64 .f32) (r : Fin 32768) (b : Fin 8) (n : Fin 64) :
    norm x g (ix3 r b n) = normed64 (fun y => x (ix3 r b y)) (fun y => g (ix1 y)) n := by
  pointwise [norm]
  rfl

theorem spread_apply (e : FVec Ideal S32768x32 .f32) (r : Fin 32768) (b : Fin 8) (n : Fin 32) : spread e (ix3 r b n) = e (ix2 r n) := by
  pointwise [spread]
  try rfl

theorem zeros_apply (r : Fin 32768) (b : Fin 8) (n : Fin 32) : zeros (ix3 r b n) = 0 := by
  pointwise [zeros]
  try rfl

theorem join_apply (x : FVec Ideal S32768x8x64 .f32) (e z : FVec Ideal S32768x8x32 .f32) (r : Fin 32768) (b : Fin 8) (n : Fin 128) :
    join x e z (ix3 r b n) = if h : n.val < 64 then x (ix3 r b ⟨n.val, h⟩) else if h' : n.val < 96 then e (ix3 r b ⟨n.val - 64, by omega⟩)
      else z (ix3 r b ⟨n.val - 64 - 32, by omega⟩) := by
  pointwise [join]
  by_cases h : n.val < 64
  · simp only [dif_pos h]
  · by_cases h' : n.val < 96
    · have h'' : n.val - 64 < 32 := by omega
      simp only [dif_neg h, dif_pos h', dif_pos h'']
    · have h'' : ¬(n.val - 64 < 32) := by omega
      simp only [dif_neg h, dif_neg h', dif_neg h'']

theorem keys_apply (l : FVec Ideal S32768x256 .f32) (e : FVec Ideal S32768x32 .f32) (w : FVec Ideal S256x8x64 .f32) (g : FVec Ideal S64 .f32)
    (r : Fin 32768) (b : Fin 8) (n : Fin 128) : join (norm (lift l w) g) (spread e) zeros (ix3 r b n) = keys l e w g r b n := by
  rw [join_apply]
  unfold keys key
  simp only [norm_apply, lift_apply, spread_apply, zeros_apply]

theorem out0_apply (l : FVec Ideal S32768x256 .f32) (e : FVec Ideal S32768x32 .f32) (w : FVec Ideal S256x8x64 .f32) (g : FVec Ideal S64 .f32)
    (r : Fin 32768) (b : Fin 8) (n : Fin 128) : out0 l e w g (ix2 r ⟨b.val * 128 + n.val, by omega⟩) = keys l e w g r b n := by
  unfold out0
  refine (truncf_at _ _).trans ((shapeCast_apply _ shapeCasts_S32768x8x128_S32768x1024 _ (ix3 r b n) ?_).trans (keys_apply l e w g r b n))
  rw [Shape.rowMajor_val_two, Shape.rowMajor_val_three]
  show (r.val * 8 + b.val) * 128 + n.val = r.val * 1024 + (b.val * 128 + n.val)
  omega

theorem out1_apply (l : FVec Ideal S32768x256 .f32) (w : FVec Ideal S256x8x64 .f32)
    (r : Fin 32768) (b : Fin 8) (n : Fin 64) : out1 l w (ix2 r ⟨b.val * 64 + n.val, by omega⟩) = lifted l w r b n := by
  unfold out1
  refine (truncf_at _ _).trans ((shapeCast_apply _ shapeCasts_S32768x8x64_S32768x512 _ (ix3 r b n) ?_).trans (lift_apply l w r b n))
  rw [Shape.rowMajor_val_two, Shape.rowMajor_val_three]
  show (r.val * 8 + b.val) * 64 + n.val = r.val * 512 + (b.val * 64 + n.val)
  omega

/-- The keys' array. -/
theorem out0_eq (l : FVec Ideal S32768x256 .f32) (e : FVec Ideal S32768x32 .f32) (w : FVec Ideal S256x8x64 .f32) (g : FVec Ideal S64 .f32) :
    out0 l e w g = fun i => headAt (w := 128) (by decide) (keys l e w g) (i 0).val (i 1).val := by
  funext i
  have h1 : (i 1).val < 1024 := (i 1).isLt
  have hi : i = ix2 (i 0) (⟨(⟨(i 1).val / 128, by omega⟩ : Fin 8).val * 128 + (⟨(i 1).val % 128, by omega⟩ : Fin 128).val, by dsimp only; omega⟩ : Fin 1024) := by
    funext a
    apply Fin.ext
    match a with
    | ⟨0, _⟩ => rfl
    | ⟨1, _⟩ => show (i 1).val = (i 1).val / 128 * 128 + (i 1).val % 128; omega
  refine (congrArg _ hi).trans ((out0_apply l e w g _ _ _).trans ((headAt_eq (by decide) _ _ _ _).symm.trans ?_))
  congr 1
  dsimp only
  omega

/-- The values' array. -/
theorem out1_eq (l : FVec Ideal S32768x256 .f32) (w : FVec Ideal S256x8x64 .f32) :
    out1 l w = fun i => headAt (w := 64) (by decide) (lifted l w) (i 0).val (i 1).val := by
  funext i
  have h1 : (i 1).val < 512 := (i 1).isLt
  have hi : i = ix2 (i 0) (⟨(⟨(i 1).val / 64, by omega⟩ : Fin 8).val * 64 + (⟨(i 1).val % 64, by omega⟩ : Fin 64).val, by dsimp only; omega⟩ : Fin 512) := by
    funext a
    apply Fin.ext
    match a with
    | ⟨0, _⟩ => rfl
    | ⟨1, _⟩ => show (i 1).val = (i 1).val / 64 * 64 + (i 1).val % 64; omega
  refine (congrArg _ hi).trans ((out1_apply l w _ _ _).trans ((headAt_eq (by decide) _ _ _ _).symm.trans ?_))
  congr 1
  dsimp only
  omega

end Cert.KeysRefIdeal.Read
-- ==== Proof.KeysClaims.lean ====
/- The value claim of the keys: kernel and reference leave the same two arrays. -/
module

public import proofs.«01_k».proof.Defs
public import proofs.«01_k».proof.Proof.KeysRefRead
public import Idealize.ShloMosaic.Adequacy
public import Idealize.ShloMosaic.Init

@[expose] public section

set_option maxRecDepth 16384

noncomputable section

namespace Cert.KeysClaims

open Idealize.ShloMosaic Idealize.SL.Sem

attribute [local instance] Cert.KeysIdeal.Gen.facts Cert.KeysRefIdeal.Gen.facts

/-- The kernel's two result arrays and the reference's are the same. -/
theorem algebraic : Cert.algebraic_KeysIdeal_KeysRefIdeal := by
  intro m g m' g' _ hagree
  refine ⟨_, _, (θ_run Cert.KeysIdeal.defs _ _).mono (fun r h c => ⟨(h c).1.trans (Cert.KeysIdeal.Heads.array5 m c),
        (h c).2.1.trans (Cert.KeysIdeal.Heads.array6 m c), (h c).2.2⟩)
      (Cert.KeysIdeal.Value.run_blocks (F := Ideal) m g), ?_⟩
  refine (θ_run Cert.KeysRefIdeal.defs _ _).mono (fun r h c => ⟨(h c).1.trans ?_, (h c).2.1.trans ?_, (h c).2.2⟩)
      (Cert.KeysRefIdeal.Value.run (F := Ideal) m' g')
  all_goals obtain ⟨a0, a1, a2, a3, a4⟩ := hagree c
  · rw [a0, a1, a2, a4]
    exact Cert.KeysRefIdeal.Read.out0_eq _ _ _ _
  · rw [a0, a3]
    exact Cert.KeysRefIdeal.Read.out1_eq _ _

/-- The reference ends with its arguments as they were and every semaphore at zero. -/
theorem frame_ri : Cert.quiescent_KeysRefIdeal := fun m ρ _ =>
  (θ_run Cert.KeysRefIdeal.defs _ _).mono (fun r h => ⟨fun c => (h c).2.2, sem_eq_zero_of_no_sems (by decide) r.2⟩)
    (Cert.KeysRefIdeal.Value.run (F := Ideal) m ρ)

end Cert.KeysClaims
-- ==== Proof.PrepSpec.lean ====
/- The formulas of the projection's preparation, row by row: normalisation, rotation, and the short convolution. -/
module

public import proofs.«01_k».proof.Proof.KeysSpec

@[expose] public section

noncomputable section

namespace Cert.Prepare

open Cert.Heads Idealize.ShloMosaic

/-! ## Normalisation -/

/-- The factor that a row's sum of squares and its length give. -/
def factor (s d : EReal) : EReal := Ideal.rsqrt (Ideal.div s d + Ideal.ofBits .f32 0x358637BD#32)

/-- A row divided by the root of its mean square (plus a small constant), times a gain. -/
def scaled {w : ℕ} (d : EReal) (k g : Fin w → EReal) (n : Fin w) : EReal := k n * factor (∑ y, k y * k y) d * g n

abbrev d32 : EReal := Ideal.ofBits .f32 0x42000000#32
abbrev d64 : EReal := Ideal.ofBits .f32 0x42800000#32
abbrev d256 : EReal := Ideal.ofBits .f32 0x43800000#32

/-! ## Rotation -/

/-- The rotation of the 16 pairs of a row of 32. -/
def rotated (y : Fin 32 → EReal) (c s : Fin 16 → EReal) (n : Fin 32) : EReal :=
  if h : n.val < 16 then y n * c ⟨n.val, h⟩ - y ⟨n.val + 16, by omega⟩ * s ⟨n.val, h⟩
  else y n * c ⟨n.val - 16, by omega⟩ + y ⟨n.val - 16, by omega⟩ * s ⟨n.val - 16, by omega⟩

/-- The first 64 columns of a head, and the 32 after them. -/
def low (k : Fin 128 → EReal) (n : Fin 64) : EReal := k ⟨n.val, by omega⟩
def mid (k : Fin 128 → EReal) (n : Fin 32) : EReal := k ⟨64 + n.val, by omega⟩

/-- A head's query: 64 normalised columns, 32 normalised and rotated columns, then zeros. -/
def query (k : Fin 128 → EReal) (gn : Fin 64 → EReal) (gr : Fin 32 → EReal) (c s : Fin 16 → EReal) (n : Fin 128) : EReal :=
  if h : n.val < 64 then scaled d64 (low k) gn ⟨n.val, h⟩
  else if h' : n.val < 96 then rotated (scaled d32 (mid k) gr) c s ⟨n.val - 64, by omega⟩ else 0

/-- The rotated part of the keys, at its place among 128 columns. -/
def keyPart (e g : Fin 32 → EReal) (c s : Fin 16 → EReal) (n : Fin 128) : EReal := shifted (rotated (scaled d32 e g) c s) n

/-! ## The same on 128 lanes -/

/-- The sum of squares over some of the lanes. -/
def part (p : ℕ → Prop) [DecidablePred p] (k : Fin 128 → EReal) : EReal := ∑ y, if p y.val then k y * k y else 0

/-- The lanes of a head, each part divided by its own root, times a gain. -/
def lanes (k g : Fin 128 → EReal) (n : Fin 128) : EReal :=
  k n * (if n.val < 64 then factor (part (· < 64) k) d64 else factor (part (fun y => 64 ≤ y ∧ y < 96) k) d32) * g n

/-- The rotation on 128 lanes, by the tables of cosines and signed sines. -/
def turned (y c s : Fin 128 → EReal) (n : Fin 128) : EReal :=
  y n * c n + (if n.val < 80 then y ⟨(n.val + 128 - 112) % 128, Nat.mod_lt _ (by decide)⟩ else y ⟨(n.val + 128 - 16) % 128, Nat.mod_lt _ (by decide)⟩) * s n

/-- The tables on 128 lanes. -/
def cosines (c : Fin 16 → EReal) (n : Fin 128) : EReal :=
  if n.val < 64 then 1 else if h : n.val - 64 < 16 then c ⟨n.val - 64, h⟩ else if h' : n.val - 64 - 16 < 16 then c ⟨n.val - 64 - 16, h'⟩ else 1
def sines (s : Fin 16 → EReal) (n : Fin 128) : EReal :=
  if n.val < 64 then 0 else if h : n.val - 64 < 16 then -s ⟨n.val - 64, h⟩ else if h' : n.val - 64 - 16 < 16 then s ⟨n.val - 64 - 16, h'⟩ else 0

/-- The gains on 128 lanes. -/
def gains (gn : Fin 64 → EReal) (gr : Fin 32 → EReal) (n : Fin 128) : EReal :=
  if h : n.val < 64 then gn ⟨n.val, h⟩ else if h' : n.val < 96 then gr ⟨n.val - 64, by omega⟩ else 0

theorem sum_lanes (f : Fin 128 → EReal) :
    ∑ y, f y = (∑ y : Fin 64, f ⟨y.val, by omega⟩) + ((∑ y : Fin 32, f ⟨64 + y.val, by omega⟩) + ∑ y : Fin 32, f ⟨96 + y.val, by omega⟩) := by
  refine (Fin.sum_univ_add (a := 64) (b := 64) f).trans ?_
  congr 1
  refine (Fin.sum_univ_add (a := 32) (b := 32) (fun y : Fin (32 + 32) => f (Fin.natAdd 64 y))).trans ?_
  refine congrArg _ (Finset.sum_congr rfl fun y _ => congrArg f (Fin.ext ?_))
  show 64 + (32 + y.val) = 96 + y.val
  omega

theorem part_low (k : Fin 128 → EReal) : part (· < 64) k = ∑ y, low k y * low k y := by
  unfold part
  rw [sum_lanes, Finset.sum_congr rfl fun (y : Fin 64) _ => if_pos (show y.val < 64 from y.isLt),
    Finset.sum_eq_zero fun (y : Fin 32) _ => if_neg (show ¬(64 + y.val < 64) by omega),
    Finset.sum_eq_zero fun (y : Fin 32) _ => if_neg (show ¬(96 + y.val < 64) by omega), add_zero, add_zero]
  rfl

theorem part_mid (k : Fin 128 → EReal) : part (fun y => 64 ≤ y ∧ y < 96) k = ∑ y, mid k y * mid k y := by
  unfold part
  rw [sum_lanes, Finset.sum_eq_zero fun (y : Fin 64) _ => if_neg (show ¬(64 ≤ y.val ∧ y.val < 96) by omega),
    Finset.sum_congr rfl fun (y : Fin 32) _ => if_pos (show 64 ≤ 64 + y.val ∧ 64 + y.val < 96 by omega),
    Finset.sum_eq_zero fun (y : Fin 32) _ => if_neg (show ¬(64 ≤ 96 + y.val ∧ 96 + y.val < 96) by omega), zero_add, add_zero]
  rfl

theorem shifted_mid (e : Fin 32 → EReal) (n : Fin 32) : shifted e ⟨64 + n.val, by omega⟩ = e n := by
  unfold shifted
  rw [dif_pos (by dsimp only; omega)]
  exact congrArg e (Fin.ext (Nat.add_sub_cancel_left ..))

theorem sum_shifted (e : Fin 32 → EReal) : ∑ y, shifted e y * shifted e y = ∑ y, e y * e y := by
  have h1 : ∀ y : Fin 64, shifted e ⟨y.val, by omega⟩ = 0 := fun y => dif_neg (by dsimp only; omega)
  have h2 : ∀ y : Fin 32, shifted e ⟨96 + y.val, by omega⟩ = 0 := fun y => dif_neg (by dsimp only; omega)
  rw [sum_lanes]
  simp only [h1, h2, shifted_mid, mul_zero, Finset.sum_const_zero, zero_add, add_zero]

/-- The rotation on 128 lanes leaves the first 64 lanes, rotates the next 32, and keeps the zeros of the rest. -/
theorem turned_eq (y : Fin 128 → EReal) (z : Fin 32 → EReal) (c s : Fin 16 → EReal) (hm : ∀ n : Fin 32, y ⟨64 + n.val, by omega⟩ = z n)
    (h0 : ∀ n : Fin 128, 96 ≤ n.val → y n = 0) (n : Fin 128) :
    turned y (cosines c) (sines s) n = if n.val < 64 then y n else if h' : n.val < 96 then rotated z c s ⟨n.val - 64, by omega⟩ else 0 := by
  have hm' : ∀ (a : Fin 128) (b : Fin 32), a.val = 64 + b.val → y a = z b := fun a b h => (congrArg y (Fin.ext h)).trans (hm b)
  unfold turned cosines sines
  by_cases h : n.val < 64
  · simp only [if_pos h, mul_one, mul_zero, add_zero]
  · by_cases h' : n.val < 96
    · rw [if_neg h, if_neg h, if_neg h, dif_pos h', hm' n ⟨n.val - 64, by omega⟩ (by dsimp only; omega)]
      unfold rotated
      by_cases h'' : n.val - 64 < 16
      · rw [dif_pos h'', dif_pos h'', dif_pos h'', if_pos (by omega), hm' _ ⟨n.val - 64 + 16, by omega⟩ (by dsimp only; omega), mul_neg, sub_eq_add_neg]
      · rw [dif_neg h'', dif_neg h'', dif_neg h'', dif_pos (by omega), dif_pos (by omega), if_neg (by omega), hm' _ ⟨n.val - 64 - 16, by omega⟩ (by dsimp only; omega)]
    · have h1 : ¬(n.val - 64 < 16) := by omega
      have h2 : ¬(n.val - 64 - 16 < 16) := by omega
      simp only [if_neg h, dif_neg h', dif_neg h1, dif_neg h2, mul_one, mul_zero, add_zero]
      exact h0 n (by omega)

/-- The lanes of a head give its query. -/
theorem turned_query (k : Fin 128 → EReal) (gn : Fin 64 → EReal) (gr : Fin 32 → EReal) (c s : Fin 16 → EReal) (n : Fin 128) :
    turned (lanes k (gains gn gr)) (cosines c) (sines s) n = query k gn gr c s n := by
  rw [turned_eq _ (scaled d32 (mid k) gr) c s (fun n => ?_) (fun n hn => ?_)]
  · unfold query
    by_cases h : n.val < 64
    · rw [if_pos h, dif_pos h]
      unfold lanes gains scaled
      rw [if_pos h, dif_pos h, part_low]
      rfl
    · rw [if_neg h, dif_neg h]
  · unfold lanes gains scaled
    rw [if_neg (by dsimp only; omega), dif_neg (by dsimp only; omega), dif_pos (by dsimp only; omega), part_mid]
    exact congrArg _ (congrArg gr (Fin.ext (Nat.add_sub_cancel_left ..)))
  · unfold lanes gains
    rw [dif_neg (by omega), dif_neg (by omega), mul_zero]

/-- The lanes of the keys' part, zeros around it, give the rotated part. -/
theorem turned_key (e g : Fin 32 → EReal) (c s : Fin 16 → EReal) (n : Fin 128) :
    turned (scaled d32 (shifted e) (shifted g)) (cosines c) (sines s) n = keyPart e g c s n := by
  have hz : ∀ n : Fin 128, ¬(64 ≤ n.val ∧ n.val < 96) → scaled d32 (shifted e) (shifted g) n = 0 := fun n hn => by
    unfold scaled
    rw [show shifted g n = 0 from dif_neg hn, mul_zero]
  rw [turned_eq _ (scaled d32 e g) c s (fun n => ?_) (fun n hn => hz n (by omega))]
  · show _ = if h : 64 ≤ n.val ∧ n.val < 96 then rotated (scaled d32 e g) c s ⟨n.val - 64, by omega⟩ else 0
    by_cases h : n.val < 64
    · rw [if_pos h, dif_neg (by omega), hz n (by omega)]
    · by_cases h' : n.val < 96
      · rw [if_neg h, dif_pos h', dif_pos (by omega)]
      · rw [if_neg h, dif_neg h', dif_neg (by omega)]
  · unfold scaled
    rw [sum_shifted, shifted_mid, shifted_mid]

/-! ## The short convolution -/

/-- The rows of the convolution's input, `j` rows back within a sequence of 8192 rows; zero before its start. -/
def back (v : Fin 32768 → Fin 512 → EReal) (j : ℕ) (r : Fin 32768) (n : Fin 512) : EReal :=
  if r.val % 8192 < j then 0 else v ⟨r.val - j, by omega⟩ n

/-- A row of the short convolution: three taps, times a gate. -/
def conv (b : EReal) (v : Fin 32768 → Fin 512 → EReal) (w : Fin 3 → Fin 512 → EReal) (r : Fin 32768) (n : Fin 512) : EReal :=
  b * (back v 2 r n * w 0 n + back v 1 r n * w 1 n + v r n * w 2 n)

/-! ## Arrays at numbers -/

/-- An array of rows at a row and a column given as numbers. -/
def rowAt {w : ℕ} (hw : 0 < w) (f : Fin 32768 → Fin w → EReal) (a b : ℕ) : EReal :=
  f ⟨a % 32768, Nat.mod_lt _ (by decide)⟩ ⟨b % w, Nat.mod_lt _ hw⟩

theorem rowAt_eq {w : ℕ} (hw : 0 < w) (f : Fin 32768 → Fin w → EReal) (r : Fin 32768) (n : Fin w) : rowAt hw f r.val n.val = f r n := by
  have er : (⟨r.val % 32768, Nat.mod_lt _ (by decide)⟩ : Fin 32768) = r := Fin.ext (Nat.mod_eq_of_lt r.isLt)
  have en : (⟨n.val % w, Nat.mod_lt _ hw⟩ : Fin w) = n := Fin.ext (Nat.mod_eq_of_lt n.isLt)
  unfold rowAt
  rw [er, en]

end Cert.Prepare
-- ==== Proof.PrepHead.lean ====
/- The operations of the preparation's kernel on a block, entry by entry. -/
module

public import proofs.«01_k».proof.Proof.PrepSpec
public import proofs.«01_k».proof.Proof.Gen.PrepIdeal.Skeleton
public import Idealize.ShloMosaic.Lib.Pipeline.ValueKit
public import Idealize.ShloMosaic.Lib.Pipeline.ReadBack

@[expose] public section

set_option maxRecDepth 16384

noncomputable section

namespace Cert.PrepIdeal.Blocks

open Cert.Prepare Cert.PrepIdeal Cert.PrepIdeal.Gen Idealize.ShloMosaic Idealize.ShloMosaic.TcCoe Idealize.SL.Sem

/-- The three taps of the convolution. -/
def tap0 (w : Vec Ideal S3x512 .f32) : Vec Ideal S1x512 .f32 := View.ld w (Rect.unit (s := S3x512) ![0, 0] S1x512.size inb_S3x512_S1x512_0_0)
def tap1 (w : Vec Ideal S3x512 .f32) : Vec Ideal S1x512 .f32 := View.ld w (Rect.unit (s := S3x512) ![1, 0] S1x512.size inb_S3x512_S1x512_1_0)
def tap2 (w : Vec Ideal S3x512 .f32) : Vec Ideal S1x512 .f32 := View.ld w (Rect.unit (s := S3x512) ![2, 0] S1x512.size inb_S3x512_S1x512_2_0)

theorem tap_apply (k : ℕ) (h : Fin 3) (hk : h.val = k) (w : Vec Ideal S3x512 .f32)
    (e : ∀ a, (![k, 0] : Fin 2 → ℕ) a + S1x512.size a ≤ S3x512.size a) (n : Fin 512) :
    View.ld w (Rect.unit (s := S3x512) ![k, 0] S1x512.size e) (ix2 0 n : S1x512.Idx) = w (ix2 h n) := by
  refine View.ld_unit_apply_of _ _ _ _ _ _ fun a => ?_
  match a with
  | ⟨0, _⟩ => exact hk
  | ⟨1, _⟩ => exact (Nat.zero_add _).symm

theorem tap0_apply (w : Vec Ideal S3x512 .f32) (n : Fin 512) : tap0 w (ix2 0 n) = w (ix2 0 n) := tap_apply 0 0 rfl w _ n
theorem tap1_apply (w : Vec Ideal S3x512 .f32) (n : Fin 512) : tap1 w (ix2 0 n) = w (ix2 1 n) := tap_apply 1 1 rfl w _ n
theorem tap2_apply (w : Vec Ideal S3x512 .f32) (n : Fin 512) : tap2 w (ix2 0 n) = w (ix2 2 n) := tap_apply 2 2 rfl w _ n

/-! ## The bits that select -/

theorem pick {α : Type} (p : Prop) [Decidable p] (a b : α) : Scalar.select (if p then 1#1 else 0#1) a b = if p then a else b := by
  by_cases h : p
  · simp only [if_pos h]; rfl
  · simp only [if_neg h]; rfl

theorem bit64 : ∀ l : Fin 128, IntOp.cmpi .slt (BitVec.ofNat 32 l.val) 64#32 = if l.val < 64 then 1#1 else 0#1 := by decide +kernel
theorem bit80 : ∀ l : Fin 128, IntOp.cmpi .slt (BitVec.ofNat 32 l.val) 80#32 = if l.val < 80 then 1#1 else 0#1 := by decide +kernel
theorem bits96 : ∀ l : Fin 128, IntOp.andi (IntOp.cmpi .sge (BitVec.ofNat 32 l.val) 64#32) (IntOp.cmpi .slt (BitVec.ofNat 32 l.val) 96#32)
    = if 64 ≤ l.val ∧ l.val < 96 then 1#1 else 0#1 := by decide +kernel
theorem bit0 : ∀ r : Fin 512, IntOp.cmpi .eq (BitVec.ofNat 32 r.val) 0#32 = if r.val = 0 then 1#1 else 0#1 := by decide +kernel
theorem bit1 : ∀ r : Fin 512, IntOp.cmpi .eq (BitVec.ofNat 32 r.val) 1#32 = if r.val = 1 then 1#1 else 0#1 := by decide +kernel

/-! ## The queries of a block -/

/-- The queries of one head of a block. -/
def rotHead (c s : FVec Ideal S512x128 .f32) (g : FVec Ideal S1x128 .f32) (x : Vec Ideal S512x128 .f32) : FVec Ideal S512x128 .bf16 :=
  k0_pay17 c s (k0_pay14 g x) k0_pay15 (k0_pay16 g x)

section
variable (c s : FVec Ideal S512x128 .f32) (g : FVec Ideal S1x128 .f32) (x : Vec Ideal S512x128 .f32)

/-- The lane numbers of a row. -/
abbrev numbers : IVec S1x128 32 := iota .tc S1x128 32 [1] iota_S1x128_d1_w32

theorem head_1 : k0_pay24 c s g (k0_pay18 x) numbers (k0_pay21 x) (k0_pay22 x) k0_pay23 = rotHead c s g x := rfl
theorem head_2 : k0_pay30 c s g (k0_pay25 x) numbers k0_pay26 (k0_pay27 x) (k0_pay28 x) (Scalar.ofBits .f32 0x00000000#32) k0_pay29 = rotHead c s g x := rfl
theorem head_3 : k0_pay35 c s g (k0_pay31 x) numbers k0_pay32 (k0_pay33 x) (Scalar.ofBits .f32 0x00000000#32) k0_pay34 = rotHead c s g x := rfl
theorem head_4 : k0_pay41 c s (k0_pay37 g (k0_pay36 x) numbers) (k0_pay38 g (k0_pay36 x) numbers) (k0_pay39 g (k0_pay36 x) numbers) (k0_pay40 numbers) = rotHead c s g x := rfl
theorem head_5 : k0_pay48 c s g (k0_pay42 x) numbers k0_pay45 (k0_pay46 x) (k0_pay47 x) = rotHead c s g x := rfl
theorem head_6 : k0_pay54 c s g (k0_pay49 x) numbers k0_pay50 (k0_pay52 x) (k0_pay53 x) = rotHead c s g x := rfl
theorem head_7 : k0_pay59 c s g (k0_pay55 x) numbers k0_pay56 (k0_pay57 x) (k0_pay58 x) = rotHead c s g x := rfl

theorem pay14_apply (r : Fin 512) (l : Fin 128) : k0_pay14 g x (ix2 r l) = lanes (fun y => x (ix2 r y)) (fun y => g (ix2 0 y)) l := by
  pointwise [k0_pay14]
  simp only [bit64, bits96, pick]
  rfl

theorem turn_apply (y : FVec Ideal S512x128 .f32) (r : Fin 512) (l : Fin 128) :
    k0_pay17 c s y k0_pay15 (dynamicRotate 1 112#32 none y rotates_S512x128_d1) (ix2 r l)
      = turned (fun n => y (ix2 r n)) (fun n => c (ix2 r n)) (fun n => s (ix2 r n)) l := by
  pointwise [k0_pay17, k0_pay15]
  simp only [bit80, pick]
  rfl

theorem rotHead_apply (r : Fin 512) (l : Fin 128) : rotHead c s g x (ix2 r l)
    = turned (lanes (fun y => x (ix2 r y)) (fun y => g (ix2 0 y))) (fun n => c (ix2 r n)) (fun n => s (ix2 r n)) l := by
  refine (turn_apply c s (k0_pay14 g x) r l).trans ?_
  simp only [pay14_apply]

/-- The keys' rotated part of a block. -/
theorem pay62_apply (r : Fin 512) (l : Fin 128) : k0_pay62 c s x g numbers (ix2 r l)
    = turned (scaled d32 (fun y => x (ix2 r y)) (fun y => g (ix2 0 y))) (fun n => c (ix2 r n)) (fun n => s (ix2 r n)) l := by
  pointwise [k0_pay62]
  simp only [bit80, pick]
  rfl

end

/-! ## The other arrays of a block -/

theorem pay11_eq (v : Vec Ideal S512x128 .f32) : k0_pay11 v = v := by
  funext i
  pointwise [k0_pay11]
  try rfl

theorem pay12_eq (v : Vec Ideal S512x128 .f32) : k0_pay12 v = v := by
  funext i
  pointwise [k0_pay12]
  try rfl

theorem pay13_eq (v : Vec Ideal S1x128 .f32) : k0_pay13 v = v := by
  funext i
  pointwise [k0_pay13]
  try rfl

theorem pay60_eq (v : Vec Ideal S512x128 .f32) : k0_pay60 v = v := by
  funext i
  pointwise [k0_pay60]
  try rfl

theorem pay61_eq (v : Vec Ideal S1x128 .f32) : k0_pay61 v = v := by
  funext i
  pointwise [k0_pay61]
  try rfl

/-- The normalised latent of a block. -/
theorem pay1_apply (x : Vec Ideal S512x256 .f32) (g : Vec Ideal S1x256 .f32) (r : Fin 512) (l : Fin 256) :
    k0_pay1 (k0_pay63 x) (k0_pay64 x) g (ix2 r l) = scaled d256 (fun y => x (ix2 r y)) (fun y => g (ix2 0 y)) l := by
  pointwise [k0_pay1, k0_pay63, k0_pay64]
  rfl

/-- The last rows of a block's products. -/
theorem pay9_apply (a b : Vec Ideal S512x512 .f32) (j : Fin 8) (n : Fin 512) :
    k0_pay9 (k0_pay2 a b) (ix3 0 j n) = a (ix2 ⟨504 + j.val, by omega⟩ n) * b (ix2 ⟨504 + j.val, by omega⟩ n) := by
  pointwise [k0_pay9, k0_pay2]
  try rfl

/-- The products of the rows before a block; zero at the start of a sequence. -/
theorem pay4_apply (t : Fin grid0.N) (a b : Vec Ideal S8x512 .f32) (j : Fin 8) (n : Fin 512) :
    k0_pay4 (grid0.coords t) a b (ix2 j n) = if t.val % 16 = 0 then 0 else a (ix2 j n) * b (ix2 j n) := by
  have hb : ∀ t : Fin grid0.N, Scalar.cmpi .eq (Scalar.select (Scalar.andi (Scalar.xori (Scalar.cmpi .slt (Scalar.remsi (BitVec.ofNat 32 (grid0.coords t 0).val)
          (Scalar.select (Scalar.cmpi .eq 16#32 0#32) 1#32 16#32)) 0#32)
        (Scalar.cmpi .slt (Scalar.select (Scalar.cmpi .eq 16#32 0#32) 1#32 16#32) 0#32))
        (Scalar.cmpi .ne (Scalar.remsi (BitVec.ofNat 32 (grid0.coords t 0).val) (Scalar.select (Scalar.cmpi .eq 16#32 0#32) 1#32 16#32)) 0#32))
        (Scalar.addi (Scalar.remsi (BitVec.ofNat 32 (grid0.coords t 0).val) (Scalar.select (Scalar.cmpi .eq 16#32 0#32) 1#32 16#32))
          (Scalar.select (Scalar.cmpi .eq 16#32 0#32) 1#32 16#32))
        (Scalar.remsi (BitVec.ofNat 32 (grid0.coords t 0).val) (Scalar.select (Scalar.cmpi .eq 16#32 0#32) 1#32 16#32))) 0#32
      = if t.val % 16 = 0 then 1#1 else 0#1 := by decide +kernel
  pointwise [k0_pay4]
  rw [hb t, pick]

/-- The short convolution's rows of a block. -/
theorem pay10_apply (i : grid0.Coords) (cc xc bc : Vec Ideal S512x512 .f32) (hc hx : Vec Ideal S8x512 .f32) (w0 w1 w2 : Vec Ideal S1x512 .f32) (r : Fin 512) (l : Fin 512) :
    k0_pay10 (k0_pay2 cc xc) (iota .tc S512x1 32 [0] iota_S512x1_d0_w32) (k0_pay3 cc xc) (k0_pay4 i hc hx) (k0_pay5 i cc xc hc hx) k0_pay6 (k0_pay7 i hc hx) k0_pay8 w0 w1 w2 bc (ix2 r l)
      = bc (ix2 r l) * ((if r.val = 0 then k0_pay4 i hc hx (ix2 6 l) else if r.val = 1 then k0_pay4 i hc hx (ix2 7 l)
            else cc (ix2 ⟨(r.val + 512 - 2) % 512, Nat.mod_lt _ (by decide)⟩ l) * xc (ix2 ⟨(r.val + 512 - 2) % 512, Nat.mod_lt _ (by decide)⟩ l)) * w0 (ix2 0 l)
          + (if r.val = 0 then k0_pay4 i hc hx (ix2 7 l)
            else cc (ix2 ⟨(r.val + 512 - 1) % 512, Nat.mod_lt _ (by decide)⟩ l) * xc (ix2 ⟨(r.val + 512 - 1) % 512, Nat.mod_lt _ (by decide)⟩ l)) * w1 (ix2 0 l)
          + cc (ix2 r l) * xc (ix2 r l) * w2 (ix2 0 l)) := by
  unfold k0_pay5 k0_pay7
  generalize k0_pay4 i hc hx = h
  pointwise [k0_pay10, k0_pay2, k0_pay3, k0_pay6, k0_pay8]
  simp only [bit0, bit1, pick]

end Cert.PrepIdeal.Blocks
-- ==== Proof.PrepBody.lean ====
/- What a point of the preparation's kernel writes, as its operations on the blocks it reads. -/
module

public import proofs.«01_k».proof.Proof.PrepHead
public import proofs.«01_k».proof.Proof.Gen.PrepIdeal.Value

@[expose] public section

set_option maxRecDepth 16384

noncomputable section

namespace Cert.PrepIdeal.Blocks

open Cert.Prepare Cert.PrepIdeal Cert.PrepIdeal.Gen Idealize.ShloMosaic Idealize.ShloMosaic.TcCoe Idealize.SL.Sem

theorem zeros : (![0, 0] : Fin 2 → ℕ) = fun _ => 0 := by decide

theorem ld6 (v : Vec Ideal S512x128 .f32) (inb : ∀ a, (![0, 0] : Fin 2 → ℕ) a + S512x128.size a ≤ S512x128.size a) :
    View.ld v (Rect.unit (s := S512x128) ![0, 0] ![512, 128] inb) = v := View.ld_unit_zero zeros inb v

theorem ld9 (v : Vec Ideal S1x128 .f32) (inb : ∀ a, (![0, 0] : Fin 2 → ℕ) a + S1x128.size a ≤ S1x128.size a) :
    View.ld v (Rect.unit (s := S1x128) ![0, 0] ![1, 128] inb) = v := View.ld_unit_zero zeros inb v

/-- The columns of head `b`, of a row. -/
def head (x : Vec Ideal S512x1024 .f32) (r : Fin 512) (b : Fin 8) (y : Fin 128) : EReal := x (ix2 r ⟨b.val * 128 + y.val, by omega⟩)

/-- The queries of a block at a row and a column given as numbers. -/
def queriesAt (c s : Vec Ideal S512x128 .f32) (g : Vec Ideal S1x128 .f32) (x : Vec Ideal S512x1024 .f32) (r : Fin 512) (n : ℕ) : EReal :=
  turned (lanes (head x r ⟨n / 128 % 8, Nat.mod_lt _ (by decide)⟩) (fun y => g (ix2 0 y))) (fun y => c (ix2 r y)) (fun y => s (ix2 r y))
    ⟨n % 128, Nat.mod_lt _ (by decide)⟩

theorem queriesAt_head (c s : Vec Ideal S512x128 .f32) (g : Vec Ideal S1x128 .f32) (x : Vec Ideal S512x1024 .f32) (r : Fin 512) (b : Fin 8)
    (y : Fin 128) (n : ℕ) (hn : n = b.val * 128 + y.val) :
    queriesAt c s g x r n = turned (lanes (head x r b) (fun y => g (ix2 0 y))) (fun y => c (ix2 r y)) (fun y => s (ix2 r y)) y := by
  have eb : (⟨n / 128 % 8, Nat.mod_lt _ (by decide)⟩ : Fin 8) = b := Fin.ext (by show n / 128 % 8 = b.val; omega)
  have ey : (⟨n % 128, Nat.mod_lt _ (by decide)⟩ : Fin 128) = y := Fin.ext (by show n % 128 = y.val; omega)
  unfold queriesAt
  rw [eb, ey]

theorem ld_head (x : Vec Ideal S512x1024 .f32) (b : Fin 8) (o : ℕ) (ho : o = b.val * 128)
    (inb : ∀ a, (![0, o] : Fin 2 → ℕ) a + S512x128.size a ≤ S512x1024.size a) (r : Fin 512) (n : Fin 128) :
    View.ld x (Rect.unit (s := S512x1024) ![0, o] S512x128.size inb) (ix2 r n : S512x128.Idx) = head x r b n := by
  unfold head
  refine View.ld_unit_apply_of _ _ _ _ _ _ fun a => ?_
  match a with
  | ⟨0, _⟩ => exact (Nat.zero_add _).symm
  | ⟨1, _⟩ => exact congrArg (· + n.val) ho.symm

/-- A store of one head's columns agrees with the queries of the block. -/
theorem stored (c s : Vec Ideal S512x128 .f32) (g : Vec Ideal S1x128 .f32) (x : Vec Ideal S512x1024 .f32) (b : Fin 8) (o : ℕ) (ho : o = b.val * 128)
    (inb : ∀ a, (![0, o] : Fin 2 → ℕ) a + S512x128.size a ≤ S512x1024.size a)
    (y : (Rect.unit (s := S512x1024) ![0, o] S512x128.size inb).shape.Idx) :
    rotHead c s g (View.ld x (Rect.unit (s := S512x1024) ![0, o] S512x128.size inb)) y
      = queriesAt c s g x ((Rect.unit (s := S512x1024) ![0, o] S512x128.size inb).emb y 0) ((Rect.unit (s := S512x1024) ![0, o] S512x128.size inb).emb y 1).val := by
  have h0 : (y 0).val < 512 := (y 0).isLt
  have h1 : (y 1).val < 128 := (y 1).isLt
  have hy : y = (ix2 (⟨(y 0).val, h0⟩ : Fin 512) (⟨(y 1).val, h1⟩ : Fin 128) : S512x128.Idx) := by
    funext a
    apply Fin.ext
    match a with
    | ⟨0, _⟩ => rfl
    | ⟨1, _⟩ => rfl
  have e0 : (Rect.unit (s := S512x1024) ![0, o] S512x128.size inb).emb y 0 = (⟨(y 0).val, h0⟩ : Fin 512) := Fin.ext (by
    show 0 + 1 * (y 0).val = (y 0).val
    omega)
  have e1 : ((Rect.unit (s := S512x1024) ![0, o] S512x128.size inb).emb y 1).val = o + 1 * (y 1).val := rfl
  rw [e0, queriesAt_head c s g x ⟨(y 0).val, h0⟩ b ⟨(y 1).val, h1⟩ _ (e1.trans (by show o + 1 * (y 1).val = b.val * 128 + (y 1).val; omega))]
  refine (congrArg _ hy).trans ((rotHead_apply c s g _ _ _).trans ?_)
  simp only [ld_head x b o ho inb]

section
variable (c : Dev nD) (i : grid0.Coords)
  (arg1 : Memref sig .tc .vmem S512x512 .f32) (harg1 : arg1.IsWhole)
  (arg2 : Memref sig .tc .vmem S512x512 .f32) (harg2 : arg2.IsWhole)
  (arg3 : Memref sig .tc .vmem S512x512 .f32) (harg3 : arg3.IsWhole)
  (arg4 : Memref sig .tc .vmem S512x1024 .f32) (harg4 : arg4.IsWhole)
  (arg5 : Memref sig .tc .vmem S512x256 .f32) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x128 .f32) (harg8 : arg8.IsWhole)
  (arg9 : Memref sig .tc .vmem S3x512 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x256 .f32) (harg12 : arg12.IsWhole)
  (arg13 : Memref sig .tc .vmem S8x512 .f32) (harg13 : arg13.IsWhole)
  (arg14 : Memref sig .tc .vmem S8x512 .f32) (harg14 : arg14.IsWhole)
  (arg15 : Memref sig .tc .vmem S512x512 .bf16) (harg15 : arg15.IsWhole)
  (arg16 : Memref sig .tc .vmem S512x1024 .bf16) (harg16 : arg16.IsWhole)
  (arg17 : Memref sig .tc .vmem S512x256 .f32) (harg17 : arg17.IsWhole)
  (arg18 : Memref sig .tc .vmem S512x128 .f32) (harg18 : arg18.IsWhole)
  (arg19 : Memref sig .tc .vmem S1x8x512 .f32) (harg19 : arg19.IsWhole)
  (x0 : Vec Ideal S512x512 .f32) (x1 : Vec Ideal S512x512 .f32) (x2 : Vec Ideal S512x512 .f32) (x3 : Vec Ideal S512x1024 .f32) (x4 : Vec Ideal S512x256 .f32) (x5 : Vec Ideal S512x128 .f32) (x6 : Vec Ideal S512x128 .f32) (x7 : Vec Ideal S512x128 .f32) (x8 : Vec Ideal S3x512 .f32) (x9 : Vec Ideal S1x128 .f32) (x10 : Vec Ideal S1x128 .f32) (x11 : Vec Ideal S1x256 .f32) (x12 : Vec Ideal S8x512 .f32) (x13 : Vec Ideal S8x512 .f32)

/-- A point writes the short convolution's rows. -/
theorem out_14 :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13
      = k0_pay10 (k0_pay2 x2 x0) (iota .tc S512x1 32 [0] iota_S512x1_d0_w32) (k0_pay3 x2 x0) (k0_pay4 i x13 x12) (k0_pay5 i x2 x0 x13 x12) k0_pay6 (k0_pay7 i x13 x12) k0_pay8 (tap0 x8) (tap1 x8) (tap2 x8) x1 := by
  unfold tap0 tap1 tap2
  frame_open
  simp (disch := decide) only [↓ View.readCov_skip, ↓ View.readCov_cons_toLoadRect, ↓ View.readCov_fill]
  frame_out

/-- A point writes the normalised latent's rows. -/
theorem out_16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 = k0_pay1 (k0_pay63 x4) (k0_pay64 x4) x11 := by
  frame_open
  simp (disch := decide) only [↓ View.readCov_skip, ↓ View.readCov_cons_toLoadRect, ↓ View.readCov_fill]
  frame_out

/-- A point writes the keys' rotated rows. -/
theorem out_17 : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 = k0_pay62 (k0_pay11 x6) (k0_pay12 x7) (k0_pay60 x5) (k0_pay61 x10) (iota .tc S1x128 32 [1] iota_S1x128_d1_w32) := by
  frame_open
  simp (disch := decide) only [↓ View.readCov_skip, ↓ View.readCov_cons_toLoadRect, ↓ View.readCov_fill]
  frame_out

/-- A point writes the last rows of its products. -/
theorem out_18 : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 = k0_pay9 (k0_pay2 x2 x0) := by
  frame_open
  simp (disch := decide) only [↓ View.readCov_skip, ↓ View.readCov_cons_toLoadRect, ↓ View.readCov_fill]
  frame_out

/-- A point writes the queries of its block. -/
theorem out_15 (r : Fin 512) (n : Fin 1024) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix2 r n) = queriesAt x6 x7 x9 x3 r n.val := by
  unfold out0_A_15
  rw [View.read_writes_junk_eq_canon]
  refine View.canon_apply_of_pieces (Val := Elt Ideal) (e := .bf16) (fun i : S512x1024.Idx => queriesAt x6 x7 x9 x3 (i 0) (i 1).val) _ (fun p hp => ?_) (ix2 r n) (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix2 r n))
  frame_open at hp
  simp only [List.mem_cons, List.not_mem_nil, or_false, View.readAt_eq_ld, Memref.IsWhole.read_unread, ld6, ld9, pay11_eq, pay12_eq, pay13_eq] at hp
  rcases hp with rfl | rfl | rfl | rfl | rfl | rfl | rfl | rfl
  · exact stored x6 x7 x9 x3 7 896 rfl inb_S512x1024_S512x128_0_896
  · exact stored x6 x7 x9 x3 6 768 rfl inb_S512x1024_S512x128_0_768
  · exact stored x6 x7 x9 x3 5 640 rfl inb_S512x1024_S512x128_0_640
  · exact stored x6 x7 x9 x3 4 512 rfl inb_S512x1024_S512x128_0_512
  · exact stored x6 x7 x9 x3 3 384 rfl inb_S512x1024_S512x128_0_384
  · exact stored x6 x7 x9 x3 2 256 rfl inb_S512x1024_S512x128_0_256
  · exact stored x6 x7 x9 x3 1 128 rfl inb_S512x1024_S512x128_0_128
  · exact stored x6 x7 x9 x3 0 0 rfl inb_S512x1024_S512x128_0_0

end

end Cert.PrepIdeal.Blocks
-- ==== Proof.PrepInput.lean ====
/- What the preparation's kernel reads: the host's arrays and the blocks of a point, entry by entry. -/
module

public import proofs.«01_k».proof.Proof.PrepBody
public import Idealize.ShloMosaic.Lib.KernelVsHost

@[expose] public section

set_option maxRecDepth 16384

noncomputable section

namespace Cert.PrepIdeal.Blocks

open Cert.Heads Cert.Prepare Cert.PrepIdeal Cert.PrepIdeal.Gen Idealize.ShloMosaic Idealize.ShloMosaic.TcCoe Idealize.SL.Sem

/-! ## The host's arrays -/

/-- The number a pad fills with. -/
def fill : FVec Ideal S_ .f32 := sitofp .f32 (constantI S_ 32 0#32)

theorem fill_eq (i : S_.Idx) : fill i = 0 := sitofp_zero

/-- The keys' part among 128 columns. -/
def apart (e : FVec Ideal S32768x32 .f32) : FVec Ideal S32768x128 .f32 :=
  pad S32768x128 ![0, 64] ![0, 32] ![0, 0] e fill pads_S32768x32_S32768x128_000_64320 h_S_

/-- The projected rows, the keys' part behind them. -/
def beside (z : FVec Ideal S32768x6400 .f32) (e : FVec Ideal S32768x128 .f32) : FVec Ideal S32768x6528 .f32 :=
  concatenate S32768x6528 1 [⟨S32768x6400, z⟩, ⟨S32768x128, e⟩] concatenates_S32768x6400_S32768x128_S32768x6528_d1

/-- The angles of the positions. -/
def angle (p : IVec S8192 32) : FVec Ideal S8192x16 .f32 :=
  mulf (broadcastInDim S8192x16 ![0, 1] bcast_S8192x1_S8192x16_0_1 (broadcastInDim S8192x1 ![0] bcast_S8192_S8192x1_0 (sitofp .f32 p))) (broadcastInDim S8192x16 ![0, 1] bcast_S1x16_S8192x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- Cosines and sines of the angles. -/
def cosOf (p : IVec S8192 32) : FVec Ideal S8192x16 .f32 := Host.cos (angle p)
def sinOf (p : IVec S8192 32) : FVec Ideal S8192x16 .f32 := Host.sin (angle p)

/-- The tables on 128 lanes. -/
def cosTable (c : FVec Ideal S8192x16 .f32) : FVec Ideal S8192x128 .f32 :=
  concatenate S8192x128 1 [⟨S8192x64, broadcastInDim S8192x64 ![] bcast_S_S8192x64 (constant S_ .f32 0x3F800000#32)⟩, ⟨S8192x16, c⟩, ⟨S8192x16, c⟩, ⟨S8192x32, broadcastInDim S8192x32 ![] bcast_S_S8192x32 (constant S_ .f32 0x3F800000#32)⟩] concatenates_S8192x64_S8192x16_S8192x16_S8192x32_S8192x128_d1
def sinTable (s : FVec Ideal S8192x16 .f32) : FVec Ideal S8192x128 .f32 :=
  concatenate S8192x128 1 [⟨S8192x64, broadcastInDim S8192x64 ![] bcast_S_S8192x64 (constant S_ .f32 0x00000000#32)⟩, ⟨S8192x16, Host.negf s⟩, ⟨S8192x16, s⟩, ⟨S8192x32, broadcastInDim S8192x32 ![] bcast_S_S8192x32 (constant S_ .f32 0x00000000#32)⟩] concatenates_S8192x64_S8192x16_S8192x16_S8192x32_S8192x128_d1

/-- The gains of two parts on 128 lanes. -/
def gainLanes (a : FVec Ideal S64 .f32) (b : FVec Ideal S32 .f32) : FVec Ideal S1x128 .f32 :=
  shapeCast S1x128 (pad S128 ![0] ![32] ![0] (concatenate S96 0 [⟨S64, a⟩, ⟨S32, b⟩] concatenates_S64_S32_S96_d0 : FVec Ideal S96 .f32) fill pads_S96_S128_0320 h_S_ : FVec Ideal S128 .f32) shapeCasts_S128_S1x128

theorem apart_apply (e : FVec Ideal S32768x32 .f32) (r : Fin 32768) (n : Fin 128) : apart e (ix2 r n) = shifted (fun y => e (ix2 r y)) n := by
  unfold shifted apart
  by_cases h : 64 ≤ n.val ∧ n.val < 96
  · rw [dif_pos h]
    refine pad_apply_of_inside _ _ _ e fill _ _ _ (ix2 r ⟨n.val - 64, by omega⟩) fun a => ?_
    match a with
    | ⟨0, _⟩ => show r.val = 0 + r.val * 1; omega
    | ⟨1, _⟩ => show n.val = 64 + (n.val - 64) * 1; omega
  · rw [dif_neg h]
    refine (pad_apply_of_not_inside _ _ _ e fill _ _ _ 1 ?_).trans (fill_eq _)
    show ¬(64 ≤ n.val ∧ (n.val - 64) % 1 = 0 ∧ (n.val - 64) / 1 < 32)
    omega

theorem beside_left (z : FVec Ideal S32768x6400 .f32) (e : FVec Ideal S32768x128 .f32) (r : Fin 32768) (n : Fin 6528) (h : n.val < 6400) :
    beside z e (ix2 r n) = z (ix2 r ⟨n.val, h⟩) := by
  pointwise [beside]
  simp only [dif_pos h]

theorem beside_right (z : FVec Ideal S32768x6400 .f32) (e : FVec Ideal S32768x128 .f32) (r : Fin 32768) (n : Fin 6528) (h : ¬n.val < 6400) :
    beside z e (ix2 r n) = e (ix2 r ⟨n.val - 6400, by omega⟩) := by
  pointwise [beside]
  simp only [dif_neg h]

theorem cosTable_apply (c : FVec Ideal S8192x16 .f32) (p : Fin 8192) (n : Fin 128) : cosTable c (ix2 p n) = cosines (fun y => c (ix2 p y)) n := by
  pointwise [cosTable]
  unfold cosines
  try rfl

theorem sinTable_apply (s : FVec Ideal S8192x16 .f32) (p : Fin 8192) (n : Fin 128) : sinTable s (ix2 p n) = sines (fun y => s (ix2 p y)) n := by
  pointwise [sinTable]
  unfold sines
  try rfl

theorem gainLanes_apply (a : FVec Ideal S64 .f32) (b : FVec Ideal S32 .f32) (n : Fin 128) :
    gainLanes a b (ix2 0 n) = gains (fun y => a (ix1 y)) (fun y => b (ix1 y)) n := by
  unfold gainLanes
  refine (shapeCast_apply _ shapeCasts_S128_S1x128 _ (ix1 n) ?_).trans ?_
  · rw [Shape.rowMajor_val_two, Shape.rowMajor_val_one]
    show n.val = 0 * 128 + n.val
    omega
  unfold gains
  by_cases h : n.val < 96
  · refine (pad_apply_of_inside _ _ _ _ fill _ _ _ (ix1 (⟨n.val, h⟩ : Fin 96)) fun a => ?_).trans ?_
    · match a with
      | ⟨0, _⟩ => show n.val = 0 + n.val * 1; omega
    · pointwise []
      by_cases h' : n.val < 64
      · simp only [dif_pos h']
      · simp only [dif_neg h', dif_pos h]
  · rw [dif_neg (by omega), dif_neg h]
    refine (pad_apply_of_not_inside _ _ _ _ fill _ _ _ 0 ?_).trans (fill_eq _)
    show ¬(0 ≤ n.val ∧ (n.val - 0) % 1 = 0 ∧ (n.val - 0) / 1 < 96)
    omega

/-- Zeros before the gains of the keys' part. -/
theorem gains_zero (g : Fin 32 → EReal) (n : Fin 128) : gains (fun _ => 0) g n = shifted g n := by
  unfold gains shifted
  by_cases h : n.val < 64
  · rw [dif_pos h, dif_neg (by omega)]
  · by_cases h' : n.val < 96
    · rw [dif_neg h, dif_pos h', dif_pos (by omega)]
    · rw [dif_neg h, dif_neg h', dif_neg (by omega)]

/-! ## What a point reads -/

/-- The block indices of a point: the columns of the projected rows. -/
theorem place_z : ∀ t : Fin grid0.N,
    ((cfg0.win 0).index t 0 = t.val ∧ (cfg0.win 0).index t 1 = 0) ∧ ((cfg0.win 1).index t 0 = t.val ∧ (cfg0.win 1).index t 1 = 1)
    ∧ ((cfg0.win 2).index t 0 = t.val ∧ (cfg0.win 2).index t 1 = 2) ∧ ((cfg0.win 3).index t 0 = t.val ∧ (cfg0.win 3).index t 1 = 2)
    ∧ ((cfg0.win 4).index t 0 = t.val ∧ (cfg0.win 4).index t 1 = 24) ∧ ((cfg0.win 5).index t 0 = t.val ∧ (cfg0.win 5).index t 1 = 50)
    ∧ ((cfg0.win 12).index t 0 = 64 * t.val - 1 ∧ (cfg0.win 12).index t 1 = 0)
    ∧ ((cfg0.win 13).index t 0 = 64 * t.val - 1 ∧ (cfg0.win 13).index t 1 = 2) := by decide +kernel

/-- The block indices of a point: the tables and the gains. -/
theorem place : ∀ t : Fin grid0.N,
    ((cfg0.win 6).index t 0 = t.val % 16 ∧ (cfg0.win 6).index t 1 = 0) ∧ ((cfg0.win 7).index t 0 = t.val % 16 ∧ (cfg0.win 7).index t 1 = 0)
    ∧ ((cfg0.win 8).index t 0 = 0 ∧ (cfg0.win 8).index t 1 = 0) ∧ ((cfg0.win 9).index t 0 = 0 ∧ (cfg0.win 9).index t 1 = 0)
    ∧ ((cfg0.win 10).index t 0 = 0 ∧ (cfg0.win 10).index t 1 = 0) ∧ ((cfg0.win 11).index t 0 = 0 ∧ (cfg0.win 11).index t 1 = 0) := by decide +kernel

variable (m : (ℓ : Loc nD τ sig) → Buf (Elt Ideal) ℓ) (c : Dev nD)

/-- The arguments. -/
abbrev Z : Vec Ideal S32768x6400 .f32 := m ((c.tc : Thread nD τ).loc main_arg0)
abbrev E : Vec Ideal S32768x32 .f32 := m ((c.tc : Thread nD τ).loc main_arg1)
abbrev P : Vec Ideal S8192 .i32 := m ((c.tc : Thread nD τ).loc main_arg2)
abbrev W : Vec Ideal S3x512 .f32 := m ((c.tc : Thread nD τ).loc main_arg3)
abbrev GN : Vec Ideal S64 .f32 := m ((c.tc : Thread nD τ).loc main_arg4)
abbrev GR : Vec Ideal S32 .f32 := m ((c.tc : Thread nD τ).loc main_arg5)
abbrev GK : Vec Ideal S32 .f32 := m ((c.tc : Thread nD τ).loc main_arg6)
abbrev GV : Vec Ideal S256 .f32 := m ((c.tc : Thread nD τ).loc main_arg7)

theorem V_z : V m c main_v1 = beside (Z m c) (apart (E m c)) := by
  simp only [V, hostOps0, hostOps0_1, hostOps0_2, hostOps0_3, hostOps0_4, hostOps0_5, hostOps0_6, List.flatten_cons, List.flatten_nil, List.append_nil, List.cons_append, List.nil_append]
  after_results
  try rfl

theorem V_cos : V m c main_v18 = cosTable (cosOf (P m c)) := by
  simp only [V, hostOps0, hostOps0_1, hostOps0_2, hostOps0_3, hostOps0_4, hostOps0_5, hostOps0_6, List.flatten_cons, List.flatten_nil, List.append_nil, List.cons_append, List.nil_append]
  after_results
  try rfl

theorem V_sin : V m c main_v22 = sinTable (sinOf (P m c)) := by
  simp only [V, hostOps0, hostOps0_1, hostOps0_2, hostOps0_3, hostOps0_4, hostOps0_5, hostOps0_6, List.flatten_cons, List.flatten_nil, List.append_nil, List.cons_append, List.nil_append]
  after_results
  try rfl

theorem V_gq : V m c main_v25 = gainLanes (GN m c) (GR m c) := by
  simp only [V, hostOps0, hostOps0_1, hostOps0_2, hostOps0_3, hostOps0_4, hostOps0_5, hostOps0_6, List.flatten_cons, List.flatten_nil, List.append_nil, List.cons_append, List.nil_append]
  after_results
  try rfl

theorem V_gk : V m c main_v29 = gainLanes (broadcastInDim S64 ![] bcast_S_S64 (constant S_ .f32 0x00000000#32)) (GK m c) := by
  simp only [V, hostOps0, hostOps0_1, hostOps0_2, hostOps0_3, hostOps0_4, hostOps0_5, hostOps0_6, List.flatten_cons, List.flatten_nil, List.append_nil, List.cons_append, List.nil_append]
  after_results
  try rfl

theorem V_gl : V m c main_v30 = (shapeCast S1x256 (GV m c : FVec Ideal S256 .f32) shapeCasts_S256_S1x256 : FVec Ideal S1x256 .f32) := by
  simp only [V, hostOps0, hostOps0_1, hostOps0_2, hostOps0_3, hostOps0_4, hostOps0_5, hostOps0_6, List.flatten_cons, List.flatten_nil, List.append_nil, List.cons_append, List.nil_append]
  after_results
  try rfl

theorem V_w : V m c main_arg3 = W m c := by
  simp only [V, hostOps0, hostOps0_1, hostOps0_2, hostOps0_3, hostOps0_4, hostOps0_5, hostOps0_6, List.flatten_cons, List.flatten_nil, List.append_nil, List.cons_append, List.nil_append]
  after_results
  try rfl

/-- Row `r` of the block of rows that a point works on, and its position in its sequence. -/
def row (t : Fin cfg0.N) (r : Fin 512) : Fin 32768 :=
  ⟨t.val * 512 + r.val, by have : t.val < 64 := lt_of_lt_of_eq t.isLt N_0; omega⟩
def spot (t : Fin cfg0.N) (r : Fin 512) : Fin 8192 := ⟨t.val % 16 * 512 + r.val, by omega⟩

/-- Row `j` of the eight rows before a block. -/
def before (t : Fin cfg0.N) (j : Fin 8) : Fin 32768 :=
  ⟨(64 * t.val - 1) * 8 + j.val, by have : t.val < 64 := lt_of_lt_of_eq t.isLt N_0; omega⟩

theorem read_z (r : Fin 32768) (n : Fin 6528) (h : n.val < 6400) : (V m c main_v1 : Vec Ideal S32768x6528 .f32) (ix2 r n) = Z m c (ix2 r ⟨n.val, h⟩) :=
  (congrFun (V_z m c) _).trans (beside_left _ _ r n h)

theorem read0 (t : Fin cfg0.N) (r : Fin 512) (n : Fin 512) : X0_0 m c t (ix2 r n) = Z m c (ix2 (row t r) ⟨0 + n.val, by omega⟩) := by
  obtain ⟨⟨e0, e1⟩, -⟩ := place_z t
  refine Eq.trans ?_ (read_z m c (row t r) ⟨0 + n.val, by omega⟩ (by dsimp only; omega))
  unfold X0_0 Pipeline.Window.fill row
  rw [dif_pos (moved0_0 t _)]
  blk_ext [iblk, e0, e1]

theorem read1 (t : Fin cfg0.N) (r : Fin 512) (n : Fin 512) : X0_1 m c t (ix2 r n) = Z m c (ix2 (row t r) ⟨512 + n.val, by omega⟩) := by
  obtain ⟨-, ⟨e0, e1⟩, -⟩ := place_z t
  refine Eq.trans ?_ (read_z m c (row t r) ⟨512 + n.val, by omega⟩ (by dsimp only; omega))
  unfold X0_1 Pipeline.Window.fill row
  rw [dif_pos (moved0_1 t _)]
  blk_ext [iblk, e0, e1]

theorem read2 (t : Fin cfg0.N) (r : Fin 512) (n : Fin 512) : X0_2 m c t (ix2 r n) = Z m c (ix2 (row t r) ⟨1024 + n.val, by omega⟩) := by
  obtain ⟨-, -, ⟨e0, e1⟩, -⟩ := place_z t
  refine Eq.trans ?_ (read_z m c (row t r) ⟨1024 + n.val, by omega⟩ (by dsimp only; omega))
  unfold X0_2 Pipeline.Window.fill row
  rw [dif_pos (moved0_2 t _)]
  blk_ext [iblk, e0, e1]

theorem read3 (t : Fin cfg0.N) (r : Fin 512) (n : Fin 1024) : X0_3 m c t (ix2 r n) = Z m c (ix2 (row t r) ⟨2048 + n.val, by omega⟩) := by
  obtain ⟨-, -, -, ⟨e0, e1⟩, -⟩ := place_z t
  refine Eq.trans ?_ (read_z m c (row t r) ⟨2048 + n.val, by omega⟩ (by dsimp only; omega))
  unfold X0_3 Pipeline.Window.fill row
  rw [dif_pos (moved0_3 t _)]
  blk_ext [iblk, e0, e1]

theorem read4 (t : Fin cfg0.N) (r : Fin 512) (n : Fin 256) : X0_4 m c t (ix2 r n) = Z m c (ix2 (row t r) ⟨6144 + n.val, by omega⟩) := by
  obtain ⟨-, -, -, -, ⟨e0, e1⟩, -⟩ := place_z t
  refine Eq.trans ?_ (read_z m c (row t r) ⟨6144 + n.val, by omega⟩ (by dsimp only; omega))
  unfold X0_4 Pipeline.Window.fill row
  rw [dif_pos (moved0_4 t _)]
  blk_ext [iblk, e0, e1]

theorem read12 (t : Fin cfg0.N) (j : Fin 8) (n : Fin 512) : X0_12 m c t (ix2 j n) = Z m c (ix2 (before t j) ⟨0 + n.val, by omega⟩) := by
  obtain ⟨-, -, -, -, -, -, ⟨e0, e1⟩, -⟩ := place_z t
  refine Eq.trans ?_ (read_z m c (before t j) ⟨0 + n.val, by omega⟩ (by dsimp only; omega))
  unfold X0_12 Pipeline.Window.fill before
  rw [dif_pos (moved0_12 t _)]
  blk_ext [iblk, e0, e1]

theorem read13 (t : Fin cfg0.N) (j : Fin 8) (n : Fin 512) : X0_13 m c t (ix2 j n) = Z m c (ix2 (before t j) ⟨1024 + n.val, by omega⟩) := by
  obtain ⟨-, -, -, -, -, -, -, ⟨e0, e1⟩⟩ := place_z t
  refine Eq.trans ?_ (read_z m c (before t j) ⟨1024 + n.val, by omega⟩ (by dsimp only; omega))
  unfold X0_13 Pipeline.Window.fill before
  rw [dif_pos (moved0_13 t _)]
  blk_ext [iblk, e0, e1]

theorem read5 (t : Fin cfg0.N) (r : Fin 512) (n : Fin 128) : iblk m c 5 t (ix2 r n) = shifted (fun y => E m c (ix2 (row t r) y)) n := by
  have h : iblk m c 5 t (ix2 r n) = (V m c main_v1 : Vec Ideal S32768x6528 .f32) (ix2 (row t r) ⟨6400 + n.val, by omega⟩) := by
    obtain ⟨-, -, -, -, -, ⟨e0, e1⟩, -⟩ := place_z t
    unfold row
    blk_ext [iblk, e0, e1]
  refine h.trans ((congrFun (V_z m c) _).trans ((beside_right _ _ _ _ (by dsimp only; omega)).trans (Eq.trans ?_ (apart_apply _ _ n))))
  exact congrArg _ (congrArg _ (Fin.ext (Nat.add_sub_cancel_left ..)))

theorem read6 (t : Fin cfg0.N) (r : Fin 512) (n : Fin 128) : iblk m c 6 t (ix2 r n) = cosines (fun y => cosOf (P m c) (ix2 (spot t r) y)) n := by
  have h : iblk m c 6 t (ix2 r n) = (V m c main_v18 : Vec Ideal S8192x128 .f32) (ix2 (spot t r) n) := by
    obtain ⟨⟨e0, e1⟩, -⟩ := place t
    unfold spot
    blk_ext [iblk, e0, e1]
  exact h.trans ((congrFun (V_cos m c) _).trans (cosTable_apply _ _ _))

theorem read7 (t : Fin cfg0.N) (r : Fin 512) (n : Fin 128) : iblk m c 7 t (ix2 r n) = sines (fun y => sinOf (P m c) (ix2 (spot t r) y)) n := by
  have h : iblk m c 7 t (ix2 r n) = (V m c main_v22 : Vec Ideal S8192x128 .f32) (ix2 (spot t r) n) := by
    obtain ⟨-, ⟨e0, e1⟩, -⟩ := place t
    unfold spot
    blk_ext [iblk, e0, e1]
  exact h.trans ((congrFun (V_sin m c) _).trans (sinTable_apply _ _ _))

theorem read8 (t : Fin cfg0.N) (k : Fin 3) (n : Fin 512) : iblk m c 8 t (ix2 k n) = W m c (ix2 k n) := by
  have h : iblk m c 8 t (ix2 k n) = (V m c main_arg3 : Vec Ideal S3x512 .f32) (ix2 k n) := by
    obtain ⟨-, -, ⟨e0, e1⟩, -⟩ := place t
    blk_ext [iblk, e0, e1]
  exact h.trans (congrFun (V_w m c) _)

theorem read9 (t : Fin cfg0.N) (n : Fin 128) : iblk m c 9 t (ix2 0 n) = gains (fun y => GN m c (ix1 y)) (fun y => GR m c (ix1 y)) n := by
  have h : iblk m c 9 t (ix2 0 n) = (V m c main_v25 : Vec Ideal S1x128 .f32) (ix2 0 n) := by
    obtain ⟨-, -, -, ⟨e0, e1⟩, -⟩ := place t
    blk_ext [iblk, e0, e1]
  exact h.trans ((congrFun (V_gq m c) _).trans (gainLanes_apply _ _ _))

theorem read10 (t : Fin cfg0.N) (n : Fin 128) : iblk m c 10 t (ix2 0 n) = shifted (fun y => GK m c (ix1 y)) n := by
  have h : iblk m c 10 t (ix2 0 n) = (V m c main_v29 : Vec Ideal S1x128 .f32) (ix2 0 n) := by
    obtain ⟨-, -, -, -, ⟨e0, e1⟩, -⟩ := place t
    blk_ext [iblk, e0, e1]
  have hz : ∀ y : Fin 64, (broadcastInDim S64 ![] bcast_S_S64 (constant S_ .f32 0x00000000#32) : FVec Ideal S64 .f32) (ix1 y) = 0 := fun y => by
    pointwise []
  refine h.trans ((congrFun (V_gk m c) _).trans ((gainLanes_apply _ _ _).trans ?_))
  simp only [hz]
  exact gains_zero _ _

theorem read11 (t : Fin cfg0.N) (n : Fin 256) : iblk m c 11 t (ix2 0 n) = GV m c (ix1 n) := by
  have h : iblk m c 11 t (ix2 0 n) = (V m c main_v30 : Vec Ideal S1x256 .f32) (ix2 0 n) := by
    obtain ⟨-, -, -, -, -, ⟨e0, e1⟩⟩ := place t
    blk_ext [iblk, e0, e1]
  refine h.trans ((congrFun (V_gl m c) _).trans (shapeCast_apply _ shapeCasts_S256_S1x256 _ _ ?_))
  rw [Shape.rowMajor_val_two, Shape.rowMajor_val_one]
  show n.val = 0 * 256 + n.val
  omega

end Cert.PrepIdeal.Blocks
-- ==== Proof.PrepValue.lean ====
/- The arrays the preparation's kernel leaves, entry by entry. -/
module

public import proofs.«01_k».proof.Proof.PrepInput

@[expose] public section

set_option maxRecDepth 16384

noncomputable section

namespace Cert.PrepIdeal.Blocks

open Cert.Heads Cert.Prepare Cert.PrepIdeal Cert.PrepIdeal.Gen Idealize.ShloMosaic Idealize.ShloMosaic.TcCoe Idealize.SL.Sem

/-! ## The formulas -/

section
variable (z : Vec Ideal S32768x6400 .f32) (e : Vec Ideal S32768x32 .f32) (p : Vec Ideal S8192 .i32) (w : Vec Ideal S3x512 .f32)
  (gn : Vec Ideal S64 .f32) (gr : Vec Ideal S32 .f32) (gv : Vec Ideal S256 .f32)

/-- The convolution's input, of a row. -/
def products (r : Fin 32768) (n : Fin 512) : EReal := z (ix2 r ⟨1024 + n.val, by omega⟩) * z (ix2 r ⟨0 + n.val, by omega⟩)

/-- The convolution's branch, of a row. -/
def convolved (r : Fin 32768) (n : Fin 512) : EReal := conv (z (ix2 r ⟨512 + n.val, by omega⟩)) (products z) (fun k y => w (ix2 k y)) r n

/-- The cosines and sines of a row's position in its sequence. -/
def cosAt (r : Fin 32768) (n : Fin 16) : EReal := cosOf p (ix2 ⟨r.val % 8192, Nat.mod_lt _ (by decide)⟩ n)
def sinAt (r : Fin 32768) (n : Fin 16) : EReal := sinOf p (ix2 ⟨r.val % 8192, Nat.mod_lt _ (by decide)⟩ n)

/-- The columns of a head, of a row. -/
def headOf (r : Fin 32768) (b : Fin 8) (n : Fin 128) : EReal := z (ix2 r ⟨2048 + (b.val * 128 + n.val), by omega⟩)

/-- The queries of a row. -/
def queries (r : Fin 32768) (b : Fin 8) : Fin 128 → EReal := query (headOf z r b) (fun y => gn (ix1 y)) (fun y => gr (ix1 y)) (cosAt p r) (sinAt p r)

/-- The normalised latent of a row. -/
def latent (r : Fin 32768) : Fin 256 → EReal := scaled d256 (fun y => z (ix2 r ⟨6144 + y.val, by omega⟩)) (fun y => gv (ix1 y))

/-- The keys' rotated part, of a row. -/
def keyRow (r : Fin 32768) : Fin 128 → EReal := keyPart (fun y => e (ix2 r y)) (fun y => gr (ix1 y)) (cosAt p r) (sinAt p r)

/-- Row `j` of the last eight of block `b` of 512 rows, of the convolution's input; the three indices are given as numbers. -/
def tailAt (b j n : ℕ) : EReal := products z ⟨(b * 512 + (504 + j)) % 32768, Nat.mod_lt _ (by decide)⟩ ⟨n % 512, Nat.mod_lt _ (by decide)⟩

end

/-! ## What a point writes -/

theorem back2 (v : Fin 32768 → Fin 512 → EReal) (t : Fin cfg0.N) (r n : Fin 512) :
    (if r.val = 0 then (if t.val % 16 = 0 then 0 else v (before t 6) n) else if r.val = 1 then (if t.val % 16 = 0 then 0 else v (before t 7) n)
      else v (row t ⟨(r.val + 512 - 2) % 512, Nat.mod_lt _ (by decide)⟩) n) = back v 2 (row t r) n := by
  have hr : (row t r).val = t.val * 512 + r.val := rfl
  have hv : ∀ a b : Fin 32768, a.val = b.val → v a n = v b n := fun a b h => by rw [Fin.ext h]
  unfold back
  by_cases h0 : r.val = 0
  · rw [if_pos h0]
    by_cases ht : t.val % 16 = 0
    · rw [if_pos ht, if_pos (by omega)]
    · rw [if_neg ht, if_neg (by omega)]
      exact hv _ _ (by show (64 * t.val - 1) * 8 + 6 = t.val * 512 + r.val - 2; omega)
  · rw [if_neg h0]
    by_cases h1 : r.val = 1
    · rw [if_pos h1]
      by_cases ht : t.val % 16 = 0
      · rw [if_pos ht, if_pos (by omega)]
      · rw [if_neg ht, if_neg (by omega)]
        exact hv _ _ (by show (64 * t.val - 1) * 8 + 7 = t.val * 512 + r.val - 2; omega)
    · rw [if_neg h1, if_neg (by omega)]
      exact hv _ _ (by show t.val * 512 + (r.val + 512 - 2) % 512 = t.val * 512 + r.val - 2; omega)

theorem back1 (v : Fin 32768 → Fin 512 → EReal) (t : Fin cfg0.N) (r n : Fin 512) :
    (if r.val = 0 then (if t.val % 16 = 0 then 0 else v (before t 7) n)
      else v (row t ⟨(r.val + 512 - 1) % 512, Nat.mod_lt _ (by decide)⟩) n) = back v 1 (row t r) n := by
  have hr : (row t r).val = t.val * 512 + r.val := rfl
  have hv : ∀ a b : Fin 32768, a.val = b.val → v a n = v b n := fun a b h => by rw [Fin.ext h]
  unfold back
  by_cases h0 : r.val = 0
  · rw [if_pos h0]
    by_cases ht : t.val % 16 = 0
    · rw [if_pos ht, if_pos (by omega)]
    · rw [if_neg ht, if_neg (by omega)]
      exact hv _ _ (by show (64 * t.val - 1) * 8 + 7 = t.val * 512 + r.val - 1; omega)
  · rw [if_neg h0, if_neg (by omega)]
    exact hv _ _ (by show t.val * 512 + (r.val + 512 - 1) % 512 = t.val * 512 + r.val - 1; omega)

variable (m : (ℓ : Loc nD τ sig) → Buf (Elt Ideal) ℓ) (c : Dev nD)

theorem spot_row (t : Fin cfg0.N) (r : Fin 512) : spot t r = ⟨(row t r).val % 8192, Nat.mod_lt _ (by decide)⟩ := Fin.ext (by
  show t.val % 16 * 512 + r.val = (t.val * 512 + r.val) % 8192
  omega)

theorem halo (t : Fin cfg0.N) (j : Fin 8) (n : Fin 512) :
    k0_pay4 (grid0.coords t) (X0_13 m c t) (X0_12 m c t) (ix2 j n) = if t.val % 16 = 0 then 0 else products (Z m c) (before t j) n := by
  refine (pay4_apply t _ _ j n).trans ?_
  rw [read12, read13]
  rfl

theorem block14 (t : Fin cfg0.N) (r n : Fin 512) : (outsAt0 m c t).1 (ix2 r n) = convolved (Z m c) (W m c) (row t r) n := by
  unfold outsAt0
  dsimp only
  rw [out_14]
  refine (pay10_apply _ _ _ _ _ _ _ _ _ r n).trans ?_
  simp only [halo, read0, read1, read2, read8, tap0_apply, tap1_apply, tap2_apply]
  unfold convolved conv
  rw [← back2, ← back1]
  rfl

theorem head_z (t : Fin cfg0.N) (r : Fin 512) (b : Fin 8) : head (X0_3 m c t) r b = headOf (Z m c) (row t r) b := by
  funext n
  unfold head headOf
  rw [read3]

theorem block15 (t : Fin cfg0.N) (r : Fin 512) (b : Fin 8) (n : Fin 128) :
    (outsAt0 m c t).2.1 (ix2 r ⟨b.val * 128 + n.val, by omega⟩) = queries (Z m c) (P m c) (GN m c) (GR m c) (row t r) b n := by
  unfold outsAt0
  dsimp only
  rw [out_15]
  refine (queriesAt_head _ _ _ _ r b n _ rfl).trans ?_
  rw [head_z]
  simp only [read6, read7, read9, spot_row]
  exact turned_query _ _ _ _ _ n

theorem block16 (t : Fin cfg0.N) (r : Fin 512) (n : Fin 256) : (outsAt0 m c t).2.2.1 (ix2 r n) = latent (Z m c) (GV m c) (row t r) n := by
  unfold outsAt0
  dsimp only
  rw [out_16]
  refine (pay1_apply _ _ r n).trans ?_
  simp only [read4, read11]
  rfl

theorem block17 (t : Fin cfg0.N) (r : Fin 512) (n : Fin 128) :
    (outsAt0 m c t).2.2.2.1 (ix2 r n) = keyRow (E m c) (P m c) (GK m c) (row t r) n := by
  unfold outsAt0
  dsimp only
  rw [out_17, pay11_eq, pay12_eq, pay60_eq, pay61_eq]
  refine (pay62_apply _ _ _ _ r n).trans ?_
  simp only [read5, read6, read7, read10, spot_row]
  exact turned_key _ _ _ _ n

theorem block18 (t : Fin cfg0.N) (j : Fin 8) (n : Fin 512) :
    (outsAt0 m c t).2.2.2.2 (ix3 0 j n) = tailAt (Z m c) t.val j.val n.val := by
  unfold outsAt0
  dsimp only
  rw [out_18]
  refine (pay9_apply _ _ j n).trans ?_
  rw [read0, read2]
  show products (Z m c) (row t ⟨504 + j.val, by omega⟩) n = _
  have : t.val < 64 := lt_of_lt_of_eq t.isLt N_0
  unfold tailAt row
  congr 1 <;> refine Fin.ext ?_ <;> dsimp only <;> omega

/-! ## The arrays -/

/-- The block indices a point writes. -/
theorem place_o : ∀ t : Fin grid0.N,
    ((cfg0.win 14).index t 0 = t.val ∧ (cfg0.win 14).index t 1 = 0) ∧ ((cfg0.win 15).index t 0 = t.val ∧ (cfg0.win 15).index t 1 = 0)
    ∧ ((cfg0.win 16).index t 0 = t.val ∧ (cfg0.win 16).index t 1 = 0) ∧ ((cfg0.win 17).index t 0 = t.val ∧ (cfg0.win 17).index t 1 = 0)
    ∧ ((cfg0.win 18).index t 0 = t.val ∧ (cfg0.win 18).index t 1 = 0 ∧ (cfg0.win 18).index t 2 = 0) := by decide +kernel

/-- The array of the convolution's branch. -/
theorem array14 : (dats m 0 c).arrAt 14 cfg0.N = fun i => rowAt (w := 512) (by decide) (convolved (Z m c) (W m c)) (i 0).val (i 1).val := by
  refine (dats m 0 c).arrAt_eq_of_covers 14 _ (by decide +kernel) fun t hf y => ?_
  obtain ⟨⟨e0, e1⟩, -⟩ := place_o t
  rw [after0_14]
  blk_simp [e0, e1]
  have h0 : (y 0).val < 512 := (y 0).isLt
  have h1 : (y 1).val < 512 := (y 1).isLt
  have hy : y = ix2 (⟨(y 0).val, h0⟩ : Fin 512) (⟨(y 1).val, h1⟩ : Fin 512) := by
    funext a
    apply Fin.ext
    match a with
    | ⟨0, _⟩ => rfl
    | ⟨1, _⟩ => rfl
  refine (congrArg _ hy).trans ((block14 m c t _ _).trans ((rowAt_eq (by decide) _ _ _).symm.trans ?_))
  unfold row
  congr 1 <;> dsimp only <;> omega

/-- The array of the normalised latent. -/
theorem array16 : (dats m 0 c).arrAt 16 cfg0.N = fun i => rowAt (w := 256) (by decide) (latent (Z m c) (GV m c)) (i 0).val (i 1).val := by
  refine (dats m 0 c).arrAt_eq_of_covers 16 _ (by decide +kernel) fun t hf y => ?_
  obtain ⟨-, -, ⟨e0, e1⟩, -⟩ := place_o t
  rw [after0_16]
  blk_simp [e0, e1]
  have h0 : (y 0).val < 512 := (y 0).isLt
  have h1 : (y 1).val < 256 := (y 1).isLt
  have hy : y = ix2 (⟨(y 0).val, h0⟩ : Fin 512) (⟨(y 1).val, h1⟩ : Fin 256) := by
    funext a
    apply Fin.ext
    match a with
    | ⟨0, _⟩ => rfl
    | ⟨1, _⟩ => rfl
  refine (congrArg _ hy).trans ((block16 m c t _ _).trans ((rowAt_eq (by decide) _ _ _).symm.trans ?_))
  unfold row
  congr 1 <;> dsimp only <;> omega

/-- The array of the keys' rotated part. -/
theorem array17 : (dats m 0 c).arrAt 17 cfg0.N = fun i => rowAt (w := 128) (by decide) (keyRow (E m c) (P m c) (GK m c)) (i 0).val (i 1).val := by
  refine (dats m 0 c).arrAt_eq_of_covers 17 _ (by decide +kernel) fun t hf y => ?_
  obtain ⟨-, -, -, ⟨e0, e1⟩, -⟩ := place_o t
  rw [after0_17]
  blk_simp [e0, e1]
  have h0 : (y 0).val < 512 := (y 0).isLt
  have h1 : (y 1).val < 128 := (y 1).isLt
  have hy : y = ix2 (⟨(y 0).val, h0⟩ : Fin 512) (⟨(y 1).val, h1⟩ : Fin 128) := by
    funext a
    apply Fin.ext
    match a with
    | ⟨0, _⟩ => rfl
    | ⟨1, _⟩ => rfl
  refine (congrArg _ hy).trans ((block17 m c t _ _).trans ((rowAt_eq (by decide) _ _ _).symm.trans ?_))
  unfold row
  congr 1 <;> dsimp only <;> omega

/-- The array of the queries. -/
theorem array15 : (dats m 0 c).arrAt 15 cfg0.N = fun i => headAt (w := 128) (by decide) (queries (Z m c) (P m c) (GN m c) (GR m c)) (i 0).val (i 1).val := by
  refine (dats m 0 c).arrAt_eq_of_covers 15 _ (by decide +kernel) fun t hf y => ?_
  obtain ⟨-, ⟨e0, e1⟩, -⟩ := place_o t
  rw [after0_15]
  blk_simp [e0, e1]
  have h0 : (y 0).val < 512 := (y 0).isLt
  have h1 : (y 1).val < 1024 := (y 1).isLt
  have hy : y = ix2 (⟨(y 0).val, h0⟩ : Fin 512) (⟨(⟨(y 1).val / 128, by omega⟩ : Fin 8).val * 128 + (⟨(y 1).val % 128, by omega⟩ : Fin 128).val, by dsimp only; omega⟩ : Fin 1024) := by
    funext a
    apply Fin.ext
    match a with
    | ⟨0, _⟩ => rfl
    | ⟨1, _⟩ => show (y 1).val = (y 1).val / 128 * 128 + (y 1).val % 128; omega
  refine (congrArg _ hy).trans ((block15 m c t _ _ _).trans ((headAt_eq (by decide) _ _ _ _).symm.trans ?_))
  unfold row
  congr 1 <;> dsimp only <;> omega

/-- The array of the blocks' last products. -/
theorem array18 : (dats m 0 c).arrAt 18 cfg0.N = fun i => tailAt (Z m c) (i 0).val (i 1).val (i 2).val := by
  refine (dats m 0 c).arrAt_eq_of_covers 18 _ (by decide +kernel) fun t hf y => ?_
  obtain ⟨-, -, -, -, ⟨e0, e1, e2⟩⟩ := place_o t
  rw [after0_18]
  blk_simp [e0, e1, e2]
  have h0 : (y 0).val < 1 := (y 0).isLt
  have h1 : (y 1).val < 8 := (y 1).isLt
  have h2 : (y 2).val < 512 := (y 2).isLt
  have hy : y = ix3 (0 : Fin 1) (⟨(y 1).val, h1⟩ : Fin 8) (⟨(y 2).val, h2⟩ : Fin 512) := by
    funext a
    apply Fin.ext
    match a with
    | ⟨0, _⟩ => show (y 0).val = 0; omega
    | ⟨1, _⟩ => rfl
    | ⟨2, _⟩ => rfl
  refine (congrArg _ hy).trans ((block18 m c t _ _).trans ?_)
  congr 1 <;> dsimp only <;> omega

end Cert.PrepIdeal.Blocks
-- ==== Proof.PrepRefRead.lean ====
/- The preparation's reference, read entry by entry. -/
module

public import proofs.«01_k».proof.Proof.PrepValue
public import proofs.«01_k».proof.Proof.Gen.PrepRefIdeal.Run

@[expose] public section

set_option maxRecDepth 16384

noncomputable section

namespace Cert.PrepRefIdeal.Read

open Cert.Heads Cert.Prepare Cert.PrepRefIdeal Cert.PrepRefIdeal.Gen Idealize.ShloMosaic Idealize.ShloMosaic.TcCoe Idealize.SL.Sem
open Cert.PrepIdeal.Blocks (products convolved cosOf sinOf cosAt sinAt headOf queries latent keyRow tailAt apart apart_apply)

/-! ## The operations, in stages -/

/-- The convolution's input. -/
def vals (z : FVec Ideal S32768x6400 .f32) : FVec Ideal S32768x512 .f32 :=
  mulf (extractStridedSlice S32768x512 ![0, 1024] z slices_S32768x6400_S32768x512_0_1024) (extractStridedSlice S32768x512 ![0, 0] z slices_S32768x6400_S32768x512_0_0)

/-- The same by sequences. -/
def bySequence (v : FVec Ideal S32768x512 .f32) : FVec Ideal S4x8192x512 .f32 := shapeCast _ v shapeCasts_S32768x512_S4x8192x512

/-- The sequences behind two rows of zeros. -/
def led (u : FVec Ideal S4x8192x512 .f32) : FVec Ideal S4x8194x512 .f32 :=
  concatenate S4x8194x512 1 [⟨S4x2x512, broadcastInDim S4x2x512 ![] bcast_S_S4x2x512 (constant S_ .f32 0x00000000#32)⟩, ⟨S4x8192x512, u⟩] concatenates_S4x2x512_S4x8192x512_S4x8194x512_d1

/-- The taps. -/
def tap0 (w : FVec Ideal S3x512 .f32) : FVec Ideal S512 .f32 := shapeCast _ (extractStridedSlice S1x512 ![0, 0] w slices_S3x512_S1x512_0_0) shapeCasts_S1x512_S512
def tap1 (w : FVec Ideal S3x512 .f32) : FVec Ideal S512 .f32 := shapeCast _ (extractStridedSlice S1x512 ![1, 0] w slices_S3x512_S1x512_1_0) shapeCasts_S1x512_S512
def tap2 (w : FVec Ideal S3x512 .f32) : FVec Ideal S512 .f32 := shapeCast _ (extractStridedSlice S1x512 ![2, 0] w slices_S3x512_S1x512_2_0) shapeCasts_S1x512_S512

/-- The three taps' sum. -/
def sum3 (u : FVec Ideal S4x8194x512 .f32) (a b c : FVec Ideal S512 .f32) : FVec Ideal S4x8192x512 .f32 :=
  addf (addf (mulf (extractStridedSlice S4x8192x512 ![0, 0, 0] u slices_S4x8194x512_S4x8192x512_0_0_0) (broadcastInDim S4x8192x512 ![0, 1, 2] bcast_S1x1x512_S4x8192x512_0_1_2 (broadcastInDim S1x1x512 ![2] bcast_S512_S1x1x512_2 a))) (mulf (extractStridedSlice S4x8192x512 ![0, 1, 0] u slices_S4x8194x512_S4x8192x512_0_1_0) (broadcastInDim S4x8192x512 ![0, 1, 2] bcast_S1x1x512_S4x8192x512_0_1_2 (broadcastInDim S1x1x512 ![2] bcast_S512_S1x1x512_2 b)))) (mulf (extractStridedSlice S4x8192x512 ![0, 2, 0] u slices_S4x8194x512_S4x8192x512_0_2_0) (broadcastInDim S4x8192x512 ![0, 1, 2] bcast_S1x1x512_S4x8192x512_0_1_2 (broadcastInDim S1x1x512 ![2] bcast_S512_S1x1x512_2 c)))

/-- The gate times the sum. -/
def gated (z : FVec Ideal S32768x6400 .f32) (y : FVec Ideal S32768x512 .f32) : FVec Ideal S32768x512 .bf16 :=
  truncf .bf16 (mulf (extractStridedSlice S32768x512 ![0, 512] z slices_S32768x6400_S32768x512_0_512) y) bitsLt_bf16_f32

/-- The convolution's branch. -/
def out0 (z : FVec Ideal S32768x6400 .f32) (w : FVec Ideal S3x512 .f32) : FVec Ideal S32768x512 .bf16 :=
  gated z (shapeCast _ (sum3 (led (bySequence (vals z))) (tap0 w) (tap1 w) (tap2 w)) shapeCasts_S4x8192x512_S32768x512)

/-- The heads of the rows. -/
def heads (z : FVec Ideal S32768x6400 .f32) : FVec Ideal S4x8192x8x128 .f32 :=
  shapeCast _ (extractStridedSlice S32768x1024 ![0, 2048] z slices_S32768x6400_S32768x1024_0_2048) shapeCasts_S32768x1024_S4x8192x8x128
def lows (x : FVec Ideal S4x8192x8x128 .f32) : FVec Ideal S4x8192x8x64 .f32 :=
  extractStridedSlice S4x8192x8x64 ![0, 0, 0, 0] x slices_S4x8192x8x128_S4x8192x8x64_0_0_0_0
def mids (x : FVec Ideal S4x8192x8x128 .f32) : FVec Ideal S4x8192x8x32 .f32 :=
  extractStridedSlice S4x8192x8x32 ![0, 0, 0, 64] x slices_S4x8192x8x128_S4x8192x8x32_0_0_0_64

/-- The normalisations. -/
def norm64 (x : FVec Ideal S4x8192x8x64 .f32) (g : FVec Ideal S64 .f32) : FVec Ideal S4x8192x8x64 .f32 :=
  mulf (mulf x (broadcastInDim S4x8192x8x64 ![0, 1, 2, 3] bcast_S4x8192x8x1_S4x8192x8x64_0_1_2_3 (Host.rsqrt (addf (Host.divf (broadcastInDim S4x8192x8x1 ![0, 1, 2] bcast_S4x8192x8_S4x8192x8x1_0_1_2 (Host.reduceAdd (mulf x x) (constant S_ .f32 0x00000000#32) reducesTo_S4x8192x8x64_S4x8192x8_d3 h_S_)) (broadcastInDim S4x8192x8x1 ![] bcast_S_S4x8192x8x1 (constant S_ .f32 0x42800000#32))) (broadcastInDim S4x8192x8x1 ![] bcast_S_S4x8192x8x1 (constant S_ .f32 0x358637BD#32)))))) (broadcastInDim S4x8192x8x64 ![0, 1, 2, 3] bcast_S1x1x1x64_S4x8192x8x64_0_1_2_3 (broadcastInDim S1x1x1x64 ![3] bcast_S64_S1x1x1x64_3 g))
def norm32 (x : FVec Ideal S4x8192x8x32 .f32) (g : FVec Ideal S32 .f32) : FVec Ideal S4x8192x8x32 .f32 :=
  mulf (mulf x (broadcastInDim S4x8192x8x32 ![0, 1, 2, 3] bcast_S4x8192x8x1_S4x8192x8x32_0_1_2_3 (Host.rsqrt (addf (Host.divf (broadcastInDim S4x8192x8x1 ![0, 1, 2] bcast_S4x8192x8_S4x8192x8x1_0_1_2 (Host.reduceAdd (mulf x x) (constant S_ .f32 0x00000000#32) reducesTo_S4x8192x8x32_S4x8192x8_d3 h_S_)) (broadcastInDim S4x8192x8x1 ![] bcast_S_S4x8192x8x1 (constant S_ .f32 0x42000000#32))) (broadcastInDim S4x8192x8x1 ![] bcast_S_S4x8192x8x1 (constant S_ .f32 0x358637BD#32)))))) (broadcastInDim S4x8192x8x32 ![0, 1, 2, 3] bcast_S1x1x1x32_S4x8192x8x32_0_1_2_3 (broadcastInDim S1x1x1x32 ![3] bcast_S32_S1x1x1x32_3 g))
def normRow (x : FVec Ideal S32768x32 .f32) (g : FVec Ideal S32 .f32) : FVec Ideal S32768x32 .f32 :=
  mulf (mulf x (broadcastInDim S32768x32 ![0, 1] bcast_S32768x1_S32768x32_0_1 (Host.rsqrt (addf (Host.divf (broadcastInDim S32768x1 ![0] bcast_S32768_S32768x1_0 (Host.reduceAdd (mulf x x) (constant S_ .f32 0x00000000#32) reducesTo_S32768x32_S32768_d1 h_S_)) (broadcastInDim S32768x1 ![] bcast_S_S32768x1 (constant S_ .f32 0x42000000#32))) (broadcastInDim S32768x1 ![] bcast_S_S32768x1 (constant S_ .f32 0x358637BD#32)))))) (broadcastInDim S32768x32 ![0, 1] bcast_S1x32_S32768x32_0_1 (broadcastInDim S1x32 ![1] bcast_S32_S1x32_1 g))
def norm256 (x : FVec Ideal S32768x256 .f32) (g : FVec Ideal S256 .f32) : FVec Ideal S32768x256 .f32 :=
  mulf (mulf x (broadcastInDim S32768x256 ![0, 1] bcast_S32768x1_S32768x256_0_1 (Host.rsqrt (addf (Host.divf (broadcastInDim S32768x1 ![0] bcast_S32768_S32768x1_0 (Host.reduceAdd (mulf x x) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))))) (broadcastInDim S32768x256 ![0, 1] bcast_S1x256_S32768x256_0_1 (broadcastInDim S1x256 ![1] bcast_S256_S1x256_1 g))

/-- A table, by positions. -/
def table (c : FVec Ideal S8192x16 .f32) : FVec Ideal S1x8192x1x16 .f32 :=
  broadcastInDim S1x8192x1x16 ![1, 2, 3] bcast_S8192x1x16_S1x8192x1x16_1_2_3 (broadcastInDim S8192x1x16 ![0, 2] bcast_S8192x16_S8192x1x16_0_2 c)

/-- The rotations. -/
def rotQ (x : FVec Ideal S4x8192x8x32 .f32) (c s : FVec Ideal S1x8192x1x16 .f32) : FVec Ideal S4x8192x8x32 .f32 :=
  concatenate S4x8192x8x32 3 [⟨S4x8192x8x16, subf (mulf (extractStridedSlice S4x8192x8x16 ![0, 0, 0, 0] x slices_S4x8192x8x32_S4x8192x8x16_0_0_0_0) (broadcastInDim S4x8192x8x16 ![0, 1, 2, 3] bcast_S1x8192x1x16_S4x8192x8x16_0_1_2_3 c)) (mulf (extractStridedSlice S4x8192x8x16 ![0, 0, 0, 16] x slices_S4x8192x8x32_S4x8192x8x16_0_0_0_16) (broadcastInDim S4x8192x8x16 ![0, 1, 2, 3] bcast_S1x8192x1x16_S4x8192x8x16_0_1_2_3 s))⟩, ⟨S4x8192x8x16, addf (mulf (extractStridedSlice S4x8192x8x16 ![0, 0, 0, 16] x slices_S4x8192x8x32_S4x8192x8x16_0_0_0_16) (broadcastInDim S4x8192x8x16 ![0, 1, 2, 3] bcast_S1x8192x1x16_S4x8192x8x16_0_1_2_3 c)) (mulf (extractStridedSlice S4x8192x8x16 ![0, 0, 0, 0] x slices_S4x8192x8x32_S4x8192x8x16_0_0_0_0) (broadcastInDim S4x8192x8x16 ![0, 1, 2, 3] bcast_S1x8192x1x16_S4x8192x8x16_0_1_2_3 s))⟩] concatenates_S4x8192x8x16_S4x8192x8x16_S4x8192x8x32_d3
def rotK (x : FVec Ideal S4x8192x1x32 .f32) (c s : FVec Ideal S1x8192x1x16 .f32) : FVec Ideal S4x8192x1x32 .f32 :=
  concatenate S4x8192x1x32 3 [⟨S4x8192x1x16, subf (mulf (extractStridedSlice S4x8192x1x16 ![0, 0, 0, 0] x slices_S4x8192x1x32_S4x8192x1x16_0_0_0_0) (broadcastInDim S4x8192x1x16 ![0, 1, 2, 3] bcast_S1x8192x1x16_S4x8192x1x16_0_1_2_3 c)) (mulf (extractStridedSlice S4x8192x1x16 ![0, 0, 0, 16] x slices_S4x8192x1x32_S4x8192x1x16_0_0_0_16) (broadcastInDim S4x8192x1x16 ![0, 1, 2, 3] bcast_S1x8192x1x16_S4x8192x1x16_0_1_2_3 s))⟩, ⟨S4x8192x1x16, addf (mulf (extractStridedSlice S4x8192x1x16 ![0, 0, 0, 16] x slices_S4x8192x1x32_S4x8192x1x16_0_0_0_16) (broadcastInDim S4x8192x1x16 ![0, 1, 2, 3] bcast_S1x8192x1x16_S4x8192x1x16_0_1_2_3 c)) (mulf (extractStridedSlice S4x8192x1x16 ![0, 0, 0, 0] x slices_S4x8192x1x32_S4x8192x1x16_0_0_0_0) (broadcastInDim S4x8192x1x16 ![0, 1, 2, 3] bcast_S1x8192x1x16_S4x8192x1x16_0_1_2_3 s))⟩] concatenates_S4x8192x1x16_S4x8192x1x16_S4x8192x1x32_d3

/-- The three parts of each head. -/
def join (a : FVec Ideal S4x8192x8x64 .f32) (b z : FVec Ideal S4x8192x8x32 .f32) : FVec Ideal S4x8192x8x128 .f32 :=
  concatenate S4x8192x8x128 3 [⟨S4x8192x8x64, a⟩, ⟨S4x8192x8x32, b⟩, ⟨S4x8192x8x32, z⟩] concatenates_S4x8192x8x64_S4x8192x8x32_S4x8192x8x32_S4x8192x8x128_d3
def zeros : FVec Ideal S4x8192x8x32 .f32 := broadcastInDim S4x8192x8x32 ![] bcast_S_S4x8192x8x32 (constant S_ .f32 0x00000000#32)

/-- The queries. -/
def out1 (z : FVec Ideal S32768x6400 .f32) (p : IVec S8192 32) (gn : FVec Ideal S64 .f32) (gr : FVec Ideal S32 .f32) : FVec Ideal S32768x1024 .bf16 :=
  truncf .bf16 (shapeCast _ (join (norm64 (lows (heads z)) gn) (rotQ (norm32 (mids (heads z)) gr) (table (cosOf p)) (table (sinOf p))) zeros) shapeCasts_S4x8192x8x128_S32768x1024) bitsLt_bf16_f32

/-- The normalised latent. -/
def out2 (z : FVec Ideal S32768x6400 .f32) (g : FVec Ideal S256 .f32) : FVec Ideal S32768x256 .f32 :=
  norm256 (extractStridedSlice S32768x256 ![0, 6144] z slices_S32768x6400_S32768x256_0_6144) g

/-- The keys' rotated part. -/
def out3 (e : FVec Ideal S32768x32 .f32) (p : IVec S8192 32) (g : FVec Ideal S32 .f32) : FVec Ideal S32768x128 .f32 :=
  apart (shapeCast _ (rotK (shapeCast _ (normRow e g) shapeCasts_S32768x32_S4x8192x1x32) (table (cosOf p)) (table (sinOf p))) shapeCasts_S4x8192x1x32_S32768x32)

/-- The blocks' last products. -/
def lasts (u : FVec Ideal S64x512x512 .f32) : FVec Ideal S64x8x512 .f32 := extractStridedSlice S64x8x512 ![0, 504, 0] u slices_S64x512x512_S64x8x512_0_504_0
def out4 (z : FVec Ideal S32768x6400 .f32) : FVec Ideal S64x8x512 .f32 := lasts (shapeCast _ (vals z) shapeCasts_S32768x512_S64x512x512)

/-! ## Each stage at an entry -/

theorem vals_apply (z : FVec Ideal S32768x6400 .f32) (r : Fin 32768) (n : Fin 512) : vals z (ix2 r n) = products z r n := by
  pointwise [vals]
  unfold products
  rw [show (⟨0 + n.val, by omega⟩ : Fin 6400) = ⟨n.val, by omega⟩ from Fin.ext (Nat.zero_add _)]

/-- Row `p` of sequence `b`. -/
def at_ (b : Fin 4) (p : Fin 8192) : Fin 32768 := ⟨b.val * 8192 + p.val, by omega⟩

theorem bySequence_apply (v : FVec Ideal S32768x512 .f32) (b : Fin 4) (p : Fin 8192) (n : Fin 512) : bySequence v (ix3 b p n) = v (ix2 (at_ b p) n) := by
  refine shapeCast_apply _ shapeCasts_S32768x512_S4x8192x512 _ _ ?_
  rw [Shape.rowMajor_val_two, Shape.rowMajor_val_three]
  rfl

theorem led_apply (u : FVec Ideal S4x8192x512 .f32) (b : Fin 4) (p : Fin 8194) (n : Fin 512) :
    led u (ix3 b p n) = if h : p.val < 2 then 0 else u (ix3 b ⟨p.val - 2, by omega⟩ n) := by
  pointwise [led]
  try rfl

theorem tap0_apply (w : FVec Ideal S3x512 .f32) (n : Fin 512) : tap0 w (ix1 n) = w (ix2 0 n) := by
  pointwise [tap0]
  try rfl
theorem tap1_apply (w : FVec Ideal S3x512 .f32) (n : Fin 512) : tap1 w (ix1 n) = w (ix2 1 n) := by
  pointwise [tap1]
  try rfl
theorem tap2_apply (w : FVec Ideal S3x512 .f32) (n : Fin 512) : tap2 w (ix1 n) = w (ix2 2 n) := by
  pointwise [tap2]
  try rfl

theorem sum3_apply (u : FVec Ideal S4x8194x512 .f32) (a b c : FVec Ideal S512 .f32) (s : Fin 4) (p : Fin 8192) (n : Fin 512) :
    sum3 u a b c (ix3 s p n) = u (ix3 s ⟨0 + p.val, by omega⟩ n) * a (ix1 n) + u (ix3 s ⟨1 + p.val, by omega⟩ n) * b (ix1 n)
      + u (ix3 s ⟨2 + p.val, by omega⟩ n) * c (ix1 n) := by
  pointwise [sum3]
  try rfl

theorem gated_apply (z : FVec Ideal S32768x6400 .f32) (y : FVec Ideal S32768x512 .f32) (r : Fin 32768) (n : Fin 512) :
    gated z y (ix2 r n) = z (ix2 r ⟨512 + n.val, by omega⟩) * y (ix2 r n) := by
  pointwise [gated]
  try rfl

theorem heads_apply (z : FVec Ideal S32768x6400 .f32) (b : Fin 4) (p : Fin 8192) (h : Fin 8) (n : Fin 128) :
    heads z (ix4 b p h n) = headOf z (at_ b p) h n := by
  unfold heads headOf
  refine (shapeCast_apply _ shapeCasts_S32768x1024_S4x8192x8x128 _ (ix2 (at_ b p) ⟨h.val * 128 + n.val, by omega⟩) ?_).trans ?_
  · rw [Shape.rowMajor_val_two, Shape.rowMajor_val_four]
    show (b.val * 8192 + p.val) * 1024 + (h.val * 128 + n.val) = ((b.val * 8192 + p.val) * 8 + h.val) * 128 + n.val
    omega
  · pointwise []
    try rfl

theorem lows_apply (x : FVec Ideal S4x8192x8x128 .f32) (b : Fin 4) (p : Fin 8192) (h : Fin 8) (n : Fin 64) :
    lows x (ix4 b p h n) = low (fun y => x (ix4 b p h y)) n := by
  pointwise [lows]
  unfold low
  try rfl

theorem mids_apply (x : FVec Ideal S4x8192x8x128 .f32) (b : Fin 4) (p : Fin 8192) (h : Fin 8) (n : Fin 32) :
    mids x (ix4 b p h n) = mid (fun y => x (ix4 b p h y)) n := by
  pointwise [mids]
  unfold mid
  try rfl

theorem norm64_apply (x : FVec Ideal S4x8192x8x64 .f32) (g : FVec Ideal S64 .f32) (b : Fin 4) (p : Fin 8192) (h : Fin 8) (n : Fin 64) :
    norm64 x g (ix4 b p h n) = scaled d64 (fun y => x (ix4 b p h y)) (fun y => g (ix1 y)) n := by
  pointwise [norm64]
  rfl

theorem norm32_apply (x : FVec Ideal S4x8192x8x32 .f32) (g : FVec Ideal S32 .f32) (b : Fin 4) (p : Fin 8192) (h : Fin 8) (n : Fin 32) :
    norm32 x g (ix4 b p h n) = scaled d32 (fun y => x (ix4 b p h y)) (fun y => g (ix1 y)) n := by
  pointwise [norm32]
  rfl

theorem normRow_apply (x : FVec Ideal S32768x32 .f32) (g : FVec Ideal S32 .f32) (r : Fin 32768) (n : Fin 32) :
    normRow x g (ix2 r n) = scaled d32 (fun y => x (ix2 r y)) (fun y => g (ix1 y)) n := by
  pointwise [normRow]
  rfl

theorem norm256_apply (x : FVec Ideal S32768x256 .f32) (g : FVec Ideal S256 .f32) (r : Fin 32768) (n : Fin 256) :
    norm256 x g (ix2 r n) = scaled d256 (fun y => x (ix2 r y)) (fun y => g (ix1 y)) n := by
  pointwise [norm256]
  rfl

theorem table_apply (c : FVec Ideal S8192x16 .f32) (p : Fin 8192) (n : Fin 16) : table c (ix4 0 p 0 n) = c (ix2 p n) := by
  pointwise [table]
  try rfl

theorem rotQ_apply (x : FVec Ideal S4x8192x8x32 .f32) (c s : FVec Ideal S1x8192x1x16 .f32) (b : Fin 4) (p : Fin 8192) (h : Fin 8) (n : Fin 32) :
    rotQ x c s (ix4 b p h n) = rotated (fun y => x (ix4 b p h y)) (fun y => c (ix4 0 p 0 y)) (fun y => s (ix4 0 p 0 y)) n := by
  pointwise [rotQ]
  unfold rotated
  by_cases l : n.val < 16
  · simp only [dif_pos l]
    have e1 : (⟨16 + n.val, by omega⟩ : Fin 32) = ⟨n.val + 16, by omega⟩ := Fin.ext (Nat.add_comm _ _)
    simp only [e1]
  · simp only [dif_neg l]
    have e1 : (⟨16 + (n.val - 16), by omega⟩ : Fin 32) = n := Fin.ext (by dsimp only; omega)
    simp only [e1]

theorem rotK_apply (x : FVec Ideal S4x8192x1x32 .f32) (c s : FVec Ideal S1x8192x1x16 .f32) (b : Fin 4) (p : Fin 8192) (n : Fin 32) :
    rotK x c s (ix4 b p 0 n) = rotated (fun y => x (ix4 b p 0 y)) (fun y => c (ix4 0 p 0 y)) (fun y => s (ix4 0 p 0 y)) n := by
  pointwise [rotK]
  unfold rotated
  by_cases l : n.val < 16
  · simp only [dif_pos l]
    have e1 : (⟨16 + n.val, by omega⟩ : Fin 32) = ⟨n.val + 16, by omega⟩ := Fin.ext (Nat.add_comm _ _)
    simp only [e1]
  · simp only [dif_neg l]
    have e1 : (⟨16 + (n.val - 16), by omega⟩ : Fin 32) = n := Fin.ext (by dsimp only; omega)
    simp only [e1]

theorem join_apply (a : FVec Ideal S4x8192x8x64 .f32) (e z : FVec Ideal S4x8192x8x32 .f32) (b : Fin 4) (p : Fin 8192) (h : Fin 8) (n : Fin 128) :
    join a e z (ix4 b p h n) = if l : n.val < 64 then a (ix4 b p h ⟨n.val, l⟩) else if l' : n.val < 96 then e (ix4 b p h ⟨n.val - 64, by omega⟩)
      else z (ix4 b p h ⟨n.val - 64 - 32, by omega⟩) := by
  pointwise [join]
  by_cases l : n.val < 64
  · simp only [dif_pos l]
  · by_cases l' : n.val < 96
    · have l'' : n.val - 64 < 32 := by omega
      simp only [dif_neg l, dif_pos l', dif_pos l'']
    · have l'' : ¬(n.val - 64 < 32) := by omega
      simp only [dif_neg l, dif_neg l', dif_neg l'']

theorem zeros_apply (b : Fin 4) (p : Fin 8192) (h : Fin 8) (n : Fin 32) : zeros (ix4 b p h n) = 0 := by
  pointwise [zeros]
  try rfl

theorem lasts_apply (u : FVec Ideal S64x512x512 .f32) (b : Fin 64) (j : Fin 8) (n : Fin 512) :
    lasts u (ix3 b j n) = u (ix3 b ⟨504 + j.val, by omega⟩ n) := by
  pointwise [lasts]
  try rfl

/-! ## The arrays -/

theorem row_split (r : Fin 32768) : r = at_ ⟨r.val / 8192, by omega⟩ ⟨r.val % 8192, Nat.mod_lt _ (by decide)⟩ := Fin.ext (by
  show r.val = r.val / 8192 * 8192 + r.val % 8192
  omega)

/-- The sequences behind their zeros, at a row of the convolution. -/
theorem led_vals (z : FVec Ideal S32768x6400 .f32) (j k : ℕ) (hjk : k + j = 2) (r : Fin 32768) (n : Fin 512) (l : k + r.val % 8192 < 8194) :
    led (bySequence (vals z)) (ix3 ⟨r.val / 8192, by omega⟩ ⟨k + r.val % 8192, l⟩ n) = back (products z) j r n := by
  rw [led_apply]
  unfold back
  by_cases h : r.val % 8192 < j
  · rw [dif_pos (by dsimp only; omega), if_pos h]
  · rw [dif_neg (by dsimp only; omega), if_neg h, bySequence_apply, vals_apply]
    refine congrArg (fun a => products z a n) (Fin.ext ?_)
    show r.val / 8192 * 8192 + (k + r.val % 8192 - 2) = r.val - j
    omega

theorem back_zero (v : Fin 32768 → Fin 512 → EReal) (r : Fin 32768) (n : Fin 512) : back v 0 r n = v r n := if_neg (Nat.not_lt_zero _)

theorem out0_apply (z : FVec Ideal S32768x6400 .f32) (w : FVec Ideal S3x512 .f32) (r : Fin 32768) (n : Fin 512) : out0 z w (ix2 r n) = convolved z w r n := by
  unfold out0 convolved conv
  rw [gated_apply]
  refine congrArg _ ((shapeCast_apply _ shapeCasts_S4x8192x512_S32768x512 _
    (ix3 (⟨r.val / 8192, by omega⟩ : Fin 4) (⟨r.val % 8192, Nat.mod_lt _ (by decide)⟩ : Fin 8192) n) ?_).trans ?_)
  · rw [Shape.rowMajor_val_two, Shape.rowMajor_val_three]
    show (r.val / 8192 * 8192 + r.val % 8192) * 512 + n.val = r.val * 512 + n.val
    omega
  · rw [sum3_apply, led_vals z 2 0 rfl, led_vals z 1 1 rfl, led_vals z 0 2 rfl, back_zero, tap0_apply, tap1_apply, tap2_apply]

theorem cos_at (p : IVec S8192 32) (r : Fin 32768) : (fun y : Fin 16 => table (cosOf p) (ix4 0 ⟨r.val % 8192, Nat.mod_lt _ (by decide)⟩ 0 y)) = cosAt p r :=
  funext fun y => table_apply _ _ y
theorem sin_at (p : IVec S8192 32) (r : Fin 32768) : (fun y : Fin 16 => table (sinOf p) (ix4 0 ⟨r.val % 8192, Nat.mod_lt _ (by decide)⟩ 0 y)) = sinAt p r :=
  funext fun y => table_apply _ _ y

theorem heads_row (z : FVec Ideal S32768x6400 .f32) (r : Fin 32768) (h : Fin 8) :
    (fun n : Fin 128 => heads z (ix4 ⟨r.val / 8192, by omega⟩ ⟨r.val % 8192, Nat.mod_lt _ (by decide)⟩ h n)) = headOf z r h := by
  funext n
  rw [heads_apply, ← row_split]

theorem out1_apply (z : FVec Ideal S32768x6400 .f32) (p : IVec S8192 32) (gn : FVec Ideal S64 .f32) (gr : FVec Ideal S32 .f32)
    (r : Fin 32768) (h : Fin 8) (n : Fin 128) : out1 z p gn gr (ix2 r ⟨h.val * 128 + n.val, by omega⟩) = queries z p gn gr r h n := by
  unfold out1
  refine (show _ = (shapeCast S32768x1024 (join _ _ _) shapeCasts_S4x8192x8x128_S32768x1024 : FVec Ideal S32768x1024 .f32) _ from rfl).trans
    ((shapeCast_apply _ shapeCasts_S4x8192x8x128_S32768x1024 _
      (ix4 (⟨r.val / 8192, by omega⟩ : Fin 4) (⟨r.val % 8192, Nat.mod_lt _ (by decide)⟩ : Fin 8192) h n) ?_).trans ?_)
  · rw [Shape.rowMajor_val_two, Shape.rowMajor_val_four]
    show ((r.val / 8192 * 8192 + r.val % 8192) * 8 + h.val) * 128 + n.val = r.val * 1024 + (h.val * 128 + n.val)
    omega
  · rw [join_apply]
    simp only [norm64_apply, lows_apply, rotQ_apply, norm32_apply, mids_apply, zeros_apply, heads_row, cos_at, sin_at]
    rfl

theorem out2_apply (z : FVec Ideal S32768x6400 .f32) (g : FVec Ideal S256 .f32) (r : Fin 32768) (n : Fin 256) : out2 z g (ix2 r n) = latent z g r n := by
  unfold out2 latent
  rw [norm256_apply]
  have h : ∀ y : Fin 256, (extractStridedSlice S32768x256 ![0, 6144] z slices_S32768x6400_S32768x256_0_6144 : FVec Ideal S32768x256 .f32) (ix2 r y)
      = z (ix2 r ⟨6144 + y.val, by omega⟩) := fun y => by
    pointwise []
    try rfl
  simp only [h]

/-- The keys' rows by sequences. -/
theorem keys_row (x : FVec Ideal S32768x32 .f32) (r : Fin 32768) (n : Fin 32) :
    (shapeCast _ x shapeCasts_S32768x32_S4x8192x1x32 : FVec Ideal S4x8192x1x32 .f32) (ix4 ⟨r.val / 8192, by omega⟩ ⟨r.val % 8192, Nat.mod_lt _ (by decide)⟩ 0 n) = x (ix2 r n) := by
  refine shapeCast_apply _ shapeCasts_S32768x32_S4x8192x1x32 _ _ ?_
  rw [Shape.rowMajor_val_two, Shape.rowMajor_val_four]
  show r.val * 32 + n.val = ((r.val / 8192 * 8192 + r.val % 8192) * 1 + 0) * 32 + n.val
  omega

theorem out3_apply (e : FVec Ideal S32768x32 .f32) (p : IVec S8192 32) (g : FVec Ideal S32 .f32) (r : Fin 32768) (n : Fin 128) :
    out3 e p g (ix2 r n) = keyRow e p g r n := by
  unfold out3 keyRow keyPart
  rw [apart_apply]
  refine congrArg (fun f => shifted f n) (funext fun y => ?_)
  refine (shapeCast_apply _ shapeCasts_S4x8192x1x32_S32768x32 _
    (ix4 (⟨r.val / 8192, by omega⟩ : Fin 4) (⟨r.val % 8192, Nat.mod_lt _ (by decide)⟩ : Fin 8192) (0 : Fin 1) y) ?_).trans ?_
  · rw [Shape.rowMajor_val_two, Shape.rowMajor_val_four]
    show ((r.val / 8192 * 8192 + r.val % 8192) * 1 + 0) * 32 + y.val = r.val * 32 + y.val
    omega
  · rw [rotK_apply]
    simp only [keys_row, normRow_apply, cos_at, sin_at]

theorem out4_apply (z : FVec Ideal S32768x6400 .f32) (b : Fin 64) (j : Fin 8) (n : Fin 512) : out4 z (ix3 b j n) = tailAt z b.val j.val n.val := by
  unfold out4 tailAt
  rw [lasts_apply]
  refine (shapeCast_apply _ shapeCasts_S32768x512_S64x512x512 _ (ix2 (⟨b.val * 512 + (504 + j.val), by omega⟩ : Fin 32768) n) ?_).trans ?_
  · rw [Shape.rowMajor_val_two, Shape.rowMajor_val_three]
    rfl
  · rw [vals_apply]
    congr 1 <;> refine Fin.ext ?_ <;> dsimp only <;> omega

theorem out0_eq (z : FVec Ideal S32768x6400 .f32) (w : FVec Ideal S3x512 .f32) : out0 z w = fun i => rowAt (w := 512) (by decide) (convolved z w) (i 0).val (i 1).val := by
  funext i
  have hi : i = ix2 (i 0) (i 1) := by
    funext a
    match a with
    | ⟨0, _⟩ => rfl
    | ⟨1, _⟩ => rfl
  exact (congrArg _ hi).trans ((out0_apply z w _ _).trans (rowAt_eq (w := 512) (by decide) (convolved z w) (i 0) (i 1)).symm)

theorem out1_eq (z : FVec Ideal S32768x6400 .f32) (p : IVec S8192 32) (gn : FVec Ideal S64 .f32) (gr : FVec Ideal S32 .f32) :
    out1 z p gn gr = fun i => headAt (w := 128) (by decide) (queries z p gn gr) (i 0).val (i 1).val := by
  funext i
  have h1 : (i 1).val < 1024 := (i 1).isLt
  have hi : i = ix2 (i 0) (⟨(⟨(i 1).val / 128, by omega⟩ : Fin 8).val * 128 + (⟨(i 1).val % 128, by omega⟩ : Fin 128).val, by dsimp only; omega⟩ : Fin 1024) := by
    funext a
    apply Fin.ext
    match a with
    | ⟨0, _⟩ => rfl
    | ⟨1, _⟩ => show (i 1).val = (i 1).val / 128 * 128 + (i 1).val % 128; omega
  refine (congrArg _ hi).trans ((out1_apply z p gn gr _ _ _).trans ((headAt_eq (by decide) _ _ _ _).symm.trans ?_))
  congr 1
  dsimp only
  omega

theorem out2_eq (z : FVec Ideal S32768x6400 .f32) (g : FVec Ideal S256 .f32) : out2 z g = fun i => rowAt (w := 256) (by decide) (latent z g) (i 0).val (i 1).val := by
  funext i
  have hi : i = ix2 (i 0) (i 1) := by
    funext a
    match a with
    | ⟨0, _⟩ => rfl
    | ⟨1, _⟩ => rfl
  exact (congrArg _ hi).trans ((out2_apply z g _ _).trans (rowAt_eq (w := 256) (by decide) (latent z g) (i 0) (i 1)).symm)

theorem out3_eq (e : FVec Ideal S32768x32 .f32) (p : IVec S8192 32) (g : FVec Ideal S32 .f32) :
    out3 e p g = fun i => rowAt (w := 128) (by decide) (keyRow e p g) (i 0).val (i 1).val := by
  funext i
  have hi : i = ix2 (i 0) (i 1) := by
    funext a
    match a with
    | ⟨0, _⟩ => rfl
    | ⟨1, _⟩ => rfl
  exact (congrArg _ hi).trans ((out3_apply e p g _ _).trans (rowAt_eq (w := 128) (by decide) (keyRow e p g) (i 0) (i 1)).symm)

theorem out4_eq (z : FVec Ideal S32768x6400 .f32) : out4 z = fun i => tailAt z (i 0).val (i 1).val (i 2).val := by
  funext i
  have hi : i = ix3 (i 0) (i 1) (i 2) := by
    funext a
    match a with
    | ⟨0, _⟩ => rfl
    | ⟨1, _⟩ => rfl
    | ⟨2, _⟩ => rfl
  exact (congrArg _ hi).trans (out4_apply z (i 0) (i 1) (i 2))

end Cert.PrepRefIdeal.Read
-- ==== Proof.PrepClaims.lean ====
/- The value claim of the preparation: kernel and reference leave the same five arrays. -/
module

public import proofs.«01_k».proof.Defs
public import proofs.«01_k».proof.Proof.PrepRefRead
public import Idealize.ShloMosaic.Adequacy
public import Idealize.ShloMosaic.Init

@[expose] public section

set_option maxRecDepth 16384

noncomputable section

namespace Cert.PrepClaims

open Idealize.ShloMosaic Idealize.SL.Sem

attribute [local instance] Cert.PrepIdeal.Gen.facts Cert.PrepRefIdeal.Gen.facts

/-- The kernel's five result arrays and the reference's are the same. -/
theorem algebraic : Cert.algebraic_PrepIdeal_PrepRefIdeal := by
  intro m g m' g' _ hagree
  refine ⟨_, _, _, _, _, (θ_run Cert.PrepIdeal.defs _ _).mono (fun r h c => ⟨(h c).1.trans (Cert.PrepIdeal.Blocks.array14 m c),
        (h c).2.1.trans (Cert.PrepIdeal.Blocks.array15 m c), (h c).2.2.1.trans (Cert.PrepIdeal.Blocks.array16 m c),
        (h c).2.2.2.1.trans (Cert.PrepIdeal.Blocks.array17 m c), (h c).2.2.2.2.1.trans (Cert.PrepIdeal.Blocks.array18 m c), (h c).2.2.2.2.2⟩)
      (Cert.PrepIdeal.Value.run_blocks (F := Ideal) m g), ?_⟩
  refine (θ_run Cert.PrepRefIdeal.defs _ _).mono (fun r h c => ⟨(h c).1.trans ?_, (h c).2.1.trans ?_, (h c).2.2.1.trans ?_, (h c).2.2.2.1.trans ?_,
        (h c).2.2.2.2.1.trans ?_, (h c).2.2.2.2.2⟩)
      (Cert.PrepRefIdeal.Value.run (F := Ideal) m' g')
  all_goals obtain ⟨a0, a1, a2, a3, a4, a5, a6, a7⟩ := hagree c
  · show Cert.PrepRefIdeal.Read.out0 (m' ((c.tc : Thread Cert.PrepRefIdeal.nD Cert.PrepRefIdeal.τ).loc Cert.PrepRefIdeal.main_arg0))
      (m' ((c.tc : Thread Cert.PrepRefIdeal.nD Cert.PrepRefIdeal.τ).loc Cert.PrepRefIdeal.main_arg3)) = _
    rw [a0, a3]
    exact Cert.PrepRefIdeal.Read.out0_eq _ _
  · show Cert.PrepRefIdeal.Read.out1 (m' ((c.tc : Thread Cert.PrepRefIdeal.nD Cert.PrepRefIdeal.τ).loc Cert.PrepRefIdeal.main_arg0))
      (m' ((c.tc : Thread Cert.PrepRefIdeal.nD Cert.PrepRefIdeal.τ).loc Cert.PrepRefIdeal.main_arg2))
      (m' ((c.tc : Thread Cert.PrepRefIdeal.nD Cert.PrepRefIdeal.τ).loc Cert.PrepRefIdeal.main_arg4))
      (m' ((c.tc : Thread Cert.PrepRefIdeal.nD Cert.PrepRefIdeal.τ).loc Cert.PrepRefIdeal.main_arg5)) = _
    rw [a0, a2, a4, a5]
    exact Cert.PrepRefIdeal.Read.out1_eq _ _ _ _
  · show Cert.PrepRefIdeal.Read.out2 (m' ((c.tc : Thread Cert.PrepRefIdeal.nD Cert.PrepRefIdeal.τ).loc Cert.PrepRefIdeal.main_arg0))
      (m' ((c.tc : Thread Cert.PrepRefIdeal.nD Cert.PrepRefIdeal.τ).loc Cert.PrepRefIdeal.main_arg7)) = _
    rw [a0, a7]
    exact Cert.PrepRefIdeal.Read.out2_eq _ _
  · show Cert.PrepRefIdeal.Read.out3 (m' ((c.tc : Thread Cert.PrepRefIdeal.nD Cert.PrepRefIdeal.τ).loc Cert.PrepRefIdeal.main_arg1))
      (m' ((c.tc : Thread Cert.PrepRefIdeal.nD Cert.PrepRefIdeal.τ).loc Cert.PrepRefIdeal.main_arg2))
      (m' ((c.tc : Thread Cert.PrepRefIdeal.nD Cert.PrepRefIdeal.τ).loc Cert.PrepRefIdeal.main_arg6)) = _
    rw [a1, a2, a6]
    exact Cert.PrepRefIdeal.Read.out3_eq _ _ _
  · show Cert.PrepRefIdeal.Read.out4 (m' ((c.tc : Thread Cert.PrepRefIdeal.nD Cert.PrepRefIdeal.τ).loc Cert.PrepRefIdeal.main_arg0)) = _
    rw [a0]
    exact Cert.PrepRefIdeal.Read.out4_eq _

/-- The reference ends with its arguments as they were and every semaphore at zero. -/
theorem frame_ri : Cert.quiescent_PrepRefIdeal := fun m ρ _ =>
  (θ_run Cert.PrepRefIdeal.defs _ _).mono (fun r h => ⟨fun c => (h c).2.2.2.2.2, sem_eq_zero_of_no_sems (by decide) r.2⟩)
    (Cert.PrepRefIdeal.Value.run (F := Ideal) m ρ)

end Cert.PrepClaims
-- ==== Proof.lean ====
module

public import proofs.«01_k».proof.Defs
public import proofs.«01_k».proof.Proof.Gen.Flash
public import proofs.«01_k».proof.Proof.Gen.Flash.Skeleton
public import proofs.«01_k».proof.Proof.Gen.Flash.Launch
public import proofs.«01_k».proof.Proof.Gen.Flash.Points
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Launch
public import proofs.«01_k».proof.Proof.Gen.FlashIdeal.Points
public import proofs.«01_k».proof.Proof.Gen.FlashIdeal.Frame
public import proofs.«01_k».proof.Proof.Gen.FlashIdeal.Value
public import proofs.«01_k».proof.Proof.Gen.FlashRefIdeal
public import proofs.«01_k».proof.Proof.Gen.FlashRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Keys
public import proofs.«01_k».proof.Proof.Gen.Keys.Skeleton
public import proofs.«01_k».proof.Proof.Gen.Keys.Launch
public import proofs.«01_k».proof.Proof.Gen.Keys.Points
public import proofs.«01_k».proof.Proof.Gen.Keys.Frame
public import proofs.«01_k».proof.Proof.Gen.KeysIdeal
public import proofs.«01_k».proof.Proof.Gen.KeysIdeal.Skeleton
public import proofs.«01_k».proof.Proof.Gen.KeysIdeal.Launch
public import proofs.«01_k».proof.Proof.Gen.KeysIdeal.Points
public import proofs.«01_k».proof.Proof.Gen.KeysIdeal.Frame
public import proofs.«01_k».proof.Proof.Gen.KeysIdeal.Value
public import proofs.«01_k».proof.Proof.Gen.KeysRefIdeal
public import proofs.«01_k».proof.Proof.Gen.KeysRefIdeal.Run
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.Pre_finite
public import proofs.«01_k».proof.Proof.FlashClaims
public import proofs.«01_k».proof.Proof.ProjClaims
public import proofs.«01_k».proof.Proof.MergeClaims
public import proofs.«01_k».proof.Proof.KeysClaims
public import proofs.«01_k».proof.Proof.PrepClaims
public import Idealize.ShloMosaic.Adequacy
public import Idealize.ShloMosaic.Init

@[expose] public section

noncomputable section

namespace Cert.Proof

open Idealize.ShloMosaic Idealize.SL.Sem Cert.Flash

/-- The certificate's claims. -/
theorem claim : Cert.Claim :=
  ⟨Cert.Flash.Gen.facts, Cert.FlashIdeal.Gen.facts, Cert.FlashRefIdeal.Gen.facts,
    Cert.Proj.Gen.facts, Cert.ProjIdeal.Gen.facts, Cert.ProjRefIdeal.Gen.facts,
    Cert.Merge.Gen.facts, Cert.MergeIdeal.Gen.facts, Cert.MergeRefIdeal.Gen.facts,
    Cert.Keys.Gen.facts, Cert.KeysIdeal.Gen.facts, Cert.KeysRefIdeal.Gen.facts,
    Cert.Prep.Gen.facts, Cert.PrepIdeal.Gen.facts, Cert.PrepRefIdeal.Gen.facts, Cert.Pre_finite.Gen.facts,
    fun m ρ _ => Cert.Flash.Gen.frame m ρ,
    fun m ρ _ => Cert.FlashIdeal.Gen.frame m ρ,
    fun m ρ _ => Cert.FlashIdeal.Gen.frame m ρ,
    Cert.FlashClaims.frame_ri,
    fun m ρ _ => Cert.FlashClaims.frame_ri m ρ trivial,
    fun m ρ _ => Cert.Proj.Gen.frame m ρ,
    fun m ρ _ => Cert.ProjIdeal.Gen.frame m ρ,
    Cert.ProjClaims.frame_ri,
    fun m ρ _ => Cert.Merge.Gen.frame m ρ,
    fun m ρ _ => Cert.MergeIdeal.Gen.frame m ρ,
    Cert.MergeClaims.frame_ri,
    fun m ρ _ => Cert.Keys.Gen.frame m ρ,
    fun m ρ _ => Cert.KeysIdeal.Gen.frame m ρ,
    Cert.KeysClaims.frame_ri,
    fun m ρ _ => Cert.Prep.Gen.frame m ρ,
    fun m ρ _ => Cert.PrepIdeal.Gen.frame m ρ,
    Cert.PrepClaims.frame_ri,
    ⟨IdealRules.named_const.statement Cert.FlashIdeal.κ "mask" .f32 0xF149F2CA#32 ⊥ rfl,
      IdealRules.named_const.statement Cert.FlashIdeal.κ "scale" .f32 0x3DD105EC#32 (((Real.sqrt 96)⁻¹ : ℝ) : EReal) rfl⟩,
    Cert.FlashClaims.algebraic,
    trivial,
    Cert.ProjClaims.algebraic,
    trivial,
    Cert.MergeClaims.algebraic,
    trivial,
    Cert.KeysClaims.algebraic,
    trivial,
    Cert.PrepClaims.algebraic⟩

end Cert.Proof

end
